-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v29) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  IdealRules.named_const.Statement Cert.Kernel12Ideal.κ "mask" .f32 0xF149F2CA#32 ⊥

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v39_0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v39_0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v31) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts) (hPre_finite5 : Cert.Pre_finite5.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
-- ==== Pre_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1024x2816 .f32) (main_arg3 : FVec F S1024x2816 .f32) (main_arg4 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_v13 main_v16
-- ==== Pre_finite12.lean ====
abbrev S8x4096x64 : Shape := ⟨3, ![8, 4096, 64]⟩
abbrev S8x4096 : Shape := ⟨2, ![8, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn {F : FTy → Type} [FloatOps F] (main_arg0 : FVec F S8x4096x64 .f32) (main_arg1 : FVec F S8x4096x64 .f32) (main_arg2 : FVec F S8x4096x64 .f32) (main_arg3 : FVec F S8x4096 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096 .f32 := Host.absf main_arg3
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  main_v13
-- ==== Pre_finite2.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_arg5 : FVec F S4096x2816 .f32) (main_arg6 : FVec F S4096x2816 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S4096x2816 .f32 := Host.absf main_arg5
  let main_cst_6 : FVec F S_ .f32 := constant S_ .f32 0x7F800000#32
  let main_v20 : FVec F S4096x2816 .f32 := broadcastInDim S4096x2816 ![] bcast_S_S4096x2816 main_cst_6
  let main_v21 : IVec S4096x2816 1 := cmpf .olt main_v19 main_v20
  let main_c_7 : IVec S_ 1 := constantI S_ 1 1#1
  let main_v22 : IVec S_ 1 := (fun x v => Host.reduce IntOp.andi x v reducesTo_S4096x2816_S_d0_1 h_S_) main_v21 main_c_7
  let main_v23 : IVec S_ 1 := andi main_v18 main_v22
  let main_v24 : FVec F S4096x2816 .f32 := Host.absf main_arg6
  let main_cst_8 : FVec F S_ .f32 := constant S_ .f32 0x7F800000#32
  let main_v25 : FVec F S4096x2816 .f32 := broadcastInDim S4096x2816 ![] bcast_S_S4096x2816 main_cst_8
  let main_v26 : IVec S4096x2816 1 := cmpf .olt main_v24 main_v25
  let main_c_9 : IVec S_ 1 := constantI S_ 1 1#1
  let main_v27 : IVec S_ 1 := (fun x v => Host.reduce IntOp.andi x v reducesTo_S4096x2816_S_d0_1 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024x2816 .f32) (main_arg3 : FVec F S1024x2816 .f32) (main_arg4 : FVec F S4096x1024 .f32) (main_arg5 : FVec F S4096x2816 .f32) (main_arg6 : FVec F S4096x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg5 main_arg6 main_v13 main_v16
-- ==== Pre_finite5.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S4096x3072 : S_.BroadcastsInDim S4096x3072 (![] : Fin 0 → Fin S4096x3072.rank)
  reducesTo_S4096x3072_S_d0_1 : S4096x3072.ReducesTo [0, 1] S_

variable [Facts]

def fn_part1 {F : FTy → Type} [FloatOps F] (main_v13 : IVec S_ 1) (main_v16 : IVec S4096x3072 1) : IVec S_ 1 :=
  let main_c_5 : IVec S_ 1 := constantI S_ 1 1#1
  let main_v17 : IVec S_ 1 := (fun x v => Host.reduce IntOp.andi x v reducesTo_S4096x3072_S_d0_1 h_S_) main_v16 main_c_5
  let main_v18 : IVec S_ 1 := andi main_v13 main_v17
  main_v18

def fn {F : FTy → Type} [FloatOps F] (main_arg0 : FVec F S4096x1024 .f32) (main_arg1 : FVec F S1024 .f32) (main_arg2 : FVec F S1024x3072 .f32) (main_arg3 : FVec F S4096x1024 .f32) (main_arg4 : FVec F S4096x3072 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S4096x3072 .f32 := Host.absf main_arg4
  let main_cst_4 : FVec F S_ .f32 := constant S_ .f32 0x7F800000#32
  let main_v15 : FVec F S4096x3072 .f32 := broadcastInDim S4096x3072 ![] bcast_S_S4096x3072 main_cst_4
  let main_v16 : IVec S4096x3072 1 := cmpf .olt main_v14 main_v15
  fn_part1 (F := F) main_v13 main_v16
-- ==== Kernel.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩
abbrev S512x1024 : Shape := ⟨2, ![512, 1024]⟩
abbrev S1x512x704 : Shape := ⟨3, ![1, 512, 704]⟩
abbrev S512x704 : Shape := ⟨2, ![512, 704]⟩

abbrev nBuf : Space → Nat
  | .hbm => 21
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .bf16⟩
  | .hbm, ⟨6, _⟩ => ⟨S4096x2816, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x2816, .f32⟩
  | .hbm, ⟨11, _⟩ => ⟨S4096x4x704, .f32⟩
  | .hbm, ⟨12, _⟩ => ⟨S4x4096x704, .f32⟩
  | .hbm, ⟨13, _⟩ => ⟨S4x4096x704, .bf16⟩
  | .hbm, ⟨14, _⟩ => ⟨S4x704x1024, .f32⟩
  | .hbm, ⟨15, _⟩ => ⟨S4x704x1024, .bf16⟩
  | .hbm, ⟨16, _⟩ => ⟨S4x704x1024, .bf16⟩
  | .hbm, ⟨17, _⟩ => ⟨S4x704x1024, .bf16⟩
  | .hbm, ⟨18, _⟩ => ⟨S4x704x1024, .bf16⟩
  | .hbm, ⟨19, _⟩ => ⟨S4x4096x704, .bf16⟩
  | .hbm, ⟨20, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S704x1024, .f32⟩
  | .local _ .vmem, ⟨21, _⟩ => ⟨S704x1024, .f32⟩
  | .local _ .vmem, ⟨22, _⟩ => ⟨S704x1024, .f32⟩
  | .local _ .vmem, ⟨23, _⟩ => ⟨S1024x1024, .bf16⟩
  | .local _ .vmem, ⟨24, _⟩ => ⟨S1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v109 : BitVec 1 := Scalar.cmpi .eq arg1 c3_i32
  let v110 : BitVec 32 := Scalar.extui v109
  let c0_i32_75 : BitVec 32 := 0#32
  let v111 : BitVec 1 := Scalar.cmpi .ne v110 c0_i32_75
  v111

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4x704x1024 : Shape := ⟨3, ![4, 704, 1024]⟩
abbrev S4096x4x704 : Shape := ⟨3, ![4096, 4, 704]⟩
abbrev S4x4096x704 : Shape := ⟨3, ![4, 4096, 704]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S2816x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S2816x1024, .f32⟩
  | .hbm, ⟨34, _⟩ => ⟨S1024x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S2816x1024, .f32⟩
  | .hbm, ⟨40, _⟩ => ⟨S1024x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4096x2816, .f32⟩
  | .hbm, ⟨50, _⟩ => ⟨S4096x2816, .f32⟩
  | .hbm, ⟨51, _⟩ => ⟨S_, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S4096x2816, .f32⟩
  | .hbm, ⟨71, _⟩ => ⟨S2816x1024, .f32⟩
  | .hbm, ⟨72, _⟩ => ⟨S4x704x1024, .f32⟩
  | .hbm, ⟨73, _⟩ => ⟨S2816x1024, .f32⟩
  | .hbm, ⟨74, _⟩ => ⟨S4x704x1024, .f32⟩
  | .hbm, ⟨75, _⟩ => ⟨S4x704x1024, .f32⟩
  | .hbm, ⟨76, _⟩ => ⟨S4096x4x704, .f32⟩
  | .hbm, ⟨77, _⟩ => ⟨S4x4096x704, .f32⟩
  | .hbm, ⟨78, _⟩ => ⟨S4096x4x704, .f32⟩
  | .hbm, ⟨79, _⟩ => ⟨S4x4096x704, .f32⟩
  | .hbm, ⟨80, _⟩ => ⟨S4x704x1024, .bf16⟩
  | .hbm, ⟨81, _⟩ => ⟨S4x704x1024, .bf16⟩
  | .hbm, ⟨82, _⟩ => ⟨S4x704x1024, .bf16⟩
  | .hbm, ⟨83, _⟩ => ⟨S4x4096x704, .bf16⟩
  | .hbm, ⟨84, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_v21_2 : Ref sig .tc := ⟨.hbm, 50, rfl⟩
abbrev main_call2_cst_1 : Ref sig .tc := ⟨.hbm, 51, rfl⟩
abbrev main_call2_v6 : Ref sig .tc := ⟨.hbm, 52, rfl⟩
abbrev main_call2_v7 : Ref sig .tc := ⟨.hbm, 53, rfl⟩
abbrev main_v21_1 : Ref sig .tc := ⟨.hbm, 54, rfl⟩
abbrev main_v21_0 : Ref sig .tc := ⟨.hbm, 55, rfl⟩
abbrev main_v22 : Ref sig .tc := ⟨.hbm, 56, rfl⟩
abbrev main_v23 : Ref sig .tc := ⟨.hbm, 57, rfl⟩
abbrev main_cst_1 : Ref sig .tc := ⟨.hbm, 58, rfl⟩
abbrev main_v24 : Ref sig .tc := ⟨.hbm, 59, rfl⟩
abbrev main_v25 : Ref sig .tc := ⟨.hbm, 60, rfl⟩
abbrev main_cst_2 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 22
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S2816x1024, .f32⟩
  | .hbm, ⟨17, _⟩ => ⟨S4x704x1024, .f32⟩
  | .hbm, ⟨18, _⟩ => ⟨S4x704x1024, .bf16⟩
  | .hbm, ⟨19, _⟩ => ⟨S1x1024, .f32⟩
  | .hbm, ⟨20, _⟩ => ⟨S4096x1024, .f32⟩
  | .hbm, ⟨21, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_59 : BitVec 32 := 0#32
  let v60 : BitVec 1 := Scalar.cmpi .eq arg1 c0_i32_59
  let v61 : BitVec 32 := Scalar.extui v60
  let c0_i32_60 : BitVec 32 := 0#32
  let v62 : BitVec 1 := Scalar.cmpi .ne v61 c0_i32_60
  v62

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference2Ideal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel3.lean ====
abbrev S4096x8 : Shape := ⟨2, ![4096, 8]⟩
abbrev S8 : Shape := ⟨1, ![8]⟩
abbrev S_ : Shape := ⟨0, ![]⟩
abbrev S4096x128 : Shape := ⟨2, ![4096, 128]⟩
abbrev S1x8 : Shape := ⟨2, ![1, 8]⟩
abbrev S1x128 : Shape := ⟨2, ![1, 128]⟩
abbrev S256x256 : Shape := ⟨2, ![256, 256]⟩
abbrev S256x128 : Shape := ⟨2, ![256, 128]⟩
abbrev S128 : Shape := ⟨1, ![128]⟩

abbrev nBuf : Space → Nat
  | .hbm => 14
  | .vmem => 4
  | .smem => 0
  | _ => 0

abbrev bufTy : (tb : Table) → Fin (tcTables nBuf tb) → BufTy
  | .hbm, ⟨0, _⟩ => ⟨S4096x8, .f32⟩
  | .hbm, ⟨1, _⟩ => ⟨S8, .f32⟩
  | .hbm, ⟨2, _⟩ => ⟨S4096x8, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S1x8, .f32⟩
  | .hbm, ⟨7, _⟩ => ⟨S4096x8, .f32⟩
  | .hbm, ⟨8, _⟩ => ⟨S4096x8, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S4096x128, .f32⟩
  | .hbm, ⟨13, _⟩ => ⟨S1x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S1x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c15_i32 : BitVec 32 := 15#32
  let c0_i32 : BitVec 32 := 0#32
  let c1_i32 : BitVec 32 := 1#32
  let arg4 : BitVec 32 := Scf.iv c0_i32 c1_i32 k0_t1
  let v10 : BitVec 32 := Scalar.subi c15_i32 arg4
  let c256_i32 : BitVec 32 := 256#32
  let v11 : BitVec 32 := Scalar.muli v10 c256_i32
  v11
def k0_off1 (k0_t1 : Fin k0_t1_loop.trips) : Fin 2 → Nat :=
  let c15_i32 : BitVec 32 := 15#32
  let c0_i32 : BitVec 32 := 0#32
  let c1_i32 : BitVec 32 := 1#32
  let arg4 : BitVec 32 := Scf.iv c0_i32 c1_i32 k0_t1
  let v10 : BitVec 32 := Scalar.subi c15_i32 arg4
  let c256_i32 : BitVec 32 := 256#32
  let v11 : BitVec 32 := Scalar.muli v10 c256_i32
  let v12 : BitVec 32 := v11
  let v13 : Index := Scalar.indexCast v12
  let c0_3 : Index := 0#32
  ![v13.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference3Ideal.lean ====
abbrev S4096x8 : Shape := ⟨2, ![4096, 8]⟩
abbrev S8 : Shape := ⟨1, ![8]⟩
abbrev S1x8 : Shape := ⟨2, ![1, 8]⟩
abbrev S_ : Shape := ⟨0, ![]⟩
abbrev S4096x128 : Shape := ⟨2, ![4096, 128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S8, .f32⟩
  | .hbm, ⟨2, _⟩ => ⟨S4096x8, .f32⟩
  | .hbm, ⟨3, _⟩ => ⟨S1x8, .f32⟩
  | .hbm, ⟨4, _⟩ => ⟨S4096x8, .f32⟩
  | .hbm, ⟨5, _⟩ => ⟨S4096x8, .f32⟩
  | .hbm, ⟨6, _⟩ => ⟨S4096x8, .f32⟩
  | .hbm, ⟨7, _⟩ => ⟨S_, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S4096x8, .f32⟩
  | .hbm, ⟨12, _⟩ => ⟨S4096x8, .i1⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S_, .f32⟩
  | .hbm, ⟨22, _⟩ => ⟨S4096x8, .f32⟩
  | .hbm, ⟨23, _⟩ => ⟨S4096x8, .i1⟩
  | .hbm, ⟨24, _⟩ => ⟨S_, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S4096x8, .f32⟩
  | .hbm, ⟨29, _⟩ => ⟨S4096x8, .i1⟩
  | .hbm, ⟨30, _⟩ => ⟨S_, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x8, .f32⟩
  | .hbm, ⟨43, _⟩ => ⟨S4096x8, .i1⟩
  | .hbm, ⟨44, _⟩ => ⟨S_, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S4096x8, .f32⟩
  | .hbm, ⟨50, _⟩ => ⟨S_, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S_, .f32⟩
  | .hbm, ⟨55, _⟩ => ⟨S_, .f32⟩
  | .hbm, ⟨56, _⟩ => ⟨S4096x8, .f32⟩
  | .hbm, ⟨57, _⟩ => ⟨S_, .f32⟩
  | .hbm, ⟨58, _⟩ => ⟨S_, .f32⟩
  | .hbm, ⟨59, _⟩ => ⟨S4096x8, .f32⟩
  | .hbm, ⟨60, _⟩ => ⟨S4096x8, .f32⟩
  | .hbm, ⟨61, _⟩ => ⟨S4096x8, .f32⟩
  | .hbm, ⟨62, _⟩ => ⟨S4096x8, .f32⟩
  | .hbm, ⟨63, _⟩ => ⟨S_, .f32⟩
  | .hbm, ⟨64, _⟩ => ⟨S8, .f32⟩
  | .hbm, ⟨65, _⟩ => ⟨S1x8, .f32⟩
  | .hbm, ⟨66, _⟩ => ⟨S_, .f32⟩
  | .hbm, ⟨67, _⟩ => ⟨S8, .f32⟩
  | .hbm, ⟨68, _⟩ => ⟨S_, .i32⟩
  | .hbm, ⟨69, _⟩ => ⟨S_, .f32⟩
  | .hbm, ⟨70, _⟩ => ⟨S4096x128, .f32⟩
  | .hbm, ⟨71, _⟩ => ⟨S1x8, .f32⟩
  | .hbm, ⟨72, _⟩ => ⟨S_, .i32⟩
  | .hbm, ⟨73, _⟩ => ⟨S_, .f32⟩
  | .hbm, ⟨74, _⟩ => ⟨S1x128, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_call2_call0_cst : Ref sig .tc := ⟨.hbm, 57, rfl⟩
abbrev main_call2_call0_v0 : Ref sig .tc := ⟨.hbm, 58, rfl⟩
abbrev main_v5 : Ref sig .tc := ⟨.hbm, 59, rfl⟩
abbrev main_call3_v0 : Ref sig .tc := ⟨.hbm, 60, rfl⟩
abbrev main_call3_v1 : Ref sig .tc := ⟨.hbm, 61, rfl⟩
abbrev main_v6 : Ref sig .tc := ⟨.hbm, 62, rfl⟩
abbrev main_cst : Ref sig .tc := ⟨.hbm, 63, rfl⟩
abbrev main_v7 : Ref sig .tc := ⟨.hbm, 64, rfl⟩
abbrev main_v8 : Ref sig .tc := ⟨.hbm, 65, rfl⟩
abbrev main_cst_0 : Ref sig .tc := ⟨.hbm, 66, rfl⟩
abbrev main_v9 : Ref sig .tc := ⟨.hbm, 67, rfl⟩
abbrev main_c : Ref sig .tc := ⟨.hbm, 68, rfl⟩
abbrev main_call4_v0 : Ref sig .tc := ⟨.hbm, 69, rfl⟩
abbrev main_v10 : Ref sig .tc := ⟨.hbm, 70, rfl⟩
abbrev main_v11 : Ref sig .tc := ⟨.hbm, 71, rfl⟩
abbrev main_c_1 : Ref sig .tc := ⟨.hbm, 72, rfl⟩
abbrev main_call5_v0 : Ref sig .tc := ⟨.hbm, 73, rfl⟩
abbrev main_v12 : Ref sig .tc := ⟨.hbm, 74, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x4096x704 : Shape := ⟨3, ![4, 4096, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 18
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S4096x1024, .f32⟩
  | .hbm, ⟨15, _⟩ => ⟨S4096x1024, .bf16⟩
  | .hbm, ⟨16, _⟩ => ⟨S4x4096x704, .bf16⟩
  | .hbm, ⟨17, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_74 : BitVec 32 := 0#32
  let v97 : BitVec 1 := Scalar.cmpi .eq arg1 c0_i32_74
  let v98 : BitVec 32 := Scalar.extui v97
  let c0_i32_75 : BitVec 32 := 0#32
  let v99 : BitVec 1 := Scalar.cmpi .ne v98 c0_i32_75
  v99

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4096x2816, .f32⟩
  | .hbm, ⟨40, _⟩ => ⟨S4096x4x704, .f32⟩
  | .hbm, ⟨41, _⟩ => ⟨S4x4096x704, .f32⟩
  | .hbm, ⟨42, _⟩ => ⟨S4x4096x704, .bf16⟩
  | .hbm, ⟨43, _⟩ => ⟨S4096x2816, .f32⟩
  | .hbm, ⟨44, _⟩ => ⟨S4096x4x704, .f32⟩
  | .hbm, ⟨45, _⟩ => ⟨S4x4096x704, .f32⟩
  | .hbm, ⟨46, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S1x4096x3072 : Shape := ⟨3, ![1, 4096, 3072]⟩
abbrev S1x1024x3072 : Shape := ⟨3, ![1, 1024, 3072]⟩
abbrev S1x1024 : Shape := ⟨2, ![1, 1024]⟩
abbrev S1x512x3072 : Shape := ⟨3, ![1, 512, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S4096x3072, .bf16⟩
  | .hbm, ⟨6, _⟩ => ⟨S1x4096x3072, .bf16⟩
  | .hbm, ⟨7, _⟩ => ⟨S1024x3072, .bf16⟩
  | .hbm, ⟨8, _⟩ => ⟨S1x1024x3072, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S1x512x3072, .bf16⟩
  | .local _ .vmem, ⟨1, _⟩ => ⟨S1x512x3072, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_13 : BitVec 32 := 0#32
  let v18 : BitVec 1 := Scalar.cmpi .eq arg1 c0_i32_13
  let v19 : BitVec 32 := Scalar.extui v18
  let c0_i32_14 : BitVec 32 := 0#32
  let v20 : BitVec 1 := Scalar.cmpi .ne v19 c0_i32_14
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference5Ideal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S4096x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel6.lean ====
abbrev S4096x1024 : Shape := ⟨2, ![4096, 1024]⟩
abbrev S1024x3072 : Shape := ⟨2, ![1024, 3072]⟩
abbrev S4096x3072 : Shape := ⟨2, ![4096, 3072]⟩
abbrev S4x1024x768 : Shape := ⟨3, ![4, 1024, 768]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x1024, .bf16⟩
  | .hbm, ⟨4, _⟩ => ⟨S4096x3072, .bf16⟩
  | .hbm, ⟨5, _⟩ => ⟨S4x1024x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S1024x3072 : Shape := ⟨2, ![1024, 3072]⟩
abbrev S4096x3072 : Shape := ⟨2, ![4096, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S1024x4x768, .f32⟩
  | .hbm, ⟨7, _⟩ => ⟨S4x1024x768, .f32⟩
  | .hbm, ⟨8, _⟩ => ⟨S4x1024x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x3072 : Shape := ⟨2, ![1024, 3072]⟩
abbrev S1x1024 : Shape := ⟨2, ![1, 1024]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S4096x1024, .bf16⟩
  | .hbm, ⟨6, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x3072, .f32⟩
  | .hbm, ⟨21, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S4096x3072 : Shape := ⟨2, ![4096, 3072]⟩
abbrev S3x1024 : Shape := ⟨2, ![3, 1024]⟩
abbrev S_ : Shape := ⟨0, ![]⟩
abbrev S8x1024 : Shape := ⟨2, ![8, 1024]⟩
abbrev S4096x1024 : Shape := ⟨2, ![4096, 1024]⟩
abbrev S512x1024 : Shape := ⟨2, ![512, 1024]⟩
abbrev S16x1024 : Shape := ⟨2, ![16, 1024]⟩
abbrev S528x1024 : Shape := ⟨2, ![528, 1024]⟩
abbrev S1x1024 : Shape := ⟨2, ![1, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x3072, .bf16⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S8x1024, .f32⟩
  | .local _ .vmem, ⟨11, _⟩ => ⟨S512x1024, .bf16⟩
  | .local _ .vmem, ⟨12, _⟩ => ⟨S512x1024, .bf16⟩
  | .local _ .vmem, ⟨13, _⟩ => ⟨S528x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .i32⟩
  | .hbm, ⟨7, _⟩ => ⟨S_, .f32⟩
  | .hbm, ⟨8, _⟩ => ⟨S4098x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | .hbm, ⟨7, _⟩ => ⟨S1x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8x4096x64 : Shape := ⟨3, ![8, 4096, 64]⟩
abbrev S8x4096 : Shape := ⟨2, ![8, 4096]⟩
abbrev S_ : Shape := ⟨0, ![]⟩
abbrev S8x4096x1 : Shape := ⟨3, ![8, 4096, 1]⟩
abbrev S8x4096x70 : Shape := ⟨3, ![8, 4096, 70]⟩
abbrev S8x4096x128 : Shape := ⟨3, ![8, 4096, 128]⟩
abbrev S8x4096x73 : Shape := ⟨3, ![8, 4096, 73]⟩
abbrev S8x4096x67 : Shape := ⟨3, ![8, 4096, 67]⟩
abbrev S1x1024x128 : Shape := ⟨3, ![1, 1024, 128]⟩
abbrev S1x4096x128 : Shape := ⟨3, ![1, 4096, 128]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 53
  | .vmem => 10
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S_, .f32⟩
  | .hbm, ⟨5, _⟩ => ⟨S8x4096, .f32⟩
  | .hbm, ⟨6, _⟩ => ⟨S8x4096, .bf16⟩
  | .hbm, ⟨7, _⟩ => ⟨S8x4096, .f32⟩
  | .hbm, ⟨8, _⟩ => ⟨S8x4096, .f32⟩
  | .hbm, ⟨9, _⟩ => ⟨S8x4096, .bf16⟩
  | .hbm, ⟨10, _⟩ => ⟨S8x4096, .f32⟩
  | .hbm, ⟨11, _⟩ => ⟨S8x4096, .f32⟩
  | .hbm, ⟨12, _⟩ => ⟨S_, .f32⟩
  | .hbm, ⟨13, _⟩ => ⟨S8x4096x64, .f32⟩
  | .hbm, ⟨14, _⟩ => ⟨S8x4096x64, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x70, .f32⟩
  | .hbm, ⟨22, _⟩ => ⟨S_, .i32⟩
  | .hbm, ⟨23, _⟩ => ⟨S_, .f32⟩
  | .hbm, ⟨24, _⟩ => ⟨S8x4096x128, .f32⟩
  | .hbm, ⟨25, _⟩ => ⟨S8x4096x128, .bf16⟩
  | .hbm, ⟨26, _⟩ => ⟨S8x4096, .f32⟩
  | .hbm, ⟨27, _⟩ => ⟨S8x4096, .f32⟩
  | .hbm, ⟨28, _⟩ => ⟨S8x4096, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x73, .f32⟩
  | .hbm, ⟨39, _⟩ => ⟨S_, .i32⟩
  | .hbm, ⟨40, _⟩ => ⟨S_, .f32⟩
  | .hbm, ⟨41, _⟩ => ⟨S8x4096x128, .f32⟩
  | .hbm, ⟨42, _⟩ => ⟨S8x4096x128, .bf16⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x67, .f32⟩
  | .hbm, ⟨47, _⟩ => ⟨S_, .i32⟩
  | .hbm, ⟨48, _⟩ => ⟨S_, .f32⟩
  | .hbm, ⟨49, _⟩ => ⟨S8x4096x128, .f32⟩
  | .hbm, ⟨50, _⟩ => ⟨S8x4096x128, .bf16⟩
  | .hbm, ⟨51, _⟩ => ⟨S8x4096x128, .bf16⟩
  | .hbm, ⟨52, _⟩ => ⟨S8x4096x128, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_call1_v0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_call2_v0 : Ref sig .tc := ⟨.hbm, 48, rfl⟩
abbrev main_v37 : Ref sig .tc := ⟨.hbm, 49, rfl⟩
abbrev main_v38 : Ref sig .tc := ⟨.hbm, 50, rfl⟩
abbrev main_v39_0 : Ref sig .tc := ⟨.hbm, 51, rfl⟩
abbrev main_v39_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_3 : BitVec 32 := 1#32
  ⟨c0_i32, v8, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c1024_i32_25 : BitVec 32 := 1024#32
  let v87 : BitVec 32 := Scalar.muli arg7 c1024_i32_25
  v87
def k0_off1 (i : grid0.Coords) (k0_t1 : Fin (k0_t1_loop i).trips) : Fin 3 → Nat :=
  let c0_26 : Index := 0#32
  let c0_i32 : BitVec 32 := 0#32
  let c1_i32_3 : BitVec 32 := 1#32
  let arg7 : BitVec 32 := Scf.iv c0_i32 c1_i32_3 k0_t1
  let c1024_i32_25 : BitVec 32 := 1024#32
  let v87 : BitVec 32 := Scalar.muli arg7 c1024_i32_25
  let v88 : BitVec 32 := v87
  let v89 : Index := Scalar.indexCast v88
  let c0_27 : Index := 0#32
  ![0, v89.toNat, 0]
@[reducible] def k0_t2_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_4 : BitVec 32 := 1#32
  ⟨v8, v5, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c1024_i32_25 : BitVec 32 := 1024#32
  let v87 : BitVec 32 := Scalar.muli arg7 c1024_i32_25
  v87
def k0_off2 (i : grid0.Coords) (k0_t2 : Fin (k0_t2_loop i).trips) : Fin 3 → Nat :=
  let c0_26 : Index := 0#32
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c1024_i32_25 : BitVec 32 := 1024#32
  let v87 : BitVec 32 := Scalar.muli arg7 c1024_i32_25
  let v88 : BitVec 32 := v87
  let v89 : Index := Scalar.indexCast v88
  let c0_27 : Index := 0#32
  ![0, v89.toNat, 0]
def k0_mult3 (i : grid0.Coords) : BitVec 32 :=
  let arg1 : BitVec 32 := BitVec.ofNat 32 (i 1).val
  let c1024_i32 : BitVec 32 := 1024#32
  let v11 : BitVec 32 := Scalar.muli arg1 c1024_i32
  v11
def k0_off3 (i : grid0.Coords) : Fin 3 → Nat :=
  let c0_5 : Index := 0#32
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  let c0_6 : Index := 0#32
  ![0, v13.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel12Ideal.lean ====
variable {F : FTy → Type} [FloatOps F] [Named F]
def κ : String → Option EReal := fun
  | "mask" => some ⊥
  | _ => none
-- ==== Reference12Ideal.lean ====
abbrev S8x4096x64 : Shape := ⟨3, ![8, 4096, 64]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x3 : Shape := ⟨3, ![8, 4096, 3]⟩
abbrev S8x4096x61 : Shape := ⟨3, ![8, 4096, 61]⟩
abbrev S8x4096x128 : Shape := ⟨3, ![8, 4096, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S8x4096x1, .f32⟩
  | .hbm, ⟨9, _⟩ => ⟨S8x4096x4096, .f32⟩
  | .hbm, ⟨10, _⟩ => ⟨S8x4096x4096, .f32⟩
  | .hbm, ⟨11, _⟩ => ⟨S8x1x4096, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S8x4096x4096, .i1⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x64, .f32⟩
  | .hbm, ⟨40, _⟩ => ⟨S_, .f32⟩
  | .hbm, ⟨41, _⟩ => ⟨S8x4096x3, .f32⟩
  | .hbm, ⟨42, _⟩ => ⟨S_, .f32⟩
  | .hbm, ⟨43, _⟩ => ⟨S8x4096x61, .f32⟩
  | .hbm, ⟨44, _⟩ => ⟨S8x4096x128, .f32⟩
  | .hbm, ⟨45, _⟩ => ⟨S8x4096x128, .bf16⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Ffn.Pay.lean ====
module

public import proofs.«01_k».proof.Proof.Gen.KernelIdeal.Skeleton
public import Idealize.ShloMosaic.Lib.Pipeline.ValueKit.Point
public import Idealize.ShloMosaic.Lib.Pointwise.Tactic
public import Idealize.ShloMosaic.Lib.ValueIdx

@[expose] public section

noncomputable section

namespace Cert.Ffn

open Idealize.ShloMosaic Idealize.ShloMosaic.TcCoe Idealize.SL.Sem
open Cert.KernelIdeal Cert.KernelIdeal.Gen

variable (x0 : Vec Ideal S1024x1024 .f32) (x1 : Vec Ideal S1024x1024 .bf16) (x2 x3 : Vec Ideal S1x1024x704 .bf16)
  (x4 : Vec Ideal S1x704x1024 .bf16)

/-- The halved cotangent of one row tile. -/
def doB : Vec Ideal S1024x1024 .bf16 := fun y => Ideal.ofBits .f32 0x3F000000#32 * x0 y

/-- The gradient of the hidden product: halved cotangent against the down weight's rows. -/
def dhB (r : Fin 1024) (f : Fin 704) : EReal := ∑ k : Fin 1024, doB x0 (ix2 r k) * x4 (ix3 0 f k)

/-- The gate's activation `G · sigmoid G`. -/
def actB (r : Fin 1024) (f : Fin 704) : EReal := x2 (ix3 0 r f) * Ideal.logistic (x2 (ix3 0 r f))

/-- The hidden product `silu G · U`. -/
def hB : Vec Ideal S1024x704 .bf16 := fun y => actB x2 (y 0) (y 1) * x3 (ix3 0 (y 0) (y 1))

/-- The gradient of `U`. -/
def duB : Vec Ideal S1x1024x704 .bf16 := fun y => dhB x0 x4 (y 1) (y 2) * actB x2 (y 1) (y 2)

/-- The gradient of `G`. -/
def dgB : Vec Ideal S1x1024x704 .bf16 := fun y =>
  dhB x0 x4 (y 1) (y 2) * x3 (ix3 0 (y 1) (y 2))
    * (Ideal.logistic (x2 (ix3 0 (y 1) (y 2)))
        * (1 + x2 (ix3 0 (y 1) (y 2)) * (1 - Ideal.logistic (x2 (ix3 0 (y 1) (y 2))))))

theorem idx2 {n0 n1 : Nat} (y : (⟨2, ![n0, n1]⟩ : Shape).Idx) (a : Fin n0) (b : Fin n1)
    (h0 : (y 0 : Nat) = a) (h1 : (y 1 : Nat) = b) : y = ix2 a b :=
  (eq_ix2 y).trans (by rw [show y 0 = a from Fin.ext h0, show y 1 = b from Fin.ext h1])

theorem idx3 {n0 n1 n2 : Nat} (y : (⟨3, ![n0, n1, n2]⟩ : Shape).Idx) (a : Fin n0) (b : Fin n1) (c : Fin n2)
    (h0 : (y 0 : Nat) = a) (h1 : (y 1 : Nat) = b) (h2 : (y 2 : Nat) = c) : y = ix3 a b c :=
  (eq_ix3 y).trans (by rw [show y 0 = a from Fin.ext h0, show y 1 = b from Fin.ext h1, show y 2 = c from Fin.ext h2])

theorem dg_canon : View.canon ([⟨Rect.unit ![0, 512, 0] ![1, 512, 704] inb_S1x1024x704_S1x512x704_0_512_0, k0_pay30 (k0_pay22 (View.ld x2 (Rect.unit ![0, 512, 0] ![1, 512, 704] inb_S1x1024x704_S1x512x704_0_512_0))) (k0_pay23 (View.ld x3 (Rect.unit ![0, 512, 0] ![1, 512, 704] inb_S1x1024x704_S1x512x704_0_512_0))) (k0_pay24 (View.ld x0 (Rect.unit ![512, 0] ![512, 1024] inb_S1024x1024_S512x1024_512_0)) x4) (k0_pay25 (View.ld x2 (Rect.unit ![0, 512, 0] ![1, 512, 704] inb_S1x1024x704_S1x512x704_0_512_0)))⟩,
    ⟨Rect.unit ![0, 0, 0] ![1, 512, 704] inb_S1x1024x704_S1x512x704_0_0_0, k0_pay19 (k0_pay11 (View.ld x2 (Rect.unit ![0, 0, 0] ![1, 512, 704] inb_S1x1024x704_S1x512x704_0_0_0))) (k0_pay14 (View.ld x2 (Rect.unit ![0, 0, 0] ![1, 512, 704] inb_S1x1024x704_S1x512x704_0_0_0))) (k0_pay18 (View.ld x0 (Rect.unit ![0, 0] ![512, 1024] inb_S1024x1024_S512x1024_0_0)) (View.ld x3 (Rect.unit ![0, 0, 0] ![1, 512, 704] inb_S1x1024x704_S1x512x704_0_0_0)) x4)⟩] : List (View.Piece (Elt Ideal) S1x1024x704 .bf16)) = dgB x0 x2 x3 x4 := by
  funext y
  canon_tiles x h
  · rw [idx3 y (0 : Fin 1) (⟨512 + (x 1 : Nat), by omega⟩ : Fin 1024) (⟨(x 2 : Nat), by omega⟩ : Fin 704) (by show (y 0).val = 0; omega) h1 h2]
    pointwise [k0_pay30, k0_pay22, k0_pay23, k0_pay24, k0_pay25, k0_pay20, k0_pay19, k0_pay11, k0_pay14, k0_pay18, k0_pay13, k0_pay12, k0_pay9, dgB, dhB, doB]
  · rw [idx3 y (0 : Fin 1) (⟨(x 1 : Nat), by omega⟩ : Fin 1024) (⟨(x 2 : Nat), by omega⟩ : Fin 704) (by show (y 0).val = 0; omega) h1 h2]
    pointwise [k0_pay30, k0_pay22, k0_pay23, k0_pay24, k0_pay25, k0_pay20, k0_pay19, k0_pay11, k0_pay14, k0_pay18, k0_pay13, k0_pay12, k0_pay9, dgB, dhB, doB]

theorem du_canon : View.canon ([⟨Rect.unit ![0, 512, 0] ![1, 512, 704] inb_S1x1024x704_S1x512x704_0_512_0, k0_pay29 (k0_pay28 (View.ld x0 (Rect.unit ![512, 0] ![512, 1024] inb_S1024x1024_S512x1024_512_0)) (View.ld x2 (Rect.unit ![0, 512, 0] ![1, 512, 704] inb_S1x1024x704_S1x512x704_0_512_0)) x4)⟩,
    ⟨Rect.unit ![0, 0, 0] ![1, 512, 704] inb_S1x1024x704_S1x512x704_0_0_0, k0_pay17 (View.ld x0 (Rect.unit ![0, 0] ![512, 1024] inb_S1024x1024_S512x1024_0_0)) (View.ld x2 (Rect.unit ![0, 0, 0] ![1, 512, 704] inb_S1x1024x704_S1x512x704_0_0_0)) x4⟩] : List (View.Piece (Elt Ideal) S1x1024x704 .bf16)) = duB x0 x2 x4 := by
  funext y
  canon_tiles x h
  · rw [idx3 y (0 : Fin 1) (⟨512 + (x 1 : Nat), by omega⟩ : Fin 1024) (⟨(x 2 : Nat), by omega⟩ : Fin 704) (by show (y 0).val = 0; omega) h1 h2]
    pointwise [k0_pay17, k0_pay29, k0_pay28, k0_pay15, k0_pay26, k0_pay22, k0_pay24, k0_pay25, k0_pay20, k0_pay11, k0_pay14, k0_pay13, k0_pay9, duB, dhB, doB, actB]
  · rw [idx3 y (0 : Fin 1) (⟨(x 1 : Nat), by omega⟩ : Fin 1024) (⟨(x 2 : Nat), by omega⟩ : Fin 704) (by show (y 0).val = 0; omega) h1 h2]
    pointwise [k0_pay17, k0_pay29, k0_pay28, k0_pay15, k0_pay26, k0_pay22, k0_pay24, k0_pay25, k0_pay20, k0_pay11, k0_pay14, k0_pay13, k0_pay9, duB, dhB, doB, actB]

theorem h_canon : View.canon ([⟨Rect.unit ![512, 0] ![512, 704] inb_S1024x704_S512x704_512_0, k0_pay27 (View.ld x2 (Rect.unit ![0, 512, 0] ![1, 512, 704] inb_S1x1024x704_S1x512x704_0_512_0)) (View.ld x3 (Rect.unit ![0, 512, 0] ![1, 512, 704] inb_S1x1024x704_S1x512x704_0_512_0))⟩,
    ⟨Rect.unit ![0, 0] ![512, 704] inb_S1024x704_S512x704_0_0, k0_pay16 (View.ld x2 (Rect.unit ![0, 0, 0] ![1, 512, 704] inb_S1x1024x704_S1x512x704_0_0_0)) (View.ld x3 (Rect.unit ![0, 0, 0] ![1, 512, 704] inb_S1x1024x704_S1x512x704_0_0_0))⟩] : List (View.Piece (Elt Ideal) S1024x704 .bf16)) = hB x2 x3 := by
  funext y
  canon_tiles x h
  · rw [idx2 y (⟨512 + (x 0 : Nat), by omega⟩ : Fin 1024) (⟨(x 1 : Nat), by omega⟩ : Fin 704) h0 h1]
    pointwise [k0_pay16, k0_pay27, k0_pay15, k0_pay26, k0_pay22, k0_pay23, k0_pay25, k0_pay11, k0_pay12, k0_pay14, hB, actB]
  · rw [idx2 y (⟨(x 0 : Nat), by omega⟩ : Fin 1024) (⟨(x 1 : Nat), by omega⟩ : Fin 704) h0 h1]
    pointwise [k0_pay16, k0_pay27, k0_pay15, k0_pay26, k0_pay22, k0_pay23, k0_pay25, k0_pay11, k0_pay12, k0_pay14, hB, actB]

theorem do_canon : View.canon ([⟨Rect.unit ![512, 0] ![512, 1024] inb_S1024x1024_S512x1024_512_0, k0_pay21 (View.ld x0 (Rect.unit ![512, 0] ![512, 1024] inb_S1024x1024_S512x1024_512_0))⟩,
    ⟨Rect.unit ![0, 0] ![512, 1024] inb_S1024x1024_S512x1024_0_0, k0_pay10 (View.ld x0 (Rect.unit ![0, 0] ![512, 1024] inb_S1024x1024_S512x1024_0_0))⟩] : List (View.Piece (Elt Ideal) S1024x1024 .bf16)) = doB x0 := by
  funext y
  canon_tiles x h
  · rw [idx2 y (⟨512 + (x 0 : Nat), by omega⟩ : Fin 1024) (⟨(x 1 : Nat), by omega⟩ : Fin 1024) h0 h1]
    pointwise [k0_pay10, k0_pay21, k0_pay9, k0_pay20, doB]
  · rw [idx2 y (⟨(x 0 : Nat), by omega⟩ : Fin 1024) (⟨(x 1 : Nat), by omega⟩ : Fin 1024) h0 h1]
    pointwise [k0_pay10, k0_pay21, k0_pay9, k0_pay20, doB]

theorem dg_read (v : View sig .tc .vmem S1x1024x704 .bf16) : v.readCov ([⟨Rect.unit ![0, 512, 0] ![1, 512, 704] inb_S1x1024x704_S1x512x704_0_512_0, k0_pay30 (k0_pay22 (View.ld x2 (Rect.unit ![0, 512, 0] ![1, 512, 704] inb_S1x1024x704_S1x512x704_0_512_0))) (k0_pay23 (View.ld x3 (Rect.unit ![0, 512, 0] ![1, 512, 704] inb_S1x1024x704_S1x512x704_0_512_0))) (k0_pay24 (View.ld x0 (Rect.unit ![512, 0] ![512, 1024] inb_S1024x1024_S512x1024_512_0)) x4) (k0_pay25 (View.ld x2 (Rect.unit ![0, 512, 0] ![1, 512, 704] inb_S1x1024x704_S1x512x704_0_512_0)))⟩,
    ⟨Rect.unit ![0, 0, 0] ![1, 512, 704] inb_S1x1024x704_S1x512x704_0_0_0, k0_pay19 (k0_pay11 (View.ld x2 (Rect.unit ![0, 0, 0] ![1, 512, 704] inb_S1x1024x704_S1x512x704_0_0_0))) (k0_pay14 (View.ld x2 (Rect.unit ![0, 0, 0] ![1, 512, 704] inb_S1x1024x704_S1x512x704_0_0_0))) (k0_pay18 (View.ld x0 (Rect.unit ![0, 0] ![512, 1024] inb_S1024x1024_S512x1024_0_0)) (View.ld x3 (Rect.unit ![0, 0, 0] ![1, 512, 704] inb_S1x1024x704_S1x512x704_0_0_0)) x4)⟩] : List (View.Piece (Elt Ideal) S1x1024x704 .bf16))
    (Rect.unit ![0, 0, 0] ![1, 1024, 704] inb_S1x1024x704_S1x1024x704_0_0_0).toLoadRect = dgB x0 x2 x3 x4 := by
  rw [View.readCov_eq_canon', dg_canon]
  funext j
  refine congrArg _ (funext fun a => Fin.ext ?_)
  fin_cases a <;> exact (Nat.zero_add _).trans (Nat.one_mul _)

theorem du_read (v : View sig .tc .vmem S1x1024x704 .bf16) : v.readCov ([⟨Rect.unit ![0, 512, 0] ![1, 512, 704] inb_S1x1024x704_S1x512x704_0_512_0, k0_pay29 (k0_pay28 (View.ld x0 (Rect.unit ![512, 0] ![512, 1024] inb_S1024x1024_S512x1024_512_0)) (View.ld x2 (Rect.unit ![0, 512, 0] ![1, 512, 704] inb_S1x1024x704_S1x512x704_0_512_0)) x4)⟩,
    ⟨Rect.unit ![0, 0, 0] ![1, 512, 704] inb_S1x1024x704_S1x512x704_0_0_0, k0_pay17 (View.ld x0 (Rect.unit ![0, 0] ![512, 1024] inb_S1024x1024_S512x1024_0_0)) (View.ld x2 (Rect.unit ![0, 0, 0] ![1, 512, 704] inb_S1x1024x704_S1x512x704_0_0_0)) x4⟩] : List (View.Piece (Elt Ideal) S1x1024x704 .bf16))
    (Rect.unit ![0, 0, 0] ![1, 1024, 704] inb_S1x1024x704_S1x1024x704_0_0_0).toLoadRect = duB x0 x2 x4 := by
  rw [View.readCov_eq_canon', du_canon]
  funext j
  refine congrArg _ (funext fun a => Fin.ext ?_)
  fin_cases a <;> exact (Nat.zero_add _).trans (Nat.one_mul _)

theorem h_read (v : View sig .tc .vmem S1024x704 .bf16) : v.readCov ([⟨Rect.unit ![512, 0] ![512, 704] inb_S1024x704_S512x704_512_0, k0_pay27 (View.ld x2 (Rect.unit ![0, 512, 0] ![1, 512, 704] inb_S1x1024x704_S1x512x704_0_512_0)) (View.ld x3 (Rect.unit ![0, 512, 0] ![1, 512, 704] inb_S1x1024x704_S1x512x704_0_512_0))⟩,
    ⟨Rect.unit ![0, 0] ![512, 704] inb_S1024x704_S512x704_0_0, k0_pay16 (View.ld x2 (Rect.unit ![0, 0, 0] ![1, 512, 704] inb_S1x1024x704_S1x512x704_0_0_0)) (View.ld x3 (Rect.unit ![0, 0, 0] ![1, 512, 704] inb_S1x1024x704_S1x512x704_0_0_0))⟩] : List (View.Piece (Elt Ideal) S1024x704 .bf16))
    (Rect.unit ![0, 0] ![1024, 704] inb_S1024x704_S1024x704_0_0).toLoadRect = hB x2 x3 := by
  rw [View.readCov_eq_canon', h_canon]
  funext j
  refine congrArg _ (funext fun a => Fin.ext ?_)
  fin_cases a <;> exact (Nat.zero_add _).trans (Nat.one_mul _)

theorem do_read (v : View sig .tc .vmem S1024x1024 .bf16) : v.readCov ([⟨Rect.unit ![512, 0] ![512, 1024] inb_S1024x1024_S512x1024_512_0, k0_pay21 (View.ld x0 (Rect.unit ![512, 0] ![512, 1024] inb_S1024x1024_S512x1024_512_0))⟩,
    ⟨Rect.unit ![0, 0] ![512, 1024] inb_S1024x1024_S512x1024_0_0, k0_pay10 (View.ld x0 (Rect.unit ![0, 0] ![512, 1024] inb_S1024x1024_S512x1024_0_0))⟩] : List (View.Piece (Elt Ideal) S1024x1024 .bf16))
    (Rect.unit ![0, 0] ![1024, 1024] inb_S1024x1024_S1024x1024_0_0).toLoadRect = doB x0 := by
  rw [View.readCov_eq_canon', do_canon]
  funext j
  refine congrArg _ (funext fun a => Fin.ext ?_)
  fin_cases a <;> exact (Nat.zero_add _).trans (Nat.one_mul _)

/-- One point's addition to the gate weight's gradient. -/
theorem pay_g (acc : Vec Ideal S704x1024 .f32) (g : Vec Ideal S1x1024x704 .bf16) (y : S704x1024.Idx) :
    k0_pay32 x1 acc g y = acc y + ∑ r : Fin 1024, g (ix3 0 r (y 0)) * x1 (ix2 r (y 1)) := by
  pointwise [k0_pay32, k0_pay31]

/-- One point's addition to the up weight's gradient. -/
theorem pay_u (acc : Vec Ideal S704x1024 .f32) (g : Vec Ideal S1x1024x704 .bf16) (y : S704x1024.Idx) :
    k0_pay1 (k0_pay33 x1 acc g) y = acc y + ∑ r : Fin 1024, g (ix3 0 r (y 0)) * x1 (ix2 r (y 1)) := by
  pointwise [k0_pay1, k0_pay33, k0_pay31]

/-- One point's addition to the down weight's gradient. -/
theorem pay_d (acc : Vec Ideal S704x1024 .f32) (h : Vec Ideal S1024x704 .bf16) (o : Vec Ideal S1024x1024 .bf16) (y : S704x1024.Idx) :
    k0_pay2 acc h o y = acc y + ∑ r : Fin 1024, h (ix2 r (y 0)) * o (ix2 r (y 1)) := by
  pointwise [k0_pay2]

theorem zero_g (y : S704x1024.Idx) : k0_pay6 (F := Ideal) y = 0 := by pointwise [k0_pay6]
theorem zero_u (y : S704x1024.Idx) : k0_pay7 (F := Ideal) y = 0 := by pointwise [k0_pay7]
theorem zero_d (y : S704x1024.Idx) : k0_pay8 (F := Ideal) y = 0 := by pointwise [k0_pay8]

theorem cast_g (v : Vec Ideal S704x1024 .f32) (y : S1x704x1024.Idx) : k0_pay3 v y = v (ix2 (y 1) (y 2)) := by pointwise [k0_pay3]
theorem cast_u (v : Vec Ideal S704x1024 .f32) (y : S1x704x1024.Idx) : k0_pay4 v y = v (ix2 (y 1) (y 2)) := by pointwise [k0_pay4]
theorem cast_d (v : Vec Ideal S704x1024 .f32) (y : S1x704x1024.Idx) : k0_pay5 v y = v (ix2 (y 1) (y 2)) := by pointwise [k0_pay5]

end Cert.Ffn

end
-- ==== Proof.Ffn.Case.lean ====
module

public import proofs.«01_k».proof.Proof.Gen.KernelIdeal.Frame
public import proofs.«01_k».proof.Proof.Ffn.Pay

@[expose] public section

noncomputable section

namespace Cert.Ffn

open Idealize.ShloMosaic Idealize.ShloMosaic.TcCoe Idealize.SL.Sem
open Cert.KernelIdeal Cert.KernelIdeal.Gen

variable (c : Dev nD) (i : grid0.Coords)
  (arg2 : Memref sig .tc .vmem S1024x1024 .f32) (harg2 : arg2.IsWhole)
  (arg3 : Memref sig .tc .vmem S1024x1024 .bf16) (harg3 : arg3.IsWhole)
  (arg4 : Memref sig .tc .vmem S1x1024x704 .bf16) (harg4 : arg4.IsWhole)
  (arg5 : Memref sig .tc .vmem S1x1024x704 .bf16) (harg5 : arg5.IsWhole)
  (arg6 : Memref sig .tc .vmem S1x704x1024 .bf16) (harg6 : arg6.IsWhole)
  (arg7 : Memref sig .tc .vmem S1x704x1024 .bf16) (harg7 : arg7.IsWhole)
  (arg8 : Memref sig .tc .vmem S1x704x1024 .bf16) (harg8 : arg8.IsWhole)
  (arg9 : Memref sig .tc .vmem S1x704x1024 .bf16) (harg9 : arg9.IsWhole)
  (arg10 : Memref sig .tc .vmem S1x1024x704 .bf16) (harg10 : arg10.IsWhole)
  (arg11 : Memref sig .tc .vmem S1x1024x704 .bf16) (harg11 : arg11.IsWhole)
  (arg12 : Memref sig .tc .vmem S704x1024 .f32) (harg12 : arg12.IsWhole)
  (arg13 : Memref sig .tc .vmem S704x1024 .f32) (harg13 : arg13.IsWhole)
  (arg14 : Memref sig .tc .vmem S704x1024 .f32) (harg14 : arg14.IsWhole)
  (arg15 : Memref sig .tc .vmem S1024x1024 .bf16) (harg15 : arg15.IsWhole)
  (arg16 : Memref sig .tc .vmem S1024x704 .bf16) (harg16 : arg16.IsWhole)
  (x0 : Vec Ideal S1024x1024 .f32) (x1 : Vec Ideal S1024x1024 .bf16) (x2 x3 : Vec Ideal S1x1024x704 .bf16)
  (x4 : Vec Ideal S1x704x1024 .bf16) (xs0 xs1 xs2 : Vec Ideal S704x1024 .f32)

/-- What one row tile adds to the gate weight's gradient. -/
def partG (y : S704x1024.Idx) : EReal := ∑ r : Fin 1024, dgB x0 x2 x3 x4 (ix3 0 r (y 0)) * x1 (ix2 r (y 1))
/-- What one row tile adds to the up weight's gradient. -/
def partU (y : S704x1024.Idx) : EReal := ∑ r : Fin 1024, duB x0 x2 x4 (ix3 0 r (y 0)) * x1 (ix2 r (y 1))
/-- What one row tile adds to the down weight's gradient. -/
def partD (y : S704x1024.Idx) : EReal := ∑ r : Fin 1024, hB x2 x3 (ix2 r (y 0)) * doB x0 (ix2 r (y 1))

theorem sout_A_0 (hc0 : cond0_0 i) (hc1 : ¬cond0_1 i) (y : S704x1024.Idx) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 y = 0 + partG x0 x1 x2 x3 x4 y := by
  frame_out
  rw [dg_read x0 x2 x3 x4, pay_g, zero_g]
  rfl

theorem sout_A_1 (hc0 : cond0_0 i) (hc1 : ¬cond0_1 i) (y : S704x1024.Idx) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 y = 0 + partU x0 x1 x2 x4 y := by
  frame_out
  rw [du_read x0 x2 x4, pay_u, zero_u]
  rfl

theorem sout_A_2 (hc0 : cond0_0 i) (hc1 : ¬cond0_1 i) (y : S704x1024.Idx) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 y = 0 + partD x0 x2 x3 y := by
  frame_out
  rw [h_read x2 x3, do_read x0, pay_d, zero_d]
  rfl

theorem out_A_8 (hc0 : cond0_0 i) (hc1 : ¬cond0_1 i) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 = dgB x0 x2 x3 x4 := by
  frame_out
  rw [dg_canon x0 x2 x3 x4]

theorem out_A_9 (hc0 : cond0_0 i) (hc1 : ¬cond0_1 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 = duB x0 x2 x4 := by
  frame_out
  rw [du_canon x0 x2 x4]

theorem sout_B_0 (hc0 : ¬cond0_0 i) (hc1 : ¬cond0_1 i) (y : S704x1024.Idx) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 y = xs0 y + partG x0 x1 x2 x3 x4 y := by
  frame_out
  rw [dg_read x0 x2 x3 x4, pay_g]
  rfl

theorem sout_B_1 (hc0 : ¬cond0_0 i) (hc1 : ¬cond0_1 i) (y : S704x1024.Idx) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 y = xs1 y + partU x0 x1 x2 x4 y := by
  frame_out
  rw [du_read x0 x2 x4, pay_u]
  rfl

theorem sout_B_2 (hc0 : ¬cond0_0 i) (hc1 : ¬cond0_1 i) (y : S704x1024.Idx) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 y = xs2 y + partD x0 x2 x3 y := by
  frame_out
  rw [h_read x2 x3, do_read x0, pay_d]
  rfl

theorem out_B_8 (hc0 : ¬cond0_0 i) (hc1 : ¬cond0_1 i) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 = dgB x0 x2 x3 x4 := by
  frame_out
  rw [dg_canon x0 x2 x3 x4]

theorem out_B_9 (hc0 : ¬cond0_0 i) (hc1 : ¬cond0_1 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 = duB x0 x2 x4 := by
  frame_out
  rw [du_canon x0 x2 x4]

theorem sout_C_0 (hc0 : ¬cond0_0 i) (hc1 : cond0_1 i) (y : S704x1024.Idx) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 y = xs0 y + partG x0 x1 x2 x3 x4 y := by
  frame_out
  rw [dg_read x0 x2 x3 x4, pay_g]
  rfl

theorem sout_C_1 (hc0 : ¬cond0_0 i) (hc1 : cond0_1 i) (y : S704x1024.Idx) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 y = xs1 y + partU x0 x1 x2 x4 y := by
  frame_out
  rw [du_read x0 x2 x4, pay_u]
  rfl

theorem sout_C_2 (hc0 : ¬cond0_0 i) (hc1 : cond0_1 i) (y : S704x1024.Idx) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 y = xs2 y + partD x0 x2 x3 y := by
  frame_out
  rw [h_read x2 x3, do_read x0, pay_d]
  rfl

theorem out_C_5 (hc0 : ¬cond0_0 i) (hc1 : cond0_1 i) (y : S1x704x1024.Idx) :
    out0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 y = xs0 (ix2 (y 1) (y 2)) + partG x0 x1 x2 x3 x4 (ix2 (y 1) (y 2)) := by
  frame_out
  rw [cast_g, dg_read x0 x2 x3 x4, pay_g]
  rfl

theorem out_C_6 (hc0 : ¬cond0_0 i) (hc1 : cond0_1 i) (y : S1x704x1024.Idx) :
    out0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 y = xs1 (ix2 (y 1) (y 2)) + partU x0 x1 x2 x4 (ix2 (y 1) (y 2)) := by
  frame_out
  rw [cast_u, du_read x0 x2 x4, pay_u]
  rfl

theorem out_C_7 (hc0 : ¬cond0_0 i) (hc1 : cond0_1 i) (y : S1x704x1024.Idx) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 y = xs2 (ix2 (y 1) (y 2)) + partD x0 x2 x3 (ix2 (y 1) (y 2)) := by
  frame_out
  rw [cast_d, h_read x2 x3, do_read x0, pay_d]
  rfl

theorem out_C_8 (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 = dgB x0 x2 x3 x4 := by
  frame_out
  rw [dg_canon x0 x2 x3 x4]

theorem out_C_9 (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 = duB x0 x2 x4 := by
  frame_out
  rw [du_canon x0 x2 x4]

end Cert.Ffn

end
-- ==== Proof.Ffn.Arr.lean ====
module

public import proofs.«01_k».proof.Proof.Ffn.Case

@[expose] public section

noncomputable section

namespace Cert.Ffn

open Idealize.ShloMosaic Idealize.ShloMosaic.TcCoe Idealize.SL.Sem
open Cert.KernelIdeal Cert.KernelIdeal.Gen

/-! ## The mathematics over whole arrays -/

section Arrays

variable (D XN : (⟨2, ![4096, 1024]⟩ : Shape).Idx → EReal) (WG WU W : (⟨2, ![1024, 2816]⟩ : Shape).Idx → EReal)
  (WD : (⟨2, ![2816, 1024]⟩ : Shape).Idx → EReal)

/-- A projection of the normalised rows: `xn · w`. -/
def projA (r : Fin 4096) (h : Fin 2816) : EReal := ∑ k : Fin 1024, XN (ix2 r k) * W (ix2 k h)

/-- The halved cotangent. -/
def doA (r : Fin 4096) (k : Fin 1024) : EReal := Ideal.ofBits .f32 0x3F000000#32 * D (ix2 r k)

/-- The gradient of the hidden product. -/
def dhA (r : Fin 4096) (h : Fin 2816) : EReal := ∑ k : Fin 1024, doA D r k * WD (ix2 h k)

/-- `silu` of the gate. -/
def actA (r : Fin 4096) (h : Fin 2816) : EReal := projA XN WG r h * Ideal.logistic (projA XN WG r h)

/-- The hidden product. -/
def hA (r : Fin 4096) (h : Fin 2816) : EReal := actA XN WG r h * projA XN WU r h

/-- The gradient of the up projection. -/
def duA (r : Fin 4096) (h : Fin 2816) : EReal := dhA D WD r h * actA XN WG r h

/-- The gradient of the gate projection. -/
def dgA (r : Fin 4096) (h : Fin 2816) : EReal :=
  dhA D WD r h * projA XN WU r h
    * (Ideal.logistic (projA XN WG r h) * (1 + projA XN WG r h * (1 - Ideal.logistic (projA XN WG r h))))

end Arrays

variable (m : (ℓ : Loc nD τ sig) → Buf (Elt Ideal) ℓ) (c : Dev nD)

/-- A hidden column of a chunk. -/
abbrev col (j : Fin 4) (f : Fin 704) : Fin 2816 := ⟨j.val * 704 + f.val, by omega⟩

abbrev aD : Vec Ideal S4096x1024 .f32 := m ((c : Thread nD τ).loc main_arg0)
abbrev aX : Vec Ideal S4096x1024 .f32 := m ((c : Thread nD τ).loc main_arg1)
abbrev aG : Vec Ideal S1024x2816 .f32 := m ((c : Thread nD τ).loc main_arg2)
abbrev aU : Vec Ideal S1024x2816 .f32 := m ((c : Thread nD τ).loc main_arg3)
abbrev aW : Vec Ideal S2816x1024 .f32 := m ((c : Thread nD τ).loc main_arg4)

theorem x_V (r : Fin 4096) (k : Fin 1024) : V m c main_v0 (ix2 r k) = aX m c (ix2 r k) := by
  entry_read
  pointwise

theorem g_V (j : Fin 4) (r : Fin 4096) (f : Fin 704) : V m c main_v4 (ix3 j r f) = projA (aX m c) (aG m c) r (col j f) := by
  entry_read
  pointwise [projA]

theorem u_V (j : Fin 4) (r : Fin 4096) (f : Fin 704) : V m c main_v8 (ix3 j r f) = projA (aX m c) (aU m c) r (col j f) := by
  entry_read
  pointwise [projA]

theorem w_V (j : Fin 4) (f : Fin 704) (k : Fin 1024) : V m c main_v10 (ix3 j f k) = aW m c (ix2 (col j f) k) := by
  entry_read
  pointwise

/-! ## The blocks of a grid point -/

theorem hN : cfg0.N = 16 := N_0

/-- The chunk of a point. -/
abbrev ch (t : Fin cfg0.N) : Fin 4 := ⟨t.val / 4, by have := t.isLt; have := hN; omega⟩
/-- A row of a point's tile. -/
abbrev row (t : Fin cfg0.N) (r : Fin 1024) : Fin 4096 := ⟨t.val % 4 * 1024 + r.val, by omega⟩

theorem ix_0 : ∀ t : Fin cfg0.N, win0_0.index t = ![t.val % 4, 0] := (by decide +kernel : ∀ t : Fin grid0.N, _)
theorem ix_1 : ∀ t : Fin cfg0.N, win0_1.index t = ![t.val % 4, 0] := (by decide +kernel : ∀ t : Fin grid0.N, _)
theorem ix_2 : ∀ t : Fin cfg0.N, win0_2.index t = ![t.val / 4, t.val % 4, 0] := (by decide +kernel : ∀ t : Fin grid0.N, _)
theorem ix_3 : ∀ t : Fin cfg0.N, win0_3.index t = ![t.val / 4, t.val % 4, 0] := (by decide +kernel : ∀ t : Fin grid0.N, _)
theorem ix_4 : ∀ t : Fin cfg0.N, win0_4.index t = ![t.val / 4, 0, 0] := (by decide +kernel : ∀ t : Fin grid0.N, _)
theorem ix_5 : ∀ t : Fin cfg0.N, win0_5.index t = ![t.val / 4, 0, 0] := (by decide +kernel : ∀ t : Fin grid0.N, _)
theorem ix_6 : ∀ t : Fin cfg0.N, win0_6.index t = ![t.val / 4, 0, 0] := (by decide +kernel : ∀ t : Fin grid0.N, _)
theorem ix_7 : ∀ t : Fin cfg0.N, win0_7.index t = ![t.val / 4, 0, 0] := (by decide +kernel : ∀ t : Fin grid0.N, _)
theorem ix_8 : ∀ t : Fin cfg0.N, win0_8.index t = ![t.val / 4, t.val % 4, 0] := (by decide +kernel : ∀ t : Fin grid0.N, _)
theorem ix_9 : ∀ t : Fin cfg0.N, win0_9.index t = ![t.val / 4, t.val % 4, 0] := (by decide +kernel : ∀ t : Fin grid0.N, _)

abbrev B0 (t : Fin cfg0.N) : Vec Ideal S1024x1024 .f32 := iblk m c 0 t
abbrev B1 (t : Fin cfg0.N) : Vec Ideal S1024x1024 .bf16 := iblk m c 1 t
abbrev B2 (t : Fin cfg0.N) : Vec Ideal S1x1024x704 .bf16 := iblk m c 2 t
abbrev B3 (t : Fin cfg0.N) : Vec Ideal S1x1024x704 .bf16 := iblk m c 3 t
abbrev B4 (t : Fin cfg0.N) : Vec Ideal S1x704x1024 .bf16 := iblk m c 4 t

theorem b_0 (t : Fin cfg0.N) (r : Fin 1024) (k : Fin 1024) : B0 m c t (ix2 r k) = aD m c (ix2 (row t r) k) := by
  blk_ext! [iblk, V, ix_0 t]

theorem b_1 (t : Fin cfg0.N) (r : Fin 1024) (k : Fin 1024) : B1 m c t (ix2 r k) = aX m c (ix2 (row t r) k) := by
  rw [← x_V]
  blk_ext! [iblk, ix_1 t]

theorem b_2 (t : Fin cfg0.N) (r : Fin 1024) (f : Fin 704) :
    B2 m c t (ix3 0 r f) = projA (aX m c) (aG m c) (row t r) (col (ch t) f) := by
  rw [← g_V]
  blk_ext! [iblk, ix_2 t]

theorem b_3 (t : Fin cfg0.N) (r : Fin 1024) (f : Fin 704) :
    B3 m c t (ix3 0 r f) = projA (aX m c) (aU m c) (row t r) (col (ch t) f) := by
  rw [← u_V]
  blk_ext! [iblk, ix_3 t]

theorem b_4 (t : Fin cfg0.N) (f : Fin 704) (k : Fin 1024) : B4 m c t (ix3 0 f k) = aW m c (ix2 (col (ch t) f) k) := by
  rw [← w_V]
  blk_ext! [iblk, ix_4 t]

theorem dg_t (t : Fin cfg0.N) (r : Fin 1024) (f : Fin 704) :
    dgB (B0 m c t) (B2 m c t) (B3 m c t) (B4 m c t) (ix3 0 r f)
      = dgA (aD m c) (aX m c) (aG m c) (aU m c) (aW m c) (row t r) (col (ch t) f) := by
  show dhB (B0 m c t) (B4 m c t) r f * B3 m c t (ix3 0 r f) * (Ideal.logistic (B2 m c t (ix3 0 r f))
    * (1 + B2 m c t (ix3 0 r f) * (1 - Ideal.logistic (B2 m c t (ix3 0 r f))))) = _
  simp only [dhB, doB, b_0, b_2, b_3, b_4]
  rfl

theorem du_t (t : Fin cfg0.N) (r : Fin 1024) (f : Fin 704) :
    duB (B0 m c t) (B2 m c t) (B4 m c t) (ix3 0 r f)
      = duA (aD m c) (aX m c) (aG m c) (aW m c) (row t r) (col (ch t) f) := by
  show dhB (B0 m c t) (B4 m c t) r f * actB (B2 m c t) r f = _
  simp only [dhB, doB, actB, b_0, b_2, b_4]
  rfl

theorem h_t (t : Fin cfg0.N) (r : Fin 1024) (f : Fin 704) :
    hB (B2 m c t) (B3 m c t) (ix2 r f) = hA (aX m c) (aG m c) (aU m c) (row t r) (col (ch t) f) := by
  show actB (B2 m c t) r f * B3 m c t (ix3 0 r f) = _
  simp only [actB, b_2, b_3]
  rfl

theorem do_t (t : Fin cfg0.N) (r : Fin 1024) (k : Fin 1024) : doB (B0 m c t) (ix2 r k) = doA (aD m c) (row t r) k := by
  show Ideal.ofBits .f32 0x3F000000#32 * B0 m c t (ix2 r k) = _
  rw [b_0]; rfl

/-! ## The carried sums -/

abbrev tG (t : Fin cfg0.N) (y : S704x1024.Idx) : EReal := partG (B0 m c t) (B1 m c t) (B2 m c t) (B3 m c t) (B4 m c t) y
abbrev tU (t : Fin cfg0.N) (y : S704x1024.Idx) : EReal := partU (B0 m c t) (B1 m c t) (B2 m c t) (B4 m c t) y
abbrev tD (t : Fin cfg0.N) (y : S704x1024.Idx) : EReal := partD (B0 m c t) (B2 m c t) (B3 m c t) y

theorem stepA_0 (t : Fin cfg0.N) (h : t.val % 4 = 0) (y : S704x1024.Idx) :
    (outsAt0 m c t.val t.isLt).2.2.2.2.2.1 y = 0 + tG m c t y := by
  have e := congrFun (congrArg (fun p => p.2.2.2.2.2.1) (outsAt0_A m c t h (by omega))) y
  dsimp only at e
  rw [sout_A_0] at e
  exact e

theorem stepB_0 (t : Fin cfg0.N) (h : ¬t.val % 4 = 0) (h1 : ¬t.val % 4 = 3) (y : S704x1024.Idx) :
    (outsAt0 m c t.val t.isLt).2.2.2.2.2.1 y
      = (outsAt0 m c (t.val - 1) (Nat.lt_of_le_of_lt (Nat.sub_le _ _) t.isLt)).2.2.2.2.2.1 y + tG m c t y := by
  have e := congrFun (congrArg (fun p => p.2.2.2.2.2.1) (outsAt0_B m c t h h1)) y
  generalize outsAt0 m c (t.val - 1) (Nat.lt_of_le_of_lt (Nat.sub_le _ _) t.isLt) = p at e ⊢
  dsimp only at e
  rw [sout_B_0] at e
  exact e

theorem stepC_0 (t : Fin cfg0.N) (h : ¬t.val % 4 = 0) (h1 : t.val % 4 = 3) (y : S704x1024.Idx) :
    (outsAt0 m c t.val t.isLt).2.2.2.2.2.1 y
      = (outsAt0 m c (t.val - 1) (Nat.lt_of_le_of_lt (Nat.sub_le _ _) t.isLt)).2.2.2.2.2.1 y + tG m c t y := by
  have e := congrFun (congrArg (fun p => p.2.2.2.2.2.1) (outsAt0_C m c t h h1)) y
  generalize outsAt0 m c (t.val - 1) (Nat.lt_of_le_of_lt (Nat.sub_le _ _) t.isLt) = p at e ⊢
  dsimp only at e
  rw [sout_C_0] at e
  exact e

theorem stepA_1 (t : Fin cfg0.N) (h : t.val % 4 = 0) (y : S704x1024.Idx) :
    (outsAt0 m c t.val t.isLt).2.2.2.2.2.2.1 y = 0 + tU m c t y := by
  have e := congrFun (congrArg (fun p => p.2.2.2.2.2.2.1) (outsAt0_A m c t h (by omega))) y
  dsimp only at e
  rw [sout_A_1] at e
  exact e

theorem stepB_1 (t : Fin cfg0.N) (h : ¬t.val % 4 = 0) (h1 : ¬t.val % 4 = 3) (y : S704x1024.Idx) :
    (outsAt0 m c t.val t.isLt).2.2.2.2.2.2.1 y
      = (outsAt0 m c (t.val - 1) (Nat.lt_of_le_of_lt (Nat.sub_le _ _) t.isLt)).2.2.2.2.2.2.1 y + tU m c t y := by
  have e := congrFun (congrArg (fun p => p.2.2.2.2.2.2.1) (outsAt0_B m c t h h1)) y
  generalize outsAt0 m c (t.val - 1) (Nat.lt_of_le_of_lt (Nat.sub_le _ _) t.isLt) = p at e ⊢
  dsimp only at e
  rw [sout_B_1] at e
  exact e

theorem stepC_1 (t : Fin cfg0.N) (h : ¬t.val % 4 = 0) (h1 : t.val % 4 = 3) (y : S704x1024.Idx) :
    (outsAt0 m c t.val t.isLt).2.2.2.2.2.2.1 y
      = (outsAt0 m c (t.val - 1) (Nat.lt_of_le_of_lt (Nat.sub_le _ _) t.isLt)).2.2.2.2.2.2.1 y + tU m c t y := by
  have e := congrFun (congrArg (fun p => p.2.2.2.2.2.2.1) (outsAt0_C m c t h h1)) y
  generalize outsAt0 m c (t.val - 1) (Nat.lt_of_le_of_lt (Nat.sub_le _ _) t.isLt) = p at e ⊢
  dsimp only at e
  rw [sout_C_1] at e
  exact e

theorem stepA_2 (t : Fin cfg0.N) (h : t.val % 4 = 0) (y : S704x1024.Idx) :
    (outsAt0 m c t.val t.isLt).2.2.2.2.2.2.2 y = 0 + tD m c t y := by
  have e := congrFun (congrArg (fun p => p.2.2.2.2.2.2.2) (outsAt0_A m c t h (by omega))) y
  dsimp only at e
  rw [sout_A_2] at e
  exact e

theorem stepB_2 (t : Fin cfg0.N) (h : ¬t.val % 4 = 0) (h1 : ¬t.val % 4 = 3) (y : S704x1024.Idx) :
    (outsAt0 m c t.val t.isLt).2.2.2.2.2.2.2 y
      = (outsAt0 m c (t.val - 1) (Nat.lt_of_le_of_lt (Nat.sub_le _ _) t.isLt)).2.2.2.2.2.2.2 y + tD m c t y := by
  have e := congrFun (congrArg (fun p => p.2.2.2.2.2.2.2) (outsAt0_B m c t h h1)) y
  generalize outsAt0 m c (t.val - 1) (Nat.lt_of_le_of_lt (Nat.sub_le _ _) t.isLt) = p at e ⊢
  dsimp only at e
  rw [sout_B_2] at e
  exact e

theorem stepC_2 (t : Fin cfg0.N) (h : ¬t.val % 4 = 0) (h1 : t.val % 4 = 3) (y : S704x1024.Idx) :
    (outsAt0 m c t.val t.isLt).2.2.2.2.2.2.2 y
      = (outsAt0 m c (t.val - 1) (Nat.lt_of_le_of_lt (Nat.sub_le _ _) t.isLt)).2.2.2.2.2.2.2 y + tD m c t y := by
  have e := congrFun (congrArg (fun p => p.2.2.2.2.2.2.2) (outsAt0_C m c t h h1)) y
  generalize outsAt0 m c (t.val - 1) (Nat.lt_of_le_of_lt (Nat.sub_le _ _) t.isLt) = p at e ⊢
  dsimp only at e
  rw [sout_C_2] at e
  exact e

theorem scr_0 (t : Fin cfg0.N) (ht : t.val % 4 = 3) (y : S704x1024.Idx) :
    (outsAt0 m c t.val t.isLt).2.2.2.2.2.1 y
      = ∑ s : Fin 4, tG m c ⟨4 * (t.val / 4) + s.val, Pipeline.run_point_lt_of_flush t ht s⟩ y := by
  rw [Pipeline.eq_sum_fin_of_reset_step_apply_of_flush (fun n h => (outsAt0 m c n h).2.2.2.2.2.1) 4 (fun _ => (0 : EReal))
    (tG m c) (fun t h y => stepA_0 m c t h y)
    (fun t h y => if h1 : t.val % 4 = 3 then stepC_0 m c t h h1 y else stepB_0 m c t h h1 y)
    t ht y, zero_add]

theorem wr_0 (t : Fin cfg0.N) (ht : t.val % 4 = 3) (y : S1x704x1024.Idx) :
    (outsAt0 m c t.val t.isLt).1 y = (outsAt0 m c t.val t.isLt).2.2.2.2.2.1 (ix2 (y 1) (y 2)) := by
  have e := congrFun (congrArg (fun p => p.1) (outsAt0_C m c t (by omega) ht)) y
  have e' := stepC_0 m c t (by omega) ht (ix2 (y 1) (y 2))
  generalize outsAt0 m c (t.val - 1) (Nat.lt_of_le_of_lt (Nat.sub_le _ _) t.isLt) = p at e e'
  dsimp only at e
  rw [out_C_5] at e
  exact e.trans e'.symm

theorem scr_1 (t : Fin cfg0.N) (ht : t.val % 4 = 3) (y : S704x1024.Idx) :
    (outsAt0 m c t.val t.isLt).2.2.2.2.2.2.1 y
      = ∑ s : Fin 4, tU m c ⟨4 * (t.val / 4) + s.val, Pipeline.run_point_lt_of_flush t ht s⟩ y := by
  rw [Pipeline.eq_sum_fin_of_reset_step_apply_of_flush (fun n h => (outsAt0 m c n h).2.2.2.2.2.2.1) 4 (fun _ => (0 : EReal))
    (tU m c) (fun t h y => stepA_1 m c t h y)
    (fun t h y => if h1 : t.val % 4 = 3 then stepC_1 m c t h h1 y else stepB_1 m c t h h1 y)
    t ht y, zero_add]

theorem wr_1 (t : Fin cfg0.N) (ht : t.val % 4 = 3) (y : S1x704x1024.Idx) :
    (outsAt0 m c t.val t.isLt).2.1 y = (outsAt0 m c t.val t.isLt).2.2.2.2.2.2.1 (ix2 (y 1) (y 2)) := by
  have e := congrFun (congrArg (fun p => p.2.1) (outsAt0_C m c t (by omega) ht)) y
  have e' := stepC_1 m c t (by omega) ht (ix2 (y 1) (y 2))
  generalize outsAt0 m c (t.val - 1) (Nat.lt_of_le_of_lt (Nat.sub_le _ _) t.isLt) = p at e e'
  dsimp only at e
  rw [out_C_6] at e
  exact e.trans e'.symm

theorem scr_2 (t : Fin cfg0.N) (ht : t.val % 4 = 3) (y : S704x1024.Idx) :
    (outsAt0 m c t.val t.isLt).2.2.2.2.2.2.2 y
      = ∑ s : Fin 4, tD m c ⟨4 * (t.val / 4) + s.val, Pipeline.run_point_lt_of_flush t ht s⟩ y := by
  rw [Pipeline.eq_sum_fin_of_reset_step_apply_of_flush (fun n h => (outsAt0 m c n h).2.2.2.2.2.2.2) 4 (fun _ => (0 : EReal))
    (tD m c) (fun t h y => stepA_2 m c t h y)
    (fun t h y => if h1 : t.val % 4 = 3 then stepC_2 m c t h h1 y else stepB_2 m c t h h1 y)
    t ht y, zero_add]

theorem wr_2 (t : Fin cfg0.N) (ht : t.val % 4 = 3) (y : S1x704x1024.Idx) :
    (outsAt0 m c t.val t.isLt).2.2.1 y = (outsAt0 m c t.val t.isLt).2.2.2.2.2.2.2 (ix2 (y 1) (y 2)) := by
  have e := congrFun (congrArg (fun p => p.2.2.1) (outsAt0_C m c t (by omega) ht)) y
  have e' := stepC_2 m c t (by omega) ht (ix2 (y 1) (y 2))
  generalize outsAt0 m c (t.val - 1) (Nat.lt_of_le_of_lt (Nat.sub_le _ _) t.isLt) = p at e e'
  dsimp only at e
  rw [out_C_7] at e
  exact e.trans e'.symm

theorem blk_8 (t : Fin cfg0.N) : (outsAt0 m c t.val t.isLt).2.2.2.1 = dgB (B0 m c t) (B2 m c t) (B3 m c t) (B4 m c t) := by
  by_cases h : t.val % 4 = 0
  · have e := congrArg (fun p => p.2.2.2.1) (outsAt0_A m c t h (by omega))
    dsimp only at e
    rw [out_A_8] at e
    exact e
  · by_cases h1 : t.val % 4 = 3
    · have e := congrArg (fun p => p.2.2.2.1) (outsAt0_C m c t h h1)
      generalize outsAt0 m c (t.val - 1) (Nat.lt_of_le_of_lt (Nat.sub_le _ _) t.isLt) = p at e
      dsimp only at e
      rw [out_C_8] at e
      exact e
    · have e := congrArg (fun p => p.2.2.2.1) (outsAt0_B m c t h h1)
      generalize outsAt0 m c (t.val - 1) (Nat.lt_of_le_of_lt (Nat.sub_le _ _) t.isLt) = p at e
      dsimp only at e
      rw [out_B_8] at e
      exact e

theorem blk_9 (t : Fin cfg0.N) : (outsAt0 m c t.val t.isLt).2.2.2.2.1 = duB (B0 m c t) (B2 m c t) (B4 m c t) := by
  by_cases h : t.val % 4 = 0
  · have e := congrArg (fun p => p.2.2.2.2.1) (outsAt0_A m c t h (by omega))
    dsimp only at e
    rw [out_A_9] at e
    exact e
  · by_cases h1 : t.val % 4 = 3
    · have e := congrArg (fun p => p.2.2.2.2.1) (outsAt0_C m c t h h1)
      generalize outsAt0 m c (t.val - 1) (Nat.lt_of_le_of_lt (Nat.sub_le _ _) t.isLt) = p at e
      dsimp only at e
      rw [out_C_9] at e
      exact e
    · have e := congrArg (fun p => p.2.2.2.2.1) (outsAt0_B m c t h h1)
      generalize outsAt0 m c (t.val - 1) (Nat.lt_of_le_of_lt (Nat.sub_le _ _) t.isLt) = p at e
      dsimp only at e
      rw [out_B_9] at e
      exact e

end Cert.Ffn

end
-- ==== Proof.Ffn.Final.lean ====
module

public import proofs.«01_k».proof.Proof.Ffn.Arr

@[expose] public section

noncomputable section

namespace Cert.Ffn

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The five result arrays -/

/-- The gradient of the gate weights, transposed, a block per chunk of the hidden columns. -/
def rG (y : S4x704x1024.Idx) : EReal :=
  ∑ r : Fin 4096, dgA (aD m c) (aX m c) (aG m c) (aU m c) (aW m c) r (col (y 0) (y 1)) * aX m c (ix2 r (y 2))

/-- The gradient of the up weights, transposed, a block per chunk of the hidden columns. -/
def rU (y : S4x704x1024.Idx) : EReal :=
  ∑ r : Fin 4096, duA (aD m c) (aX m c) (aG m c) (aW m c) r (col (y 0) (y 1)) * aX m c (ix2 r (y 2))

/-- The gradient of the down weights, a block per chunk of the hidden columns. -/
def rD (y : S4x704x1024.Idx) : EReal :=
  ∑ r : Fin 4096, hA (aX m c) (aG m c) (aU m c) r (col (y 0) (y 1)) * doA (aD m c) r (y 2)

/-- The gradient of the gate, a block per chunk. -/
def rA (y : S4x4096x704.Idx) : EReal :=
  dgA (aD m c) (aX m c) (aG m c) (aU m c) (aW m c) (y 1) (col (y 0) (y 2))

/-- The gradient of the up projection, a block per chunk. -/
def rB (y : S4x4096x704.Idx) : EReal := duA (aD m c) (aX m c) (aG m c) (aW m c) (y 1) (col (y 0) (y 2))

theorem ch_run (t : Fin cfg0.N) (ht : t.val % 4 = 3) (s : Fin 4) (h) : ch (⟨4 * (t.val / 4) + s.val, h⟩ : Fin cfg0.N) = ch t :=
  Fin.ext (by show (4 * (t.val / 4) + s.val) / 4 = t.val / 4; omega)

theorem row_run (t : Fin cfg0.N) (s : Fin 4) (h) (k : Fin 1024) (hl : s.val * 1024 + k.val < 4096) :
    row (⟨4 * (t.val / 4) + s.val, h⟩ : Fin cfg0.N) k = ⟨s.val * 1024 + k.val, hl⟩ :=
  Fin.ext (by show (4 * (t.val / 4) + s.val) % 4 * 1024 + k.val = s.val * 1024 + k.val; omega)

theorem emb_8 (t : Fin cfg0.N) (y : S1x1024x704.Idx) : (win0_8.blk t).view.emb y = ix3 (ch t) (row t (y 1)) (y 2) := by
  blk_ext [ix_8 t]

theorem final_8 : (dats m 0 c).arrAt 8 cfg0.N = rA m c := by
  refine (dats m 0 c).arrAt_eq_of_covers 8 _ (by decide +kernel) fun t hf y => ?_
  blk_simp
  rw [after0_8, blk_8, emb_8]
  have h0 : (y 0).val < 1 := (y 0).isLt
  rw [idx3 y (0 : Fin 1) (y 1) (y 2) (by show (y 0).val = 0; omega) rfl rfl]
  exact dg_t m c t (y 1) (y 2)

theorem emb_9 (t : Fin cfg0.N) (y : S1x1024x704.Idx) : (win0_9.blk t).view.emb y = ix3 (ch t) (row t (y 1)) (y 2) := by
  blk_ext [ix_9 t]

theorem final_9 : (dats m 0 c).arrAt 9 cfg0.N = rB m c := by
  refine (dats m 0 c).arrAt_eq_of_covers 9 _ (by decide +kernel) fun t hf y => ?_
  blk_simp
  rw [after0_9, blk_9, emb_9]
  have h0 : (y 0).val < 1 := (y 0).isLt
  rw [idx3 y (0 : Fin 1) (y 1) (y 2) (by show (y 0).val = 0; omega) rfl rfl]
  exact du_t m c t (y 1) (y 2)

theorem emb_5 (t : Fin cfg0.N) (y : S1x704x1024.Idx) : (win0_5.blk t).view.emb y = ix3 (ch t) (y 1) (y 2) := by
  blk_ext [ix_5 t]

theorem final_5 : (dats m 0 c).arrAt 5 cfg0.N = rG m c := by
  refine (dats m 0 c).arrAt_eq_of_covers 5 _ (by decide +kernel) fun t hf y => ?_
  have ht := (flush0_5 t).mp hf
  blk_simp
  rw [after0_5, wr_0 m c t ht, scr_0 m c t ht, emb_5]
  show _ = ∑ r : Fin 4096, (fun r => dgA (aD m c) (aX m c) (aG m c) (aU m c) (aW m c) r (col (ch t) (y 1)) * aX m c (ix2 r (y 2))) r
  refine Fin.sum_mul_add_congr fun s k hl => ?_
  exact congrArg₂ (· * ·) ((dg_t m c _ k (y 1)).trans (by rw [ch_run t ht s, row_run t s _ k hl]))
    ((b_1 m c _ k (y 2)).trans (by rw [row_run t s _ k hl]))

theorem emb_6 (t : Fin cfg0.N) (y : S1x704x1024.Idx) : (win0_6.blk t).view.emb y = ix3 (ch t) (y 1) (y 2) := by
  blk_ext [ix_6 t]

theorem final_6 : (dats m 0 c).arrAt 6 cfg0.N = rU m c := by
  refine (dats m 0 c).arrAt_eq_of_covers 6 _ (by decide +kernel) fun t hf y => ?_
  have ht := (flush0_6 t).mp hf
  blk_simp
  rw [after0_6, wr_1 m c t ht, scr_1 m c t ht, emb_6]
  show _ = ∑ r : Fin 4096, (fun r => duA (aD m c) (aX m c) (aG m c) (aW m c) r (col (ch t) (y 1)) * aX m c (ix2 r (y 2))) r
  refine Fin.sum_mul_add_congr fun s k hl => ?_
  exact congrArg₂ (· * ·) ((du_t m c _ k (y 1)).trans (by rw [ch_run t ht s, row_run t s _ k hl]))
    ((b_1 m c _ k (y 2)).trans (by rw [row_run t s _ k hl]))

theorem emb_7 (t : Fin cfg0.N) (y : S1x704x1024.Idx) : (win0_7.blk t).view.emb y = ix3 (ch t) (y 1) (y 2) := by
  blk_ext [ix_7 t]

theorem final_7 : (dats m 0 c).arrAt 7 cfg0.N = rD m c := by
  refine (dats m 0 c).arrAt_eq_of_covers 7 _ (by decide +kernel) fun t hf y => ?_
  have ht := (flush0_7 t).mp hf
  blk_simp
  rw [after0_7, wr_2 m c t ht, scr_2 m c t ht, emb_7]
  show _ = ∑ r : Fin 4096, (fun r => hA (aX m c) (aG m c) (aU m c) r (col (ch t) (y 1)) * doA (aD m c) r (y 2)) r
  refine Fin.sum_mul_add_congr fun s k hl => ?_
  exact congrArg₂ (· * ·) ((h_t m c _ k (y 1)).trans (by rw [ch_run t ht s, row_run t s _ k hl]))
    ((do_t m c _ k (y 2)).trans (by rw [row_run t s _ k hl]))

end Cert.Ffn

end
-- ==== Proof.Ffn.Ref.lean ====
module

public import proofs.«01_k».proof.Proof.Ffn.Arr
public import proofs.«01_k».proof.Proof.Gen.ReferenceIdeal.Read

@[expose] public section

noncomputable section

namespace Cert.Ffn

open Idealize.ShloMosaic Idealize.ShloMosaic.TcCoe Idealize.SL.Sem
open Cert.ReferenceIdeal Cert.ReferenceIdeal.Read

variable (D XN : Vec Ideal S4096x1024 .f32) (WG WU : Vec Ideal S1024x2816 .f32) (WD : Vec Ideal S2816x1024 .f32)

/-! ## The reference at an index -/

theorem one_bits : Ideal.ofBits .f32 0x3F800000#32 = 1 := by
  simp [Ideal.ofBits, Ideal.ieee, -EReal.coe_mul]
  norm_num

theorem half_bits : Ideal.ofBits .f32 0x3F000000#32 = ((1 / 2 : ℝ) : EReal) := by
  simp [Ideal.ofBits, Ideal.ieee, -EReal.coe_mul]
  norm_num

theorem v0_at (r : Fin 4096) (h : Fin 2816) : val_main_v0 (F := Ideal) XN WG (ix2 r h) = projA XN WG r h := by
  rw [val_main_v0_apply]
  refine Finset.sum_congr rfl fun k _ => ?_
  exact congrArg₂ (XN · * WG ·) (idx2 _ _ _ rfl rfl) (idx2 _ _ _ rfl rfl)

theorem v28_at (r : Fin 4096) (h : Fin 2816) : val_main_v28 (F := Ideal) D WD (ix2 r h) = dhA D WD r h := by
  rw [val_main_v28_apply]
  refine Finset.sum_congr rfl fun k _ => ?_
  rw [val_main_v27_apply, val_main_v26_apply, val_main_cst_2_apply]
  exact congrArg₂ (Ideal.ofBits .f32 0x3F000000#32 * D · * WD ·) (idx2 _ _ _ rfl rfl) (idx2 _ _ _ rfl rfl)

theorem v21_2_at (r : Fin 4096) (h : Fin 2816) :
    val_main_v21_2 (F := Ideal) XN WG (ix2 r h) = Ideal.logistic (projA XN WG r h) := by
  rw [val_main_v21_2_apply, val_main_call2_v4_apply, val_main_call2_v3_apply, val_main_call2_v2_apply, val_main_call2_v1_apply,
    val_main_call2_v0_apply, val_main_call2_cst_apply, val_main_call2_cst_0_apply]
  rw [show val_main_v19 (F := Ideal) XN WG (ix2 r h) = projA XN WG r h from v0_at XN WG r h]
  show Ideal.div (Ideal.ofBits .f32 0x3F800000#32) (Ideal.ofBits .f32 0x3F800000#32 + Ideal.exp (-projA XN WG r h)) = _
  rw [one_bits]
  rfl

/-- The reference's gradient of the gate at a row and a hidden column. -/
def gref (r : Fin 4096) (h : Fin 2816) : EReal :=
  dhA D WD r h * projA XN WU r h * Ideal.logistic (projA XN WG r h)
    + projA XN WG r h * (dhA D WD r h * projA XN WU r h)
      * (Ideal.logistic (projA XN WG r h) * (1 - Ideal.logistic (projA XN WG r h)))

theorem v31_at (r : Fin 4096) (h : Fin 2816) : val_main_v31 (F := Ideal) D XN WG WU WD (ix2 r h) = gref D XN WG WU WD r h := by
  rw [val_main_v31_apply, val_main_call3_v1_apply, val_main_call3_v2_apply, val_main_call3_v0_apply, val_main_v30_apply,
    val_main_v21_1_apply, val_main_call2_v7_apply, val_main_call2_v6_apply, val_main_call2_cst_1_apply,
    v21_2_at, v28_at, show val_main_v19 (F := Ideal) XN WG (ix2 r h) = projA XN WG r h from v0_at XN WG r h,
    show val_main_v20 (F := Ideal) XN WU (ix2 r h) = projA XN WU r h from v0_at XN WU r h]
  show dhA D WD r h * projA XN WU r h * Ideal.logistic (projA XN WG r h)
    + projA XN WG r h * (dhA D WD r h * projA XN WU r h)
      * (Ideal.logistic (projA XN WG r h) * (Ideal.ofBits .f32 0x3F800000#32 - Ideal.logistic (projA XN WG r h))) = _
  rw [one_bits]
  rfl

theorem v29_at (r : Fin 4096) (h : Fin 2816) : val_main_v29 (F := Ideal) D XN WG WD (ix2 r h) = duA D XN WG WD r h := by
  rw [val_main_v29_apply, val_main_v21_0_apply, v21_2_at, v28_at,
    show val_main_v19 (F := Ideal) XN WG (ix2 r h) = projA XN WG r h from v0_at XN WG r h]
  exact mul_comm _ _

theorem v3_at (r : Fin 4096) (h : Fin 2816) : val_main_v3 (F := Ideal) XN WG WU (ix2 r h) = hA XN WG WU r h := by
  rw [val_main_v3_apply, val_main_v1_0_apply, show val_main_v1_2 (F := Ideal) XN WG (ix2 r h) = Ideal.logistic (projA XN WG r h) from v21_2_at XN WG r h,
    v0_at, show val_main_v2 (F := Ideal) XN WU (ix2 r h) = projA XN WU r h from v0_at XN WU r h]
  rfl

/-! ## The five results -/

theorem idx33 (j : Fin 4) (f : Fin 704) (k : Fin 1024) : idx_main_v33 (ix3 j f k) = ix2 (col j f) k := by
  refine idx2 _ _ _ ?_ ?_
  · show ((j.val * 704 + f.val) * 1024 + k.val) / 1024 = j.val * 704 + f.val; omega
  · show ((j.val * 704 + f.val) * 1024 + k.val) % 1024 = k.val; omega

theorem idx37 (j : Fin 4) (r : Fin 4096) (f : Fin 704) : idx_main_v37 (idx_main_v38 (ix3 j r f)) = ix2 r (col j f) := by
  refine idx2 _ _ _ ?_ ?_
  · show ((r.val * 4 + j.val) * 704 + f.val) / 2816 = r.val; omega
  · show ((r.val * 4 + j.val) * 704 + f.val) % 2816 = j.val * 704 + f.val; omega

theorem ref_A (j : Fin 4) (r : Fin 4096) (f : Fin 704) :
    val_main_v44 (F := Ideal) D XN WG WU WD (ix3 j r f) = gref D XN WG WU WD r (col j f) := by
  rw [val_main_v44_apply, val_main_v38_apply, val_main_v37_apply, idx37, v31_at]
  rfl

theorem ref_B (j : Fin 4) (r : Fin 4096) (f : Fin 704) :
    val_main_v45 (F := Ideal) D XN WG WD (ix3 j r f) = duA D XN WG WD r (col j f) := by
  rw [val_main_v45_apply, val_main_v40_apply, val_main_v39_apply,
    show idx_main_v39 (idx_main_v40 (ix3 j r f)) = ix2 r (col j f) from idx37 j r f, v29_at]
  rfl

theorem ref_G (j : Fin 4) (f : Fin 704) (k : Fin 1024) :
    val_main_v41 (F := Ideal) D XN WG WU WD (ix3 j f k) = ∑ r : Fin 4096, gref D XN WG WU WD r (col j f) * XN (ix2 r k) := by
  rw [val_main_v41_apply, val_main_v33_apply, idx33, val_main_v32_apply, val_main_v18_apply, val_main_v17_apply]
  refine Finset.sum_congr rfl fun r _ => ?_
  rw [show val_main_v16 (F := Ideal) D XN WG WU WD = val_main_v31 (F := Ideal) D XN WG WU WD from rfl]
  rw [idx2 (lidx_main_v17 _ r) r (col j f) rfl rfl, v31_at, idx2 (ridx_main_v17 _ r) r k rfl rfl]

theorem ref_U (j : Fin 4) (f : Fin 704) (k : Fin 1024) :
    val_main_v42 (F := Ideal) D XN WG WD (ix3 j f k) = ∑ r : Fin 4096, duA D XN WG WD r (col j f) * XN (ix2 r k) := by
  rw [val_main_v42_apply, val_main_v35_apply, show idx_main_v35 (ix3 j f k) = ix2 (col j f) k from idx33 j f k,
    val_main_v34_apply, val_main_v15_apply, val_main_v14_apply]
  refine Finset.sum_congr rfl fun r _ => ?_
  rw [show val_main_v12 (F := Ideal) D XN WG WD = val_main_v29 (F := Ideal) D XN WG WD from rfl]
  rw [idx2 (lidx_main_v14 _ r) r (col j f) rfl rfl, v29_at, idx2 (ridx_main_v14 _ r) r k rfl rfl]

theorem ref_D (j : Fin 4) (f : Fin 704) (k : Fin 1024) :
    val_main_v43 (F := Ideal) D XN WG WU (ix3 j f k) = ∑ r : Fin 4096, hA XN WG WU r (col j f) * doA D r k := by
  rw [val_main_v43_apply, val_main_v36_apply, show idx_main_v36 (ix3 j f k) = ix2 (col j f) k from idx33 j f k,
    val_main_v10_apply, val_main_v9_apply]
  refine Finset.sum_congr rfl fun r _ => ?_
  rw [idx2 (ridx_main_v9 _ r) r (col j f) rfl rfl, v3_at, idx2 (lidx_main_v9 _ r) r k rfl rfl,
    val_main_v8_apply, val_main_v7_apply, val_main_cst_0_apply]
  exact mul_comm _ _

end Cert.Ffn

end
-- ==== Proof.Ffn.Alg.lean ====
module

public import proofs.«01_k».proof.Proof.Ffn.Final
public import proofs.«01_k».proof.Proof.Ffn.Ref
public import proofs.«01_k».proof.Proof.Gen.Pre_finite
public import proofs.«01_k».proof.Defs
public import proofs.«01_k».proof.Proof.Gen.KernelIdeal.Value
public import Idealize.ShloMosaic.Lib.ReduceAll
public import Idealize.ShloMosaic.Lib.Pointwise.Select

@[expose] public section

noncomputable section

namespace Cert.Ffn

open Idealize.ShloMosaic Idealize.ShloMosaic.TcCoe Idealize.SL.Sem

/-! ## Finite values are real numbers -/

theorem inf_bits : Ideal.ofBits .f32 0x7F800000#32 = ⊤ := by
  simp [Ideal.ofBits, Ideal.ieee]

theorem real_of_abs_lt (x : EReal) (h : max x (-x) < ⊤) : ∃ a : ℝ, x = a := by
  induction x using EReal.rec with
  | bot => simp at h
  | top => simp at h
  | coe a => exact ⟨a, rfl⟩

theorem real_mul {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

theorem real_sum {n : Nat} (f : Fin n → EReal) (h : ∀ k, ∃ a : ℝ, f k = a) : ∃ a : ℝ, ∑ k, f k = a := by
  choose g hg using h
  refine ⟨∑ k, g k, ?_⟩
  rw [show f = fun k => (g k : EReal) from funext hg]
  induction (Finset.univ : Finset (Fin n)) using Finset.induction with
  | empty => simp
  | insert a s ha ih => rw [Finset.sum_insert ha, Finset.sum_insert ha, ih, EReal.coe_add]

theorem real_logistic (x : EReal) (hx : ∃ a : ℝ, x = a) : ∃ a : ℝ, Ideal.logistic x = a := by
  obtain ⟨a, rfl⟩ := hx
  exact ⟨_, Ideal.logistic_coe a⟩

/-! ## The gradient of `silu` in the kernel's form and in the reference's -/

theorem silu_grad (e u g s : EReal) (he : ∃ a : ℝ, e = a) (hu : ∃ a : ℝ, u = a) (hg : ∃ a : ℝ, g = a) (hs : ∃ a : ℝ, s = a) :
    e * u * (s * (1 + g * (1 - s))) = e * u * s + g * (e * u) * (s * (1 - s)) := by
  obtain ⟨e, rfl⟩ := he
  obtain ⟨u, rfl⟩ := hu
  obtain ⟨g, rfl⟩ := hg
  obtain ⟨s, rfl⟩ := hs
  norm_cast
  ring

section Arrays

variable (D XN : (⟨2, ![4096, 1024]⟩ : Shape).Idx → EReal) (WG WU : (⟨2, ![1024, 2816]⟩ : Shape).Idx → EReal)
  (WD : (⟨2, ![2816, 1024]⟩ : Shape).Idx → EReal)

theorem dg_eq (hD : ∀ i, ∃ a : ℝ, D i = a) (hX : ∀ i, ∃ a : ℝ, XN i = a) (hG : ∀ i, ∃ a : ℝ, WG i = a)
    (hU : ∀ i, ∃ a : ℝ, WU i = a) (hW : ∀ i, ∃ a : ℝ, WD i = a) (r : Fin 4096) (h : Fin 2816) :
    dgA D XN WG WU WD r h = gref D XN WG WU WD r h := by
  have pG : ∃ a : ℝ, projA XN WG r h = a := real_sum _ fun k => real_mul (hX _) (hG _)
  have pU : ∃ a : ℝ, projA XN WU r h = a := real_sum _ fun k => real_mul (hX _) (hU _)
  have pE : ∃ a : ℝ, dhA D WD r h = a := real_sum _ fun k => real_mul (real_mul ⟨_, half_bits⟩ (hD _)) (hW _)
  exact silu_grad _ _ _ _ pE pU pG (real_logistic _ pG)

end Arrays

/-! ## The precondition read back -/

section Pre

open Cert.Pre_finite Cert.Pre_finite.Facts

attribute [local instance] Cert.Pre_finite.Gen.facts

theorem real_of_all {s : Shape} (x : Vec Ideal s .f32) (hb : S_.BroadcastsInDim s (![] : Fin 0 → Fin s.rank)) {axes : List (Fin s.rank)}
    (h : s.ReducesTo axes S_) (h0 : 0 < S_.numel)
    (e : Host.reduce IntOp.andi (cmpf .olt (Host.absf (F := Ideal) (φ := .f32) x)
      (broadcastInDim s ![] hb (constant (F := Ideal) S_ .f32 0x7F800000#32))) (constantI S_ 1 1#1) h h0 (fun a => a.elim0) = 1#1) (i : s.Idx) :
    ∃ a : ℝ, x i = a := by
  haveI : Subsingleton S_.Idx := ⟨fun a b => funext fun k => k.elim0⟩
  have e' := Host.reduce_andi_all _ _ h h0 _ e i
  refine real_of_abs_lt _ ?_
  rw [← inf_bits]
  exact (Ideal.cmp_olt_eq_one _ _).mp e'

theorem finite_real (x0 x1 : Vec Ideal S4096x1024 .f32) (x2 x3 : Vec Ideal S1024x2816 .f32) (x4 : Vec Ideal S2816x1024 .f32)
    (e : Cert.Pre_finite.fn (F := Ideal) x0 x1 x2 x3 x4 = fun _ => 1#1) :
    (∀ i, ∃ a : ℝ, x0 i = a) ∧ (∀ i, ∃ a : ℝ, x1 i = a) ∧ (∀ i, ∃ a : ℝ, x2 i = a) ∧ (∀ i, ∃ a : ℝ, x3 i = a)
      ∧ ∀ i, ∃ a : ℝ, x4 i = a := by
  have e0 := congrFun e (fun a => a.elim0)
  obtain ⟨e1, h4⟩ := IntOp.andi_eq_one.1 e0
  obtain ⟨e2, h3⟩ := IntOp.andi_eq_one.1 e1
  obtain ⟨e3, h2⟩ := IntOp.andi_eq_one.1 e2
  obtain ⟨h0, h1⟩ := IntOp.andi_eq_one.1 e3
  exact ⟨real_of_all x0 _ _ _ h0, real_of_all x1 _ _ _ h1, real_of_all x2 _ _ _ h2, real_of_all x3 _ _ _ h3, real_of_all x4 _ _ _ h4⟩

end Pre

/-! ## The claim -/

section Claim

attribute [local instance] Cert.KernelIdeal.Gen.facts Cert.ReferenceIdeal.Gen.facts Cert.Pre_finite.Gen.facts

open Cert.KernelIdeal Cert.KernelIdeal.Gen

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v11_0) = rG m c
      ∧ r.2.mem ((c : Thread nD τ).loc main_v11_1) = rU m c
      ∧ r.2.mem ((c : Thread nD τ).loc main_v11_2) = rD m c
      ∧ r.2.mem ((c : Thread nD τ).loc main_v11_3) = rA m c
      ∧ r.2.mem ((c : Thread nD τ).loc main_v11_4) = rB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((Cert.KernelIdeal.Value.final5 m c).symm.trans (final_5 m c)),
      (h c).2.1.trans ((Cert.KernelIdeal.Value.final6 m c).symm.trans (final_6 m c)),
      (h c).2.2.1.trans ((Cert.KernelIdeal.Value.final7 m c).symm.trans (final_7 m c)),
      (h c).2.2.2.1.trans ((Cert.KernelIdeal.Value.final8 m c).symm.trans (final_8 m c)),
      (h c).2.2.2.2.1.trans ((Cert.KernelIdeal.Value.final9 m c).symm.trans (final_9 m c)),
      (h c).2.2.2.2.2⟩)
    (Cert.KernelIdeal.Value.run m ρ)

open Cert.ReferenceIdeal.Read in
theorem algebraic : Cert.algebraic_KernelIdeal_ReferenceIdeal_pre_finite := by
  intro m g m' g' hpre hagree
  have key : ∀ c : Dev nD,
      (∀ i, ∃ a : ℝ, aD m c i = a) ∧ (∀ i, ∃ a : ℝ, aX m c i = a) ∧ (∀ i, ∃ a : ℝ, aG m c i = a)
        ∧ (∀ i, ∃ a : ℝ, aU m c i = a) ∧ ∀ i, ∃ a : ℝ, aW m c i = a := fun c => finite_real _ _ _ _ _ (hpre c)
  refine ⟨rG m, rU m, rD m, rA m, rB m, kernel_run m g, ?_⟩
  refine (θ_run Cert.ReferenceIdeal.defs _ _).mono (fun r h c => ?_) (Cert.ReferenceIdeal.Value.run m' g')
  obtain ⟨e0, e1, e2, e3, e4⟩ := hagree c
  obtain ⟨h0, h1, h2, h3, h4, hk⟩ := h c
  obtain ⟨kD, kX, kG, kU, kW⟩ := key c
  refine ⟨h0.trans ((val_main_v41_eq _ _ _ _ _).trans ?_), h1.trans ((val_main_v42_eq _ _ _ _).trans ?_),
    h2.trans ((val_main_v43_eq _ _ _ _).trans ?_), h3.trans ((val_main_v44_eq _ _ _ _ _).trans ?_),
    h4.trans ((val_main_v45_eq _ _ _ _).trans ?_), hk⟩
  · rw [e0, e1, e2, e3, e4]
    funext y
    rw [eq_ix3 y]
    refine (ref_G (aD m c) (aX m c) (aG m c) (aU m c) (aW m c) _ _ _).trans ?_
    exact Finset.sum_congr rfl fun r _ => by rw [← dg_eq _ _ _ _ _ kD kX kG kU kW]; rfl
  · rw [e0, e1, e2, e4]
    funext y
    rw [eq_ix3 y]
    exact ref_U (aD m c) (aX m c) (aG m c) (aW m c) _ _ _
  · rw [e0, e1, e2, e3]
    funext y
    rw [eq_ix3 y]
    exact ref_D (aD m c) (aX m c) (aG m c) (aU m c) _ _ _
  · rw [e0, e1, e2, e3, e4]
    funext y
    rw [eq_ix3 y]
    exact (ref_A (aD m c) (aX m c) (aG m c) (aU m c) (aW m c) _ _ _).trans (dg_eq _ _ _ _ _ kD kX kG kU kW _ _).symm
  · rw [e0, e1, e2, e4]
    funext y
    rw [eq_ix3 y]
    exact ref_B (aD m c) (aX m c) (aG m c) (aW m c) _ _ _

end Claim

end Cert.Ffn

end
-- ==== Proof.Norm.Pay.lean ====
module

public import proofs.«01_k».proof.Proof.Gen.Kernel2Ideal.Skeleton
public import Idealize.ShloMosaic.Lib.Pipeline.ValueKit.Point
public import Idealize.ShloMosaic.Lib.Pointwise.Tactic
public import Idealize.ShloMosaic.Lib.ValueIdx

@[expose] public section

noncomputable section

namespace Cert.Norm

open Idealize.ShloMosaic Idealize.ShloMosaic.TcCoe Idealize.SL.Sem
open Cert.Kernel2Ideal Cert.Kernel2Ideal.Gen

/-! ## One row of the norm -/

/-- The mean square of a row plus epsilon. -/
def msq (X : Fin 1024 → EReal) : EReal :=
  Ideal.div (∑ k : Fin 1024, X k * X k) (Ideal.ofBits .f32 1149239296#32) + Ideal.ofBits .f32 897988541#32

/-- The inverse root of the row's mean square. -/
def inv (X : Fin 1024 → EReal) : EReal := Ideal.rsqrt (msq X)

/-- The gradient of a row of the norm, the residual's gradient added: `A` is the gradient of the norm's result, `G` the gain. -/
def dxRow (A X G : Fin 1024 → EReal) (d : EReal) (k : Fin 1024) : EReal :=
  inv X * (A k * G k - X k * inv X
    * Ideal.div (∑ j : Fin 1024, A j * G j * (X j * inv X)) (Ideal.ofBits .f32 1149239296#32)) + d

theorem pay4_at (a x : Vec Ideal S512x1024 .f32) (g : Vec Ideal S1x1024 .f32) (d : Vec Ideal S512x1024 .f32) (y : S512x1024.Idx) :
    k0_pay4 a x g d y
      = dxRow (fun k => a (ix2 (y 0) k)) (fun k => x (ix2 (y 0) k)) (fun k => g (ix2 0 k)) (d y) (y 1) := by
  obtain ⟨p, q, rfl⟩ : ∃ p q, y = ix2 p q := ⟨_, _, eq_ix2 y⟩
  pointwise [k0_pay4, k0_pay3, k0_pay2, dxRow, inv, msq]

theorem pay5_at (a x : Vec Ideal S512x1024 .f32) (v : Vec Ideal S1x1024 .f32) (y : S1x1024.Idx) :
    k0_pay5 a x v y
      = v y + ∑ r : Fin 512, a (ix2 r (y 1)) * (x (ix2 r (y 1)) * inv (fun k => x (ix2 r k))) := by
  pointwise [k0_pay5, k0_pay3, k0_pay2, inv, msq]

/-! ## The gradient of the norm's result on a block of rows -/

section Block

variable (x0 x1 : Vec Ideal S4x512x704 .bf16) (x2 x3 : Vec Ideal S4x704x1024 .bf16)

/-- The gradient of the norm's result: both projections' gradients against their weights, chunk by chunk. -/
def dxnB (r : Fin 512) (k : Fin 1024) : EReal :=
  (∑ j : Fin 4, ∑ f : Fin 704, x0 (ix3 j r f) * x2 (ix3 j f k))
    + ∑ j : Fin 4, ∑ f : Fin 704, x1 (ix3 j r f) * x3 (ix3 j f k)

theorem dxn_read : k0_pay1 (F := Ideal) (k0_pay10 (k0_pay8 (View.ld x0 (Rect.unit ![0, 0, 0] ![1, 512, 704] inb_S4x512x704_S1x512x704_0_0_0)) (View.ld x2 (Rect.unit ![0, 0, 0] ![1, 704, 1024] inb_S4x704x1024_S1x704x1024_0_0_0)) (View.ld x0 (Rect.unit ![1, 0, 0] ![1, 512, 704] inb_S4x512x704_S1x512x704_1_0_0)) (View.ld x2 (Rect.unit ![1, 0, 0] ![1, 704, 1024] inb_S4x704x1024_S1x704x1024_1_0_0)) (View.ld x0 (Rect.unit ![2, 0, 0] ![1, 512, 704] inb_S4x512x704_S1x512x704_2_0_0)) (View.ld x2 (Rect.unit ![2, 0, 0] ![1, 704, 1024] inb_S4x704x1024_S1x704x1024_2_0_0))) (k0_pay9 (View.ld x0 (Rect.unit ![3, 0, 0] ![1, 512, 704] inb_S4x512x704_S1x512x704_3_0_0))) (View.ld x2 (Rect.unit ![3, 0, 0] ![1, 704, 1024] inb_S4x704x1024_S1x704x1024_3_0_0)) (View.ld x1 (Rect.unit ![0, 0, 0] ![1, 512, 704] inb_S4x512x704_S1x512x704_0_0_0)) (View.ld x3 (Rect.unit ![0, 0, 0] ![1, 704, 1024] inb_S4x704x1024_S1x704x1024_0_0_0)) (View.ld x1 (Rect.unit ![1, 0, 0] ![1, 512, 704] inb_S4x512x704_S1x512x704_1_0_0)) (View.ld x3 (Rect.unit ![1, 0, 0] ![1, 704, 1024] inb_S4x704x1024_S1x704x1024_1_0_0)) (View.ld x1 (Rect.unit ![2, 0, 0] ![1, 512, 704] inb_S4x512x704_S1x512x704_2_0_0)) (View.ld x3 (Rect.unit ![2, 0, 0] ![1, 704, 1024] inb_S4x704x1024_S1x704x1024_2_0_0)) (View.ld x1 (Rect.unit ![3, 0, 0] ![1, 512, 704] inb_S4x512x704_S1x512x704_3_0_0)) (View.ld x3 (Rect.unit ![3, 0, 0] ![1, 704, 1024] inb_S4x704x1024_S1x704x1024_3_0_0))) (k0_pay6 (F := Ideal))
    = fun y => dxnB x0 x1 x2 x3 (y 0) (y 1) := by
  funext y
  obtain ⟨p, q, rfl⟩ : ∃ p q, y = ix2 p q := ⟨_, _, eq_ix2 y⟩
  pointwise [k0_pay1, k0_pay6, k0_pay10, k0_pay8, k0_pay9, dxnB, Fin.sum_univ_four]
  simp only [zero_add, add_assoc]

theorem zero_g (y : S1x1024.Idx) : k0_pay7 (F := Ideal) y = 0 := by
  pointwise [k0_pay7]

end Block

end Cert.Norm

end
-- ==== Proof.Norm.Case.lean ====
module

public import proofs.«01_k».proof.Proof.Gen.Kernel2Ideal.Frame
public import proofs.«01_k».proof.Proof.Norm.Pay

@[expose] public section

noncomputable section

namespace Cert.Norm

open Idealize.ShloMosaic Idealize.ShloMosaic.TcCoe Idealize.SL.Sem
open Cert.Kernel2Ideal Cert.Kernel2Ideal.Gen

variable (c : Dev nD) (i : grid0.Coords)
  (arg2 : Memref sig .tc .vmem S4x512x704 .bf16) (harg2 : arg2.IsWhole)
  (arg3 : Memref sig .tc .vmem S4x512x704 .bf16) (harg3 : arg3.IsWhole)
  (arg4 : Memref sig .tc .vmem S4x704x1024 .bf16) (harg4 : arg4.IsWhole)
  (arg5 : Memref sig .tc .vmem S4x704x1024 .bf16) (harg5 : arg5.IsWhole)
  (arg6 : Memref sig .tc .vmem S512x1024 .f32) (harg6 : arg6.IsWhole)
  (arg7 : Memref sig .tc .vmem S1x1024 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S1x1024 .f32) (harg10 : arg10.IsWhole)
  (arg11 : Memref sig .tc .vmem S512x1024 .f32) (harg11 : arg11.IsWhole)
  (hc0 : cond0_0 i) (hc2 : cond0_2 i)
  (x0 x1 : Vec Ideal S4x512x704 .bf16) (x2 x3 : Vec Ideal S4x704x1024 .bf16)
  (x4 : Vec Ideal S512x1024 .f32) (x5 : Vec Ideal S1x1024 .f32) (x6 : Vec Ideal S512x1024 .f32) (xo8 : Vec Ideal S1x1024 .f32)

/-- The block of the gradient of the input. -/
def dxB (y : S512x1024.Idx) : EReal :=
  dxRow (fun k => dxnB x0 x1 x2 x3 (y 0) k) (fun k => x4 (ix2 (y 0) k)) (fun k => x5 (ix2 0 k)) (x6 y) (y 1)

/-- What one block of rows adds to the gradient of the gain. -/
def partB (y : S1x1024.Idx) : EReal :=
  ∑ r : Fin 512, dxnB x0 x1 x2 x3 r (y 1) * (x4 (ix2 r (y 1)) * inv (fun k => x4 (ix2 r k)))

theorem out_A_7 (hc1 : cond0_1 i) (y : S512x1024.Idx) :
    out0_A_7 c i arg2 harg2 arg3 harg3 arg4 harg4 arg5 harg5 arg6 harg6 arg7 harg7 arg8 harg8 arg9 harg9 arg10 harg10 arg11 harg11 hc0 hc1 hc2 x0 x1 x2 x3 x4 x5 x6 y = dxB x0 x1 x2 x3 x4 x5 x6 y := by
  frame_out
  rw [dxn_read x0 x1 x2 x3, pay4_at]
  rfl

theorem out_A_8 (hc1 : cond0_1 i) (y : S1x1024.Idx) :
    out0_A_8 c i arg2 harg2 arg3 harg3 arg4 harg4 arg5 harg5 arg6 harg6 arg7 harg7 arg8 harg8 arg9 harg9 arg10 harg10 arg11 harg11 hc0 hc1 hc2 x0 x1 x2 x3 x4 x5 x6 y = 0 + partB x0 x1 x2 x3 x4 y := by
  frame_out
  rw [dxn_read x0 x1 x2 x3, pay5_at, zero_g]
  rfl

theorem out_B_7 (hc1 : ¬cond0_1 i) (y : S512x1024.Idx) :
    out0_B_7 c i arg2 harg2 arg3 harg3 arg4 harg4 arg5 harg5 arg6 harg6 arg7 harg7 arg8 harg8 arg9 harg9 arg10 harg10 arg11 harg11 hc0 hc1 hc2 x0 x1 x2 x3 x4 x5 x6 xo8 y = dxB x0 x1 x2 x3 x4 x5 x6 y := by
  frame_out
  rw [dxn_read x0 x1 x2 x3, pay4_at]
  rfl

theorem out_B_8 (hc1 : ¬cond0_1 i) (y : S1x1024.Idx) :
    out0_B_8 c i arg2 harg2 arg3 harg3 arg4 harg4 arg5 harg5 arg6 harg6 arg7 harg7 arg8 harg8 arg9 harg9 arg10 harg10 arg11 harg11 hc0 hc1 hc2 x0 x1 x2 x3 x4 x5 x6 xo8 y = xo8 y + partB x0 x1 x2 x3 x4 y := by
  frame_out
  rw [dxn_read x0 x1 x2 x3, pay5_at]
  rfl

end Cert.Norm

end
-- ==== Proof.Norm.Arr.lean ====
module

public import proofs.«01_k».proof.Proof.Norm.Case
public import Idealize.ShloMosaic.Lib.Pipeline.ValueKit.Acc

@[expose] public section

noncomputable section

namespace Cert.Norm

open Idealize.ShloMosaic Idealize.ShloMosaic.TcCoe Idealize.SL.Sem
open Cert.Kernel2Ideal Cert.Kernel2Ideal.Gen

theorem idx2 {n0 n1 : Nat} (y : (⟨2, ![n0, n1]⟩ : Shape).Idx) (a : Fin n0) (b : Fin n1)
    (h0 : (y 0 : Nat) = a) (h1 : (y 1 : Nat) = b) : y = ix2 a b :=
  (eq_ix2 y).trans (by rw [show y 0 = a from Fin.ext h0, show y 1 = b from Fin.ext h1])

/-! ## The mathematics over whole arrays -/

section Arrays

variable (X R : (⟨2, ![4096, 1024]⟩ : Shape).Idx → EReal) (G : (⟨1, ![1024]⟩ : Shape).Idx → EReal)
  (WG WU : (⟨2, ![1024, 2816]⟩ : Shape).Idx → EReal) (DA DB : (⟨2, ![4096, 2816]⟩ : Shape).Idx → EReal)

/-- The gradient of the norm's result. -/
def dxnA (r : Fin 4096) (k : Fin 1024) : EReal :=
  (∑ h : Fin 2816, DA (ix2 r h) * WG (ix2 k h)) + ∑ h : Fin 2816, DB (ix2 r h) * WU (ix2 k h)

/-- The gradient of the input. -/
def dxA (r : Fin 4096) (k : Fin 1024) : EReal :=
  dxRow (fun j => dxnA WG WU DA DB r j) (fun j => X (ix2 r j)) (fun j => G (ix1 j)) (R (ix2 r k)) k

/-- The gradient of the gain. -/
def dgA (k : Fin 1024) : EReal :=
  ∑ r : Fin 4096, dxnA WG WU DA DB r k * (X (ix2 r k) * inv (fun j => X (ix2 r j)))

end Arrays

variable (m : (ℓ : Loc nD τ sig) → Buf (Elt Ideal) ℓ) (c : Dev nD)

/-- A hidden column of a chunk. -/
abbrev col (j : Fin 4) (f : Fin 704) : Fin 2816 := ⟨j.val * 704 + f.val, by omega⟩

abbrev aX : Vec Ideal S4096x1024 .f32 := m ((c : Thread nD τ).loc main_arg0)
abbrev aN : Vec Ideal S1024 .f32 := m ((c : Thread nD τ).loc main_arg1)
abbrev aG : Vec Ideal S1024x2816 .f32 := m ((c : Thread nD τ).loc main_arg2)
abbrev aU : Vec Ideal S1024x2816 .f32 := m ((c : Thread nD τ).loc main_arg3)
abbrev aR : Vec Ideal S4096x1024 .f32 := m ((c : Thread nD τ).loc main_arg4)
abbrev aA : Vec Ideal S4096x2816 .f32 := m ((c : Thread nD τ).loc main_arg5)
abbrev aB : Vec Ideal S4096x2816 .f32 := m ((c : Thread nD τ).loc main_arg6)

theorem a_V (j : Fin 4) (r : Fin 4096) (f : Fin 704) : V m c main_v2 (ix3 j r f) = aA m c (ix2 r (col j f)) := by
  entry_read
  pointwise

theorem b_V (j : Fin 4) (r : Fin 4096) (f : Fin 704) : V m c main_v5 (ix3 j r f) = aB m c (ix2 r (col j f)) := by
  entry_read
  pointwise

theorem g_V (j : Fin 4) (f : Fin 704) (k : Fin 1024) : V m c main_v8 (ix3 j f k) = aG m c (ix2 k (col j f)) := by
  entry_read
  pointwise

theorem u_V (j : Fin 4) (f : Fin 704) (k : Fin 1024) : V m c main_v11 (ix3 j f k) = aU m c (ix2 k (col j f)) := by
  entry_read
  pointwise

theorem n_V (k : Fin 1024) : V m c main_v12 (ix2 0 k) = aN m c (ix1 k) := by
  entry_read
  pointwise

/-! ## The blocks of a grid point -/

theorem hN : cfg0.N = 8 := N_0

/-- A row of a point's block. -/
abbrev row (t : Fin cfg0.N) (r : Fin 512) : Fin 4096 := ⟨t.val * 512 + r.val, by have := t.isLt; have := hN; omega⟩

theorem ix_0 : ∀ t : Fin cfg0.N, win0_0.index t = ![0, t.val, 0] := (by decide +kernel : ∀ t : Fin grid0.N, _)
theorem ix_1 : ∀ t : Fin cfg0.N, win0_1.index t = ![0, t.val, 0] := (by decide +kernel : ∀ t : Fin grid0.N, _)
theorem ix_2 : ∀ t : Fin cfg0.N, win0_2.index t = ![0, 0, 0] := (by decide +kernel : ∀ t : Fin grid0.N, _)
theorem ix_3 : ∀ t : Fin cfg0.N, win0_3.index t = ![0, 0, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![0, 0] := (by decide +kernel : ∀ t : Fin grid0.N, _)

abbrev B0 (t : Fin cfg0.N) : Vec Ideal S4x512x704 .bf16 := iblk m c 0 t
abbrev B1 (t : Fin cfg0.N) : Vec Ideal S4x512x704 .bf16 := iblk m c 1 t
abbrev B2 (t : Fin cfg0.N) : Vec Ideal S4x704x1024 .bf16 := iblk m c 2 t
abbrev B3 (t : Fin cfg0.N) : Vec Ideal S4x704x1024 .bf16 := iblk m c 3 t
abbrev B4 (t : Fin cfg0.N) : Vec Ideal S512x1024 .f32 := iblk m c 4 t
abbrev B5 (t : Fin cfg0.N) : Vec Ideal S1x1024 .f32 := iblk m c 5 t
abbrev B6 (t : Fin cfg0.N) : Vec Ideal S512x1024 .f32 := iblk m c 6 t

theorem b_0 (t : Fin cfg0.N) (j : Fin 4) (r : Fin 512) (f : Fin 704) :
    B0 m c t (ix3 j r f) = aA m c (ix2 (row t r) (col j f)) := by
  rw [← a_V]
  blk_ext! [iblk, ix_0 t]

theorem b_1 (t : Fin cfg0.N) (j : Fin 4) (r : Fin 512) (f : Fin 704) :
    B1 m c t (ix3 j r f) = aB m c (ix2 (row t r) (col j f)) := by
  rw [← b_V]
  blk_ext! [iblk, ix_1 t]

theorem b_2 (t : Fin cfg0.N) (j : Fin 4) (f : Fin 704) (k : Fin 1024) : B2 m c t (ix3 j f k) = aG m c (ix2 k (col j f)) := by
  rw [← g_V]
  blk_ext! [iblk, ix_2 t]

theorem b_3 (t : Fin cfg0.N) (j : Fin 4) (f : Fin 704) (k : Fin 1024) : B3 m c t (ix3 j f k) = aU m c (ix2 k (col j f)) := by
  rw [← u_V]
  blk_ext! [iblk, ix_3 t]

theorem b_4 (t : Fin cfg0.N) (r : Fin 512) (k : Fin 1024) : B4 m c t (ix2 r k) = aX m c (ix2 (row t r) k) := by
  blk_ext! [iblk, V, ix_4 t]

theorem b_5 (t : Fin cfg0.N) (k : Fin 1024) : B5 m c t (ix2 0 k) = aN m c (ix1 k) := by
  rw [← n_V]
  blk_ext! [iblk, ix_5 t]

theorem b_6 (t : Fin cfg0.N) (r : Fin 512) (k : Fin 1024) : B6 m c t (ix2 r k) = aR m c (ix2 (row t r) k) := by
  blk_ext! [iblk, V, ix_6 t]

theorem dxn_t (t : Fin cfg0.N) (r : Fin 512) (k : Fin 1024) :
    dxnB (B0 m c t) (B1 m c t) (B2 m c t) (B3 m c t) r k = dxnA (aG m c) (aU m c) (aA m c) (aB m c) (row t r) k := by
  unfold dxnB dxnA
  simp only [b_0, b_1, b_2, b_3]
  refine congrArg₂ (· + ·) ?_ ?_
  · show _ = ∑ h : Fin 2816, (fun h => aA m c (ix2 (row t r) h) * aG m c (ix2 k h)) h
    exact Fin.sum_mul_add_congr fun s f hl => rfl
  · show _ = ∑ h : Fin 2816, (fun h => aB m c (ix2 (row t r) h) * aU m c (ix2 k h)) h
    exact Fin.sum_mul_add_congr fun s f hl => rfl

theorem dx_t (t : Fin cfg0.N) (r : Fin 512) (k : Fin 1024) :
    dxB (B0 m c t) (B1 m c t) (B2 m c t) (B3 m c t) (B4 m c t) (B5 m c t) (B6 m c t) (ix2 r k)
      = dxA (aX m c) (aR m c) (aN m c) (aG m c) (aU m c) (aA m c) (aB m c) (row t r) k := by
  show dxRow (fun j => dxnB (B0 m c t) (B1 m c t) (B2 m c t) (B3 m c t) r j) (fun j => B4 m c t (ix2 r j))
    (fun j => B5 m c t (ix2 0 j)) (B6 m c t (ix2 r k)) k = _
  simp only [dxn_t, b_4, b_5, b_6]
  rfl

/-! ## The carried sum -/

abbrev tB (t : Fin cfg0.N) (y : S1x1024.Idx) : EReal := partB (B0 m c t) (B1 m c t) (B2 m c t) (B3 m c t) (B4 m c t) y

theorem tB_t (t : Fin cfg0.N) (y : S1x1024.Idx) :
    tB m c t y = ∑ r : Fin 512, dxnA (aG m c) (aU m c) (aA m c) (aB m c) (row t r) (y 1)
      * (aX m c (ix2 (row t r) (y 1)) * inv (fun j => aX m c (ix2 (row t r) j))) := by
  refine Finset.sum_congr rfl fun r _ => ?_
  exact congrArg₂ (· * ·) (dxn_t m c t r (y 1))
    (congrArg₂ (· * ·) (b_4 m c t r (y 1)) (congrArg inv (funext fun k => b_4 m c t r k)))

theorem stepA_8 (t : Fin cfg0.N) (h : t.val % 8 = 0) (y : S1x1024.Idx) :
    (outsAt0 m c t.val t.isLt).2 y = 0 + tB m c t y := by
  have e := congrFun (congrArg (fun p => p.2) (outsAt0_A m c t h)) y
  dsimp only at e
  rw [out_A_8] at e
  exact e

theorem stepB_8 (t : Fin cfg0.N) (h : ¬t.val % 8 = 0) (y : S1x1024.Idx) :
    (outsAt0 m c t.val t.isLt).2 y
      = (outsAt0 m c (t.val - 1) (Nat.lt_of_le_of_lt (Nat.sub_le _ _) t.isLt)).2 y + tB m c t y := by
  have e := congrFun (congrArg (fun p => p.2) (outsAt0_B m c t h)) y
  generalize outsAt0 m c (t.val - 1) (Nat.lt_of_le_of_lt (Nat.sub_le _ _) t.isLt) = p at e ⊢
  dsimp only at e
  rw [out_B_8] at e
  exact e

theorem acc_8 (t : Fin cfg0.N) (ht : t.val % 8 = 7) (y : S1x1024.Idx) :
    (outsAt0 m c t.val t.isLt).2 y
      = ∑ s : Fin 8, tB m c ⟨8 * (t.val / 8) + s.val, Pipeline.run_point_lt_of_flush t ht s⟩ y := by
  rw [Pipeline.eq_sum_fin_of_reset_step_apply_of_flush (fun n h => (outsAt0 m c n h).2) 8 (fun _ => (0 : EReal))
    (tB m c) (fun t h y => stepA_8 m c t h y) (fun t h y => stepB_8 m c t h y) t ht y, zero_add]

theorem blk_7 (t : Fin cfg0.N) (y : S512x1024.Idx) :
    (outsAt0 m c t.val t.isLt).1 y = dxB (B0 m c t) (B1 m c t) (B2 m c t) (B3 m c t) (B4 m c t) (B5 m c t) (B6 m c t) y := by
  by_cases h : t.val % 8 = 0
  · have e := congrFun (congrArg (fun p => p.1) (outsAt0_A m c t h)) y
    dsimp only at e
    rw [out_A_7] at e
    exact e
  · have e := congrFun (congrArg (fun p => p.1) (outsAt0_B m c t h)) y
    generalize outsAt0 m c (t.val - 1) (Nat.lt_of_le_of_lt (Nat.sub_le _ _) t.isLt) = p at e
    dsimp only at e
    rw [out_B_7] at e
    exact e

/-! ## The two result arrays -/

/-- The gradient of the input. -/
def rX (y : S4096x1024.Idx) : EReal :=
  dxA (aX m c) (aR m c) (aN m c) (aG m c) (aU m c) (aA m c) (aB m c) (y 0) (y 1)

/-- The gradient of the gain. -/
def rN (y : S1x1024.Idx) : EReal := dgA (aX m c) (aG m c) (aU m c) (aA m c) (aB m c) (y 1)

theorem emb_7 (t : Fin cfg0.N) (y : S512x1024.Idx) : (win0_7.blk t).view.emb y = ix2 (row t (y 0)) (y 1) := by
  blk_ext [ix_7 t]

theorem final_7 : (dats m 0 c).arrAt 7 cfg0.N = rX m c := by
  refine (dats m 0 c).arrAt_eq_of_covers 7 _ (by decide +kernel) fun t hf y => ?_
  blk_simp
  rw [after0_7, blk_7, emb_7, idx2 y (y 0) (y 1) rfl rfl]
  exact dx_t m c t (y 0) (y 1)

theorem emb_8 (t : Fin cfg0.N) (y : S1x1024.Idx) : (win0_8.blk t).view.emb y = ix2 0 (y 1) := by
  blk_ext [ix_8 t]

theorem row_run (t : Fin cfg0.N) (ht : t.val % 8 = 7) (s : Fin 8) (h) (k : Fin 512) (hl : s.val * 512 + k.val < 4096) :
    row (⟨8 * (t.val / 8) + s.val, h⟩ : Fin cfg0.N) k = ⟨s.val * 512 + k.val, hl⟩ :=
  Fin.ext (by have := t.isLt; have := hN; show (8 * (t.val / 8) + s.val) * 512 + k.val = s.val * 512 + k.val; omega)

theorem final_8 : (dats m 0 c).arrAt 8 cfg0.N = rN m c := by
  refine (dats m 0 c).arrAt_eq_of_covers 8 _ (by decide +kernel) fun t hf y => ?_
  have ht := (flush0_8 t).mp hf
  blk_simp
  rw [after0_8, acc_8 m c t ht, emb_8]
  simp only [tB_t]
  show _ = ∑ r : Fin 4096, (fun r => dxnA (aG m c) (aU m c) (aA m c) (aB m c) r (y 1)
      * (aX m c (ix2 r (y 1)) * inv (fun j => aX m c (ix2 r j)))) r
  refine Fin.sum_mul_add_congr fun s k hl => ?_
  rw [row_run t ht s _ k hl]

end Cert.Norm

end
-- ==== Proof.Norm.Ref.lean ====
module

public import proofs.«01_k».proof.Proof.Norm.Arr
public import proofs.«01_k».proof.Proof.Gen.Reference2Ideal.Read

@[expose] public section

noncomputable section

namespace Cert.Norm

open Idealize.ShloMosaic Idealize.ShloMosaic.TcCoe Idealize.SL.Sem
open Cert.Reference2Ideal Cert.Reference2Ideal.Read

variable (X R : Vec Ideal S4096x1024 .f32) (G : Vec Ideal S1024 .f32) (WG WU : Vec Ideal S1024x2816 .f32)
  (DA DB : Vec Ideal S4096x2816 .f32)

/-! ## The reference at an index -/

theorem zero_bits : Ideal.ofBits .f32 0x00000000#32 = 0 := by
  simp [Ideal.ofBits, Ideal.ieee]

theorem idx1 {n0 : Nat} (y : (⟨1, ![n0]⟩ : Shape).Idx) (a : Fin n0) (h0 : (y 0 : Nat) = a) : y = ix1 a :=
  (eq_ix1 y).trans (by rw [show y 0 = a from Fin.ext h0])

/-- The mean square's place in the row's slope: what the norm's row passes back through its mean. -/
def slope (A X G : Fin 1024 → EReal) : EReal :=
  Ideal.div ((∑ j : Fin 1024, X j * (A j * G j)) * (Ideal.ofBits .f32 0xBF000000#32 * Ideal.div (inv X) (msq X)))
    (Ideal.ofBits .f32 1149239296#32)

/-- The reference's gradient of a row of the norm, the residual's gradient added. -/
def refRow (A X G : Fin 1024 → EReal) (d : EReal) (k : Fin 1024) : EReal :=
  d + A k * G k * inv X + X k * slope A X G + slope A X G * X k

theorem v6_at (r : Fin 4096) : val_main_v6 (F := Ideal) X (ix2 r 0) = msq (fun k => X (ix2 r k)) := by
  rw [val_main_v6_apply, val_main_v4_apply, val_main_v2_apply, val_main_v1_apply, val_main_cst_apply, val_main_v3_apply,
    val_main_cst_0_apply, val_main_v5_apply, val_main_cst_1_apply]
  show Ideal.div (Ideal.ofBits .f32 0x00000000#32 + ∑ k : Fin 1024, val_main_v0 (F := Ideal) X (idx_main_v1 (idx_main_v2 (ix2 r 0)) k))
    (Ideal.ofBits .f32 0x44800000#32) + Ideal.ofBits .f32 0x358637BD#32 = _
  rw [zero_bits, zero_add]
  unfold msq
  refine congrArg (fun s => Ideal.div s _ + _) (Finset.sum_congr rfl fun k _ => ?_)
  rw [val_main_v0_apply, idx2 (idx_main_v1 (idx_main_v2 (ix2 r 0)) k) r k rfl rfl]
  rfl

theorem v7_at (r : Fin 4096) : val_main_v7 (F := Ideal) X (ix2 r 0) = inv (fun k => X (ix2 r k)) := by
  rw [val_main_v7_apply, v6_at]
  rfl

theorem v12_at (r : Fin 4096) (k : Fin 1024) :
    val_main_v12 (F := Ideal) X (ix2 r k) = X (ix2 r k) * inv (fun k => X (ix2 r k)) := by
  rw [val_main_v12_apply, val_main_v11_apply, idx2 (idx_main_v11 (ix2 r k)) r (0 : Fin 1) rfl rfl, v7_at]
  rfl

theorem v20_at (r : Fin 4096) (k : Fin 1024) :
    val_main_v20 (F := Ideal) WG WU DA DB (ix2 r k) = dxnA WG WU DA DB r k := by
  rw [val_main_v20_apply, val_main_v18_apply, val_main_v19_apply]
  refine (add_comm _ _).trans ?_
  refine congrArg₂ (· + ·) (Finset.sum_congr rfl fun h _ => ?_) (Finset.sum_congr rfl fun h _ => ?_)
  · exact congrArg₂ (DA · * WG ·) (idx2 _ _ _ rfl rfl) (idx2 _ _ _ rfl rfl)
  · exact congrArg₂ (DB · * WU ·) (idx2 _ _ _ rfl rfl) (idx2 _ _ _ rfl rfl)

theorem v25_at (r : Fin 4096) (k : Fin 1024) :
    val_main_v25 (F := Ideal) G WG WU DA DB (ix2 r k) = dxnA WG WU DA DB r k * G (ix1 k) := by
  rw [val_main_v25_apply, v20_at, val_main_v24_apply, val_main_v13_apply,
    idx1 (idx_main_v13 (idx_main_v24 (ix2 r k))) k rfl]
  rfl

theorem v36_at (r : Fin 4096) :
    val_main_v36 (F := Ideal) X G WG WU DA DB (ix1 r)
      = slope (fun j => dxnA WG WU DA DB r j) (fun j => X (ix2 r j)) (fun j => G (ix1 j)) := by
  rw [val_main_v36_apply, val_main_cst_7_apply, Fin.sum_univ_one, idx2 (idx_main_v36 (ix1 r) 0) r (0 : Fin 1) rfl rfl,
    val_main_v35_apply, val_main_v34_apply, val_main_cst_6_apply, val_main_v33_apply, val_main_v29_apply, val_main_v28_apply,
    val_main_cst_5_apply, val_main_v10_apply, val_main_v9_apply, val_main_cst_2_apply, val_main_v8_apply, v7_at, v6_at]
  show Ideal.ofBits .f32 0x00000000#32 + Ideal.div ((Ideal.ofBits .f32 0x00000000#32
    + ∑ k : Fin 1024, val_main_v27 (F := Ideal) X G WG WU DA DB (idx_main_v28 (idx_main_v29 (ix2 r 0)) k)) * _) _ = _
  rw [zero_bits, zero_add, zero_add]
  unfold slope
  refine congrArg (fun s => Ideal.div (s * _) _) (Finset.sum_congr rfl fun k _ => ?_)
  rw [idx2 (idx_main_v28 (idx_main_v29 (ix2 r 0)) k) r k (by show r.val * 1 + 0 = r.val; omega) rfl,
    val_main_v27_apply, v25_at]
  rfl

theorem v37_at (r : Fin 4096) (k : Fin 1024) :
    val_main_v37 (F := Ideal) X G WG WU DA DB (ix2 r k)
      = slope (fun j => dxnA WG WU DA DB r j) (fun j => X (ix2 r j)) (fun j => G (ix1 j)) := by
  rw [val_main_v37_apply, idx1 (idx_main_v37 (ix2 r k)) r rfl, v36_at]

theorem ref_X (r : Fin 4096) (k : Fin 1024) :
    val_main_v41 (F := Ideal) X G WG WU R DA DB (ix2 r k)
      = refRow (fun j => dxnA WG WU DA DB r j) (fun j => X (ix2 r j)) (fun j => G (ix1 j)) (R (ix2 r k)) k := by
  rw [val_main_v41_apply, val_main_v39_apply, val_main_v40_apply, val_main_v38_apply, val_main_v32_apply, val_main_v31_apply,
    v37_at, v25_at, val_main_v30_apply, idx2 (idx_main_v30 (ix2 r k)) r (0 : Fin 1) rfl rfl, v7_at]
  rfl

theorem ref_N (k : Fin 1024) : val_main_v42 (F := Ideal) X WG WU DA DB (ix2 0 k) = dgA X WG WU DA DB k := by
  rw [val_main_v42_apply, val_main_v26_apply, val_main_cst_4_apply, Fin.sum_univ_one, val_main_v23_apply, val_main_v22_apply,
    val_main_cst_3_apply]
  show Ideal.ofBits .f32 0x00000000#32 + (Ideal.ofBits .f32 0x00000000#32 + _) = _
  rw [zero_bits, zero_add, zero_add]
  refine Finset.sum_congr rfl fun r _ => ?_
  rw [idx2 (idx_main_v22 _ r) r k rfl (by first | rfl | simp), val_main_v21_apply, v12_at, v20_at]
  exact mul_comm _ _

end Cert.Norm

end
-- ==== Proof.Norm.Alg.lean ====
module

public import proofs.«01_k».proof.Proof.Norm.Ref
public import proofs.«01_k».proof.Proof.Gen.Pre_finite2
public import proofs.«01_k».proof.Defs
public import proofs.«01_k».proof.Proof.Gen.Kernel2Ideal.Value
public import Idealize.ShloMosaic.Lib.ReduceAll
public import Idealize.ShloMosaic.Lib.Pointwise.Select

@[expose] public section

noncomputable section

namespace Cert.Norm

open Idealize.ShloMosaic Idealize.ShloMosaic.TcCoe Idealize.SL.Sem

/-! ## Finite values are real numbers -/

theorem inf_bits : Ideal.ofBits .f32 0x7F800000#32 = ⊤ := by
  simp [Ideal.ofBits, Ideal.ieee]

theorem width_bits : Ideal.ofBits .f32 1149239296#32 = ((1024 : ℝ) : EReal) := by
  simp [Ideal.ofBits, Ideal.ieee, -EReal.coe_mul]
  norm_num

theorem neg_half_bits : Ideal.ofBits .f32 0xBF000000#32 = ((-(1 / 2) : ℝ) : EReal) := by
  simp [Ideal.ofBits, Ideal.ieee, -EReal.coe_mul]
  norm_num

theorem eps_bits : ∃ e : ℝ, 0 < e ∧ Ideal.ofBits .f32 897988541#32 = (e : EReal) := by
  refine ⟨_, ?_, by simp [Ideal.ofBits, Ideal.ieee, -EReal.coe_mul]; rfl⟩
  norm_num

theorem real_of_abs_lt (x : EReal) (h : max x (-x) < ⊤) : ∃ a : ℝ, x = a := by
  induction x using EReal.rec with
  | bot => simp at h
  | top => simp at h
  | coe a => exact ⟨a, rfl⟩

theorem coe_sum {n : Nat} (g : Fin n → ℝ) : ∑ k, (g k : EReal) = ((∑ k, g k : ℝ) : EReal) := by
  induction (Finset.univ : Finset (Fin n)) using Finset.induction with
  | empty => simp
  | insert a s ha ih => rw [Finset.sum_insert ha, Finset.sum_insert ha, ih, EReal.coe_add]

theorem real_mul {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

theorem real_add {x y : EReal} (hx : ∃ a : ℝ, x = a) (hy : ∃ a : ℝ, y = a) : ∃ a : ℝ, x + y = a := by
  obtain ⟨a, rfl⟩ := hx
  obtain ⟨b, rfl⟩ := hy
  exact ⟨a + b, (EReal.coe_add a b).symm⟩

theorem real_sum {n : Nat} (f : Fin n → EReal) (h : ∀ k, ∃ a : ℝ, f k = a) : ∃ a : ℝ, ∑ k, f k = a := by
  choose g hg using h
  exact ⟨∑ k, g k, by rw [← coe_sum]; exact Finset.sum_congr rfl fun k _ => hg k⟩

/-! ## The gradient of a row in the kernel's form and in the reference's -/

theorem row_eq (A X G : Fin 1024 → EReal) (d : EReal) (k : Fin 1024) (hA : ∀ j, ∃ a : ℝ, A j = a)
    (hX : ∀ j, ∃ a : ℝ, X j = a) (hG : ∀ j, ∃ a : ℝ, G j = a) (hd : ∃ a : ℝ, d = a) :
    dxRow A X G d k = refRow A X G d k := by
  choose a ha using hA
  choose x hx using hX
  choose g hg using hG
  obtain ⟨d, rfl⟩ := hd
  obtain ⟨e, he, hE⟩ := eps_bits
  obtain rfl : A = fun j => (a j : EReal) := funext ha
  obtain rfl : X = fun j => (x j : EReal) := funext hx
  obtain rfl : G = fun j => (g j : EReal) := funext hg
  have hm : msq (fun j => (x j : EReal)) = (((∑ j, x j * x j) / 1024 + e : ℝ) : EReal) := by
    unfold msq
    rw [hE, width_bits]
    simp only [← EReal.coe_mul, coe_sum]
    rw [Ideal.div_coe (by norm_num)]
    norm_cast
    ring
  have hpos : 0 < (∑ j, x j * x j) / 1024 + e := by
    have : 0 ≤ ∑ j, x j * x j := Finset.sum_nonneg fun j _ => mul_self_nonneg _
    positivity
  generalize (∑ j, x j * x j) / 1024 + e = mm at hm hpos
  have hi : inv (fun j => (x j : EReal)) = (((Real.sqrt mm)⁻¹ : ℝ) : EReal) := by
    unfold inv
    rw [hm, Ideal.rsqrt_coe, if_neg (not_lt.mpr hpos.le), if_neg hpos.ne']
  have hq : (Real.sqrt mm)⁻¹ / mm = (Real.sqrt mm)⁻¹ * (Real.sqrt mm)⁻¹ * (Real.sqrt mm)⁻¹ := by
    have h1 : Real.sqrt mm * Real.sqrt mm = mm := Real.mul_self_sqrt hpos.le
    have h2 : Real.sqrt mm ≠ 0 := (Real.sqrt_pos.mpr hpos).ne'
    rw [div_eq_iff hpos.ne', mul_assoc, mul_assoc, ← h1]
    field_simp
    rw [Real.sqrt_sq (Real.sqrt_nonneg mm)]
  unfold dxRow refRow slope
  rw [hi, hm, width_bits, neg_half_bits]
  generalize (Real.sqrt mm)⁻¹ = q at hq
  simp only [← EReal.coe_mul, coe_sum]
  rw [Ideal.div_coe (by norm_num), Ideal.div_coe hpos.ne', ← EReal.coe_mul, ← EReal.coe_mul, Ideal.div_coe (by norm_num)]
  norm_cast
  rw [← div_eq_mul_one_div q mm, hq]
  rw [show (∑ j, a j * g j * (x j * q)) = q * ∑ j, x j * (a j * g j) by
    rw [Finset.mul_sum]; exact Finset.sum_congr rfl fun j _ => by ring]
  ring

/-- The residual's gradient is added last in one form and first in the other, so it may be any value. -/
theorem row_eq_any (A X G : Fin 1024 → EReal) (d : EReal) (k : Fin 1024) (hA : ∀ j, ∃ a : ℝ, A j = a)
    (hX : ∀ j, ∃ a : ℝ, X j = a) (hG : ∀ j, ∃ a : ℝ, G j = a) : dxRow A X G d k = refRow A X G d k := by
  have h := row_eq A X G 0 k hA hX hG ⟨0, rfl⟩
  unfold dxRow refRow at h ⊢
  rw [add_zero, zero_add] at h
  rw [h, add_comm, ← add_assoc, ← add_assoc]

section Arrays

variable (X R : (⟨2, ![4096, 1024]⟩ : Shape).Idx → EReal) (G : (⟨1, ![1024]⟩ : Shape).Idx → EReal)
  (WG WU : (⟨2, ![1024, 2816]⟩ : Shape).Idx → EReal) (DA DB : (⟨2, ![4096, 2816]⟩ : Shape).Idx → EReal)

theorem dx_eq (hX : ∀ i, ∃ a : ℝ, X i = a) (hN : ∀ i, ∃ a : ℝ, G i = a) (hG : ∀ i, ∃ a : ℝ, WG i = a)
    (hU : ∀ i, ∃ a : ℝ, WU i = a) (hA : ∀ i, ∃ a : ℝ, DA i = a) (hB : ∀ i, ∃ a : ℝ, DB i = a)
    (r : Fin 4096) (k : Fin 1024) :
    dxA X R G WG WU DA DB r k
      = refRow (fun j => dxnA WG WU DA DB r j) (fun j => X (ix2 r j)) (fun j => G (ix1 j)) (R (ix2 r k)) k :=
  row_eq_any _ _ _ _ _ (fun j => real_add (real_sum _ fun h => real_mul (hA _) (hG _)) (real_sum _ fun h => real_mul (hB _) (hU _)))
    (fun j => hX _) (fun j => hN _)

end Arrays

/-! ## The precondition read back -/

section Pre

open Cert.Pre_finite2 Cert.Pre_finite2.Facts

attribute [local instance] Cert.Pre_finite2.Gen.facts

theorem real_of_all {s : Shape} (x : Vec Ideal s .f32) (hb : S_.BroadcastsInDim s (![] : Fin 0 → Fin s.rank)) {axes : List (Fin s.rank)}
    (h : s.ReducesTo axes S_) (h0 : 0 < S_.numel)
    (e : Host.reduce IntOp.andi (cmpf .olt (Host.absf (F := Ideal) (φ := .f32) x)
      (broadcastInDim s ![] hb (constant (F := Ideal) S_ .f32 0x7F800000#32))) (constantI S_ 1 1#1) h h0 (fun a => a.elim0) = 1#1) (i : s.Idx) :
    ∃ a : ℝ, x i = a := by
  haveI : Subsingleton S_.Idx := ⟨fun a b => funext fun k => k.elim0⟩
  have e' := Host.reduce_andi_all _ _ h h0 _ e i
  refine real_of_abs_lt _ ?_
  rw [← inf_bits]
  exact (Ideal.cmp_olt_eq_one _ _).mp e'

theorem finite_real (x0 : Vec Ideal S4096x1024 .f32) (x1 : Vec Ideal S1024 .f32) (x2 x3 : Vec Ideal S1024x2816 .f32)
    (x4 : Vec Ideal S4096x1024 .f32) (x5 x6 : Vec Ideal S4096x2816 .f32)
    (e : Cert.Pre_finite2.fn (F := Ideal) x0 x1 x2 x3 x4 x5 x6 = fun _ => 1#1) :
    (∀ i, ∃ a : ℝ, x0 i = a) ∧ (∀ i, ∃ a : ℝ, x1 i = a) ∧ (∀ i, ∃ a : ℝ, x2 i = a) ∧ (∀ i, ∃ a : ℝ, x3 i = a)
      ∧ (∀ i, ∃ a : ℝ, x5 i = a) ∧ ∀ i, ∃ a : ℝ, x6 i = a := by
  have e0 := congrFun e (fun a => a.elim0)
  obtain ⟨e1, h6⟩ := IntOp.andi_eq_one.1 e0
  obtain ⟨e2, h5⟩ := IntOp.andi_eq_one.1 e1
  obtain ⟨e3, h3⟩ := IntOp.andi_eq_one.1 e2
  obtain ⟨e4, h2⟩ := IntOp.andi_eq_one.1 e3
  obtain ⟨h0, h1⟩ := IntOp.andi_eq_one.1 e4
  exact ⟨real_of_all x0 _ _ _ h0, real_of_all x1 _ _ _ h1, real_of_all x2 _ _ _ h2, real_of_all x3 _ _ _ h3,
    real_of_all x5 _ _ _ h5, real_of_all x6 _ _ _ h6⟩

end Pre

/-! ## The claim -/

section Claim

attribute [local instance] Cert.Kernel2Ideal.Gen.facts Cert.Reference2Ideal.Gen.facts Cert.Pre_finite2.Gen.facts

open Cert.Kernel2Ideal Cert.Kernel2Ideal.Gen

open Cert.Reference2Ideal.Read in
theorem algebraic : Cert.algebraic_Kernel2Ideal_Reference2Ideal_pre_finite2 := by
  intro m g m' g' hpre hagree
  refine ⟨rX m, rN m, (θ_run defs _ _).mono (fun r h c => ⟨(h c).1.trans (final_7 m c), (h c).2.1.trans (final_8 m c), (h c).2.2⟩)
    (Cert.Kernel2Ideal.Value.run_blocks m g), ?_⟩
  refine (θ_run Cert.Reference2Ideal.defs _ _).mono (fun r h c => ?_) (Cert.Reference2Ideal.Value.run m' g')
  obtain ⟨e0, e1, e2, e3, e4, e5, e6⟩ := hagree c
  obtain ⟨h0, h1, hk⟩ := h c
  obtain ⟨kX, kN, kG, kU, kA, kB⟩ := finite_real _ _ _ _ _ _ _ (hpre c)
  refine ⟨h0.trans ((val_main_v41_eq m' c).trans ?_), h1.trans ((val_main_v42_eq _ _ _ _ _).trans ?_), hk⟩
  · rw [e0, e1, e2, e3, e4, e5, e6]
    funext y
    rw [eq_ix2 y]
    exact (ref_X (aX m c) (aR m c) (aN m c) (aG m c) (aU m c) (aA m c) (aB m c) _ _).trans
      (dx_eq _ _ _ _ _ _ _ kX kN kG kU kA kB _ _).symm
  · rw [e0, e2, e3, e5, e6]
    funext y
    have h0 : (y 0).val < 1 := (y 0).isLt
    rw [idx2 y (0 : Fin 1) (y 1) (by show (y 0).val = 0; omega) rfl]
    exact ref_N (aX m c) (aG m c) (aU m c) (aA m c) (aB m c) _

end Claim

end Cert.Norm

end
-- ==== Proof.Fwd.Pay.lean ====
module

public import proofs.«01_k».proof.Proof.Gen.Kernel4Ideal.Skeleton
public import Idealize.ShloMosaic.Lib.Pipeline.ValueKit.Point
public import Idealize.ShloMosaic.Lib.Pointwise.Tactic
public import Idealize.ShloMosaic.Lib.ValueIdx

@[expose] public section

noncomputable section

namespace Cert.Fwd

open Idealize.ShloMosaic Idealize.ShloMosaic.TcCoe Idealize.SL.Sem
open Cert.Kernel4Ideal Cert.Kernel4Ideal.Gen

/-- The inverse root of a row's mean square plus epsilon. -/
def inv (X : Fin 1024 → EReal) : EReal :=
  Ideal.rsqrt (Ideal.div (∑ k : Fin 1024, X k * X k) (Ideal.ofBits .f32 1149239296#32) + Ideal.ofBits .f32 897988541#32)

/-- The normalised block of rows. -/
def nB (x : Vec Ideal S512x1024 .f32) (g : Vec Ideal S1x1024 .f32) : Vec Ideal S512x1024 .bf16 := fun y =>
  x (ix2 (y 0) (y 1)) * inv (fun k => x (ix2 (y 0) k)) * g (ix2 0 (y 1))

theorem pay3_eq (x : Vec Ideal S512x1024 .f32) (g : Vec Ideal S1x1024 .f32) : k0_pay3 x g = nB x g := by
  funext y
  obtain ⟨p, q, rfl⟩ : ∃ p q, y = ix2 p q := ⟨_, _, eq_ix2 y⟩
  pointwise [k0_pay3, nB, inv]

section Block

variable (n : Vec Ideal S512x1024 .bf16) (x2 x3 x4 : Vec Ideal S4x704x1024 .bf16)

/-- A projection of the block of rows: a chunk of the weight holds its hidden columns as rows. -/
def projB (w : Vec Ideal S4x704x1024 .bf16) (j : Fin 4) (r : Fin 512) (f : Fin 704) : EReal :=
  ∑ k : Fin 1024, n (ix2 r k) * w (ix3 j f k)

/-- What one chunk adds to the block of rows. -/
def termB (j : Fin 4) (r : Fin 512) (k : Fin 1024) : EReal :=
  ∑ f : Fin 704, projB n x2 j r f * Ideal.logistic (projB n x2 j r f) * projB n x3 j r f * x4 (ix3 j f k)

end Block

end Cert.Fwd

end
-- ==== Proof.Fwd.Case.lean ====
module

public import proofs.«01_k».proof.Proof.Gen.Kernel4Ideal.Frame
public import proofs.«01_k».proof.Proof.Fwd.Pay

@[expose] public section

noncomputable section

namespace Cert.Fwd

open Idealize.ShloMosaic Idealize.ShloMosaic.TcCoe Idealize.SL.Sem
open Cert.Kernel4Ideal Cert.Kernel4Ideal.Gen

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S4x704x1024 .bf16) (harg4 : arg4.IsWhole)
  (arg5 : Memref sig .tc .vmem S4x704x1024 .bf16) (harg5 : arg5.IsWhole)
  (arg6 : Memref sig .tc .vmem S4x704x1024 .bf16) (harg6 : arg6.IsWhole)
  (arg7 : Memref sig .tc .vmem S512x1024 .f32) (harg7 : arg7.IsWhole)
  (arg8 : Memref sig .tc .vmem S512x1024 .bf16) (harg8 : arg8.IsWhole)
  (arg9 : Memref sig .tc .vmem S4x512x704 .bf16) (harg9 : arg9.IsWhole)
  (arg10 : Memref sig .tc .vmem S4x512x704 .bf16) (harg10 : arg10.IsWhole)
  (arg11 : Memref sig .tc .vmem S512x1024 .f32) (harg11 : arg11.IsWhole)
  (hc0 : cond0_0 i) (hc1 : cond0_1 i)
  (x0 : Vec Ideal S512x1024 .f32) (x1 : Vec Ideal S1x1024 .f32) (x2 x3 x4 : Vec Ideal S4x704x1024 .bf16)

theorem idx2 {n0 n1 : Nat} (y : (⟨2, ![n0, n1]⟩ : Shape).Idx) (a : Fin n0) (b : Fin n1)
    (h0 : (y 0 : Nat) = a) (h1 : (y 1 : Nat) = b) : y = ix2 a b :=
  (eq_ix2 y).trans (by rw [show y 0 = a from Fin.ext h0, show y 1 = b from Fin.ext h1])

theorem idx3 {n0 n1 n2 : Nat} (y : (⟨3, ![n0, n1, n2]⟩ : Shape).Idx) (a : Fin n0) (b : Fin n1) (c : Fin n2)
    (h0 : (y 0 : Nat) = a) (h1 : (y 1 : Nat) = b) (h2 : (y 2 : Nat) = c) : y = ix3 a b c :=
  (eq_ix3 y).trans (by rw [show y 0 = a from Fin.ext h0, show y 1 = b from Fin.ext h1, show y 2 = c from Fin.ext h2])

theorem out_5 (y : S512x1024.Idx) :
    out0_A_5 c i arg2 harg2 arg3 harg3 arg4 harg4 arg5 harg5 arg6 harg6 arg7 harg7 arg8 harg8 arg9 harg9 arg10 harg10 arg11 harg11 hc0 hc1 x0 x1 x2 x3 x4 y
      = x0 y + Ideal.ofBits .f32 0x3F000000#32 * ∑ j : Fin 4, termB (nB x0 x1) x2 x3 x4 j (y 0) (y 1) := by
  frame_out
  rw [pay3_eq]
  generalize nB x0 x1 = n
  obtain ⟨p, q, rfl⟩ : ∃ p q, y = ix2 p q := ⟨_, _, eq_ix2 y⟩
  pointwise [k0_pay1, k0_pay2, k0_pay4, k0_pay5, k0_pay6, k0_pay7, k0_pay10, k0_pay11, k0_pay12, k0_pay15, k0_pay16, k0_pay17, k0_pay21, k0_pay22, k0_pay25, termB, projB, Fin.sum_univ_four]

theorem out_6 (y : S512x1024.Idx) :
    out0_A_6 c i arg2 harg2 arg3 harg3 arg4 harg4 arg5 harg5 arg6 harg6 arg7 harg7 arg8 harg8 arg9 harg9 arg10 harg10 arg11 harg11 hc0 hc1 x0 x1 x2 x3 x4 y = nB x0 x1 y := by
  frame_out
  rw [pay3_eq]

theorem out_7 (y : S4x512x704.Idx) :
    out0_A_7 c i arg2 harg2 arg3 harg3 arg4 harg4 arg5 harg5 arg6 harg6 arg7 harg7 arg8 harg8 arg9 harg9 arg10 harg10 arg11 harg11 hc0 hc1 x0 x1 x2 x3 x4 y = projB (nB x0 x1) x2 (y 0) (y 1) (y 2) := by
  frame_out
  rw [pay3_eq]
  generalize nB x0 x1 = n
  canon_tiles x h
  · rw [idx3 y (3 : Fin 4) (⟨(x 1 : Nat), by omega⟩ : Fin 512) (⟨(x 2 : Nat), by omega⟩ : Fin 704) (by show (y 0).val = 3; omega) h1 h2]
    pointwise [k0_pay23, k0_pay21, k0_pay18, k0_pay16, k0_pay13, k0_pay11, k0_pay8, k0_pay6, k0_pay5, projB]
  · rw [idx3 y (2 : Fin 4) (⟨(x 1 : Nat), by omega⟩ : Fin 512) (⟨(x 2 : Nat), by omega⟩ : Fin 704) (by show (y 0).val = 2; omega) h1 h2]
    pointwise [k0_pay23, k0_pay21, k0_pay18, k0_pay16, k0_pay13, k0_pay11, k0_pay8, k0_pay6, k0_pay5, projB]
  · rw [idx3 y (1 : Fin 4) (⟨(x 1 : Nat), by omega⟩ : Fin 512) (⟨(x 2 : Nat), by omega⟩ : Fin 704) (by show (y 0).val = 1; omega) h1 h2]
    pointwise [k0_pay23, k0_pay21, k0_pay18, k0_pay16, k0_pay13, k0_pay11, k0_pay8, k0_pay6, k0_pay5, projB]
  · rw [idx3 y (0 : Fin 4) (⟨(x 1 : Nat), by omega⟩ : Fin 512) (⟨(x 2 : Nat), by omega⟩ : Fin 704) (by show (y 0).val = 0; omega) h1 h2]
    pointwise [k0_pay23, k0_pay21, k0_pay18, k0_pay16, k0_pay13, k0_pay11, k0_pay8, k0_pay6, k0_pay5, projB]

theorem out_8 (y : S4x512x704.Idx) :
    out0_A_8 c i arg2 harg2 arg3 harg3 arg4 harg4 arg5 harg5 arg6 harg6 arg7 harg7 arg8 harg8 arg9 harg9 arg10 harg10 arg11 harg11 hc0 hc1 x0 x1 x2 x3 x4 y = projB (nB x0 x1) x3 (y 0) (y 1) (y 2) := by
  frame_out
  rw [pay3_eq]
  generalize nB x0 x1 = n
  canon_tiles x h
  · rw [idx3 y (3 : Fin 4) (⟨(x 1 : Nat), by omega⟩ : Fin 512) (⟨(x 2 : Nat), by omega⟩ : Fin 704) (by show (y 0).val = 3; omega) h1 h2]
    pointwise [k0_pay24, k0_pay22, k0_pay20, k0_pay19, k0_pay17, k0_pay14, k0_pay12, k0_pay9, k0_pay7, k0_pay5, projB]
  · rw [idx3 y (2 : Fin 4) (⟨(x 1 : Nat), by omega⟩ : Fin 512) (⟨(x 2 : Nat), by omega⟩ : Fin 704) (by show (y 0).val = 2; omega) h1 h2]
    pointwise [k0_pay24, k0_pay22, k0_pay20, k0_pay19, k0_pay17, k0_pay14, k0_pay12, k0_pay9, k0_pay7, k0_pay5, projB]
  · rw [idx3 y (1 : Fin 4) (⟨(x 1 : Nat), by omega⟩ : Fin 512) (⟨(x 2 : Nat), by omega⟩ : Fin 704) (by show (y 0).val = 1; omega) h1 h2]
    pointwise [k0_pay24, k0_pay22, k0_pay20, k0_pay19, k0_pay17, k0_pay14, k0_pay12, k0_pay9, k0_pay7, k0_pay5, projB]
  · rw [idx3 y (0 : Fin 4) (⟨(x 1 : Nat), by omega⟩ : Fin 512) (⟨(x 2 : Nat), by omega⟩ : Fin 704) (by show (y 0).val = 0; omega) h1 h2]
    pointwise [k0_pay24, k0_pay22, k0_pay20, k0_pay19, k0_pay17, k0_pay14, k0_pay12, k0_pay9, k0_pay7, k0_pay5, projB]

end Cert.Fwd

end
-- ==== Proof.Fwd.Arr.lean ====
module

public import proofs.«01_k».proof.Proof.Fwd.Case
public import Idealize.ShloMosaic.Lib.Pipeline.ValueKit.Acc

@[expose] public section

noncomputable section

namespace Cert.Fwd

open Idealize.ShloMosaic Idealize.ShloMosaic.TcCoe Idealize.SL.Sem
open Cert.Kernel4Ideal Cert.Kernel4Ideal.Gen

/-! ## The mathematics over whole arrays -/

section Arrays

variable (X : (⟨2, ![4096, 1024]⟩ : Shape).Idx → EReal) (N : (⟨1, ![1024]⟩ : Shape).Idx → EReal)
  (WG WU : (⟨2, ![1024, 2816]⟩ : Shape).Idx → EReal) (WD : (⟨2, ![2816, 1024]⟩ : Shape).Idx → EReal)

/-- The normalised rows. -/
def nA (r : Fin 4096) (k : Fin 1024) : EReal := X (ix2 r k) * inv (fun j => X (ix2 r j)) * N (ix1 k)

/-- A projection of the normalised rows. -/
def projA (W : (⟨2, ![1024, 2816]⟩ : Shape).Idx → EReal) (r : Fin 4096) (h : Fin 2816) : EReal :=
  ∑ k : Fin 1024, nA X N r k * W (ix2 k h)

/-- The hidden product. -/
def hidA (r : Fin 4096) (h : Fin 2816) : EReal :=
  projA X N WG r h * Ideal.logistic (projA X N WG r h) * projA X N WU r h

/-- The block's result, the residual added. -/
def outA (r : Fin 4096) (k : Fin 1024) : EReal :=
  X (ix2 r k) + Ideal.ofBits .f32 0x3F000000#32 * ∑ h : Fin 2816, hidA X N WG WU r h * WD (ix2 h k)

end Arrays

variable (m : (ℓ : Loc nD τ sig) → Buf (Elt Ideal) ℓ) (c : Dev nD)

/-- A hidden column of a chunk. -/
abbrev col (j : Fin 4) (f : Fin 704) : Fin 2816 := ⟨j.val * 704 + f.val, by omega⟩

abbrev aX : Vec Ideal S4096x1024 .f32 := m ((c : Thread nD τ).loc main_arg0)
abbrev aN : Vec Ideal S1024 .f32 := m ((c : Thread nD τ).loc main_arg1)
abbrev aG : Vec Ideal S1024x2816 .f32 := m ((c : Thread nD τ).loc main_arg2)
abbrev aU : Vec Ideal S1024x2816 .f32 := m ((c : Thread nD τ).loc main_arg3)
abbrev aD : Vec Ideal S2816x1024 .f32 := m ((c : Thread nD τ).loc main_arg4)

theorem n_V (k : Fin 1024) : V m c main_v0 (ix2 0 k) = aN m c (ix1 k) := by
  entry_read
  pointwise

theorem g_V (j : Fin 4) (f : Fin 704) (k : Fin 1024) : V m c main_v3 (ix3 j f k) = aG m c (ix2 k (col j f)) := by
  entry_read
  pointwise

theorem u_V (j : Fin 4) (f : Fin 704) (k : Fin 1024) : V m c main_v6 (ix3 j f k) = aU m c (ix2 k (col j f)) := by
  entry_read
  pointwise

theorem d_V (j : Fin 4) (f : Fin 704) (k : Fin 1024) : V m c main_v8 (ix3 j f k) = aD m c (ix2 (col j f) k) := by
  entry_read
  pointwise

/-! ## The blocks of a grid point -/

theorem hN : cfg0.N = 8 := N_0

/-- A row of a point's block. -/
abbrev row (t : Fin cfg0.N) (r : Fin 512) : Fin 4096 := ⟨t.val * 512 + r.val, by have := t.isLt; have := hN; omega⟩

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0, 0] := (by decide +kernel : ∀ t : Fin grid0.N, _)
theorem ix_3 : ∀ t : Fin cfg0.N, win0_3.index t = ![0, 0, 0] := (by decide +kernel : ∀ t : Fin grid0.N, _)
theorem ix_4 : ∀ t : Fin cfg0.N, win0_4.index t = ![0, 0, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![0, t.val, 0] := (by decide +kernel : ∀ t : Fin grid0.N, _)
theorem ix_8 : ∀ t : Fin cfg0.N, win0_8.index t = ![0, t.val, 0] := (by decide +kernel : ∀ t : Fin grid0.N, _)

abbrev B0 (t : Fin cfg0.N) : Vec Ideal S512x1024 .f32 := iblk m c 0 t
abbrev B1 (t : Fin cfg0.N) : Vec Ideal S1x1024 .f32 := iblk m c 1 t
abbrev B2 (t : Fin cfg0.N) : Vec Ideal S4x704x1024 .bf16 := iblk m c 2 t
abbrev B3 (t : Fin cfg0.N) : Vec Ideal S4x704x1024 .bf16 := iblk m c 3 t
abbrev B4 (t : Fin cfg0.N) : Vec Ideal S4x704x1024 .bf16 := iblk m c 4 t

theorem b_0 (t : Fin cfg0.N) (r : Fin 512) (k : Fin 1024) : B0 m c t (ix2 r k) = aX m c (ix2 (row t r) k) := by
  blk_ext! [iblk, V, ix_0 t]

theorem b_1 (t : Fin cfg0.N) (k : Fin 1024) : B1 m c t (ix2 0 k) = aN m c (ix1 k) := by
  rw [← n_V]
  blk_ext! [iblk, ix_1 t]

theorem b_2 (t : Fin cfg0.N) (j : Fin 4) (f : Fin 704) (k : Fin 1024) : B2 m c t (ix3 j f k) = aG m c (ix2 k (col j f)) := by
  rw [← g_V]
  blk_ext! [iblk, ix_2 t]

theorem b_3 (t : Fin cfg0.N) (j : Fin 4) (f : Fin 704) (k : Fin 1024) : B3 m c t (ix3 j f k) = aU m c (ix2 k (col j f)) := by
  rw [← u_V]
  blk_ext! [iblk, ix_3 t]

theorem b_4 (t : Fin cfg0.N) (j : Fin 4) (f : Fin 704) (k : Fin 1024) : B4 m c t (ix3 j f k) = aD m c (ix2 (col j f) k) := by
  rw [← d_V]
  blk_ext! [iblk, ix_4 t]

theorem n_t (t : Fin cfg0.N) (r : Fin 512) (k : Fin 1024) :
    nB (B0 m c t) (B1 m c t) (ix2 r k) = nA (aX m c) (aN m c) (row t r) k := by
  show B0 m c t (ix2 r k) * inv (fun j => B0 m c t (ix2 r j)) * B1 m c t (ix2 0 k) = _
  simp only [b_0, b_1]
  rfl

theorem g_t (t : Fin cfg0.N) (j : Fin 4) (r : Fin 512) (f : Fin 704) :
    projB (nB (B0 m c t) (B1 m c t)) (B2 m c t) j r f = projA (aX m c) (aN m c) (aG m c) (row t r) (col j f) := by
  unfold projB projA
  simp only [n_t, b_2]

theorem u_t (t : Fin cfg0.N) (j : Fin 4) (r : Fin 512) (f : Fin 704) :
    projB (nB (B0 m c t) (B1 m c t)) (B3 m c t) j r f = projA (aX m c) (aN m c) (aU m c) (row t r) (col j f) := by
  unfold projB projA
  simp only [n_t, b_3]

theorem o_t (t : Fin cfg0.N) (r : Fin 512) (k : Fin 1024) :
    B0 m c t (ix2 r k) + Ideal.ofBits .f32 0x3F000000#32
        * ∑ j : Fin 4, termB (nB (B0 m c t) (B1 m c t)) (B2 m c t) (B3 m c t) (B4 m c t) j r k
      = outA (aX m c) (aN m c) (aG m c) (aU m c) (aD m c) (row t r) k := by
  unfold termB outA
  simp only [g_t, u_t, b_4, b_0]
  refine congrArg (fun s : EReal => aX m c (ix2 (row t r) k) + Ideal.ofBits .f32 0x3F000000#32 * s) ?_
  show _ = ∑ h : Fin 2816, (fun h => hidA (aX m c) (aN m c) (aG m c) (aU m c) (row t r) h * aD m c (ix2 h k)) h
  exact Fin.sum_mul_add_congr fun s f hl => rfl

/-! ## What a point leaves -/

theorem blk_5 (t : Fin cfg0.N) (y : S512x1024.Idx) :
    (outsAt0 m c t).1 y = B0 m c t y + Ideal.ofBits .f32 0x3F000000#32
        * ∑ j : Fin 4, termB (nB (B0 m c t) (B1 m c t)) (B2 m c t) (B3 m c t) (B4 m c t) j (y 0) (y 1) := by
  unfold outsAt0
  dsimp only
  rw [out_5]

theorem blk_6 (t : Fin cfg0.N) (y : S512x1024.Idx) : (outsAt0 m c t).2.1 y = nB (B0 m c t) (B1 m c t) y := by
  unfold outsAt0
  dsimp only
  rw [out_6]

theorem blk_7 (t : Fin cfg0.N) (y : S4x512x704.Idx) :
    (outsAt0 m c t).2.2.1 y = projB (nB (B0 m c t) (B1 m c t)) (B2 m c t) (y 0) (y 1) (y 2) := by
  unfold outsAt0
  dsimp only
  rw [out_7]

theorem blk_8 (t : Fin cfg0.N) (y : S4x512x704.Idx) :
    (outsAt0 m c t).2.2.2 y = projB (nB (B0 m c t) (B1 m c t)) (B3 m c t) (y 0) (y 1) (y 2) := by
  unfold outsAt0
  dsimp only
  rw [out_8]

/-! ## The four result arrays -/

/-- The block's result. -/
def rO (y : S4096x1024.Idx) : EReal := outA (aX m c) (aN m c) (aG m c) (aU m c) (aD m c) (y 0) (y 1)

/-- The normalised rows. -/
def rN (y : S4096x1024.Idx) : EReal := nA (aX m c) (aN m c) (y 0) (y 1)

/-- The gate's projection, by chunks. -/
def rG (y : S4x4096x704.Idx) : EReal := projA (aX m c) (aN m c) (aG m c) (y 1) (col (y 0) (y 2))

/-- The up projection, by chunks. -/
def rU (y : S4x4096x704.Idx) : EReal := projA (aX m c) (aN m c) (aU m c) (y 1) (col (y 0) (y 2))

theorem emb_5 (t : Fin cfg0.N) (y : S512x1024.Idx) : (win0_5.blk t).view.emb y = ix2 (row t (y 0)) (y 1) := by
  blk_ext [ix_5 t]

theorem emb_6 (t : Fin cfg0.N) (y : S512x1024.Idx) : (win0_6.blk t).view.emb y = ix2 (row t (y 0)) (y 1) := by
  blk_ext [ix_6 t]

theorem emb_7 (t : Fin cfg0.N) (y : S4x512x704.Idx) : (win0_7.blk t).view.emb y = ix3 (y 0) (row t (y 1)) (y 2) := by
  blk_ext [ix_7 t]

theorem emb_8 (t : Fin cfg0.N) (y : S4x512x704.Idx) : (win0_8.blk t).view.emb y = ix3 (y 0) (row t (y 1)) (y 2) := by
  blk_ext [ix_8 t]

theorem final_5 : (dats m 0 c).arrAt 5 cfg0.N = rO m c := by
  refine (dats m 0 c).arrAt_eq_of_covers 5 _ (by decide +kernel) fun t hf y => ?_
  blk_simp
  rw [after0_5, blk_5, emb_5, idx2 y (y 0) (y 1) rfl rfl]
  exact o_t m c t (y 0) (y 1)

theorem final_6 : (dats m 0 c).arrAt 6 cfg0.N = rN m c := by
  refine (dats m 0 c).arrAt_eq_of_covers 6 _ (by decide +kernel) fun t hf y => ?_
  blk_simp
  rw [after0_6, blk_6, emb_6, idx2 y (y 0) (y 1) rfl rfl]
  exact n_t m c t (y 0) (y 1)

theorem final_7 : (dats m 0 c).arrAt 7 cfg0.N = rG m c := by
  refine (dats m 0 c).arrAt_eq_of_covers 7 _ (by decide +kernel) fun t hf y => ?_
  blk_simp
  rw [after0_7, blk_7, emb_7]
  exact g_t m c t (y 0) (y 1) (y 2)

theorem final_8 : (dats m 0 c).arrAt 8 cfg0.N = rU m c := by
  refine (dats m 0 c).arrAt_eq_of_covers 8 _ (by decide +kernel) fun t hf y => ?_
  blk_simp
  rw [after0_8, blk_8, emb_8]
  exact u_t m c t (y 0) (y 1) (y 2)

end Cert.Fwd

end
-- ==== Proof.Fwd.Ref.lean ====
module

public import proofs.«01_k».proof.Defs
public import proofs.«01_k».proof.Proof.Fwd.Arr
public import proofs.«01_k».proof.Proof.Gen.Kernel4Ideal.Value
public import proofs.«01_k».proof.Proof.Gen.Reference4Ideal.Read

@[expose] public section

noncomputable section

namespace Cert.Fwd

open Idealize.ShloMosaic Idealize.ShloMosaic.TcCoe Idealize.SL.Sem

section Reference

open Cert.Reference4Ideal Cert.Reference4Ideal.Read

variable (X : Vec Ideal S4096x1024 .f32) (N : Vec Ideal S1024 .f32) (WG WU : Vec Ideal S1024x2816 .f32)
  (WD : Vec Ideal S2816x1024 .f32)

/-! ## The reference at an index -/

theorem zero_bits : Ideal.ofBits .f32 0x00000000#32 = 0 := by
  simp [Ideal.ofBits, Ideal.ieee]

theorem one_bits : Ideal.ofBits .f32 0x3F800000#32 = 1 := by
  simp [Ideal.ofBits, Ideal.ieee, -EReal.coe_mul]
  norm_num

theorem idx1 {n0 : Nat} (y : (⟨1, ![n0]⟩ : Shape).Idx) (a : Fin n0) (h0 : (y 0 : Nat) = a) : y = ix1 a :=
  (eq_ix1 y).trans (by rw [show y 0 = a from Fin.ext h0])

theorem v7_at (r : Fin 4096) : val_main_v7 (F := Ideal) X (ix2 r 0) = inv (fun k => X (ix2 r k)) := by
  rw [val_main_v7_apply, val_main_v6_apply, val_main_v4_apply, val_main_v2_apply, val_main_v1_apply, val_main_cst_apply,
    val_main_v3_apply, val_main_cst_0_apply, val_main_v5_apply, val_main_cst_1_apply]
  show Ideal.rsqrt (Ideal.div (Ideal.ofBits .f32 0x00000000#32 + ∑ k : Fin 1024, val_main_v0 (F := Ideal) X (idx_main_v1 (idx_main_v2 (ix2 r 0)) k))
    (Ideal.ofBits .f32 0x44800000#32) + Ideal.ofBits .f32 0x358637BD#32) = _
  rw [zero_bits, zero_add]
  unfold inv
  refine congrArg (fun s => Ideal.rsqrt (Ideal.div s _ + _)) (Finset.sum_congr rfl fun k _ => ?_)
  rw [val_main_v0_apply, idx2 (idx_main_v1 (idx_main_v2 (ix2 r 0)) k) r k rfl rfl]
  rfl

theorem v12_at (r : Fin 4096) (k : Fin 1024) : val_main_v12 (F := Ideal) X N (ix2 r k) = nA X N r k := by
  rw [val_main_v12_apply, val_main_v9_apply, val_main_v8_apply, idx2 (idx_main_v8 (ix2 r k)) r (0 : Fin 1) rfl rfl, v7_at,
    val_main_v11_apply, val_main_v10_apply, idx1 (idx_main_v10 (idx_main_v11 (ix2 r k))) k rfl]
  rfl

theorem v13_at (r : Fin 4096) (h : Fin 2816) : val_main_v13 (F := Ideal) X N WG (ix2 r h) = projA X N WG r h := by
  rw [val_main_v13_apply]
  refine Finset.sum_congr rfl fun k _ => ?_
  rw [idx2 (lidx_main_v13 (ix2 r h) k) r k rfl rfl, v12_at, idx2 (ridx_main_v13 (ix2 r h) k) k h rfl rfl]

theorem v16_at (r : Fin 4096) (h : Fin 2816) : val_main_v16 (F := Ideal) X N WG WU (ix2 r h) = hidA X N WG WU r h := by
  rw [val_main_v16_apply, val_main_v14_apply, val_main_call0_v5_apply, val_main_call0_v4_apply, val_main_call0_cst_0_apply,
    val_main_call0_v3_apply, val_main_call0_v2_apply, val_main_call0_cst_apply, val_main_call0_v1_apply,
    val_main_call0_v0_apply, v13_at,
    show val_main_v15 (F := Ideal) X N WU (ix2 r h) = projA X N WU r h from v13_at X N WU r h]
  show projA X N WG r h * Ideal.div (Ideal.ofBits .f32 0x3F800000#32) (Ideal.ofBits .f32 0x3F800000#32 + Ideal.exp (-projA X N WG r h))
    * projA X N WU r h = _
  rw [one_bits]
  rfl

theorem ref_O (r : Fin 4096) (k : Fin 1024) :
    val_main_v20 (F := Ideal) X N WG WU WD (ix2 r k) = outA X N WG WU WD r k := by
  rw [val_main_v20_apply, val_main_v19_apply, val_main_v18_apply, val_main_cst_2_apply, val_main_v17_apply]
  refine congrArg (fun s : EReal => X (ix2 r k) + Ideal.ofBits .f32 0x3F000000#32 * s) (Finset.sum_congr rfl fun h _ => ?_)
  rw [idx2 (lidx_main_v17 (ix2 r k) h) r h rfl rfl, v16_at, idx2 (ridx_main_v17 (ix2 r k) h) h k rfl rfl]

theorem ref_N (r : Fin 4096) (k : Fin 1024) : val_main_v21 (F := Ideal) X N (ix2 r k) = nA X N r k :=
  (val_main_v21_apply X N (ix2 r k)).trans (v12_at X N r k)

theorem ref_G (j : Fin 4) (r : Fin 4096) (f : Fin 704) :
    val_main_v25 (F := Ideal) X N WG (ix3 j r f) = projA X N WG r (col j f) := by
  rw [val_main_v25_apply, val_main_v24_apply, val_main_v23_apply,
    idx2 (idx_main_v23 (idx_main_v24 (ix3 j r f))) r (col j f)
      (by show ((r.val * 4 + j.val) * 704 + f.val) / 2816 = r.val; omega)
      (by show ((r.val * 4 + j.val) * 704 + f.val) % 2816 = j.val * 704 + f.val; omega)]
  exact v13_at X N WG r (col j f)

theorem ref_U (j : Fin 4) (r : Fin 4096) (f : Fin 704) :
    val_main_v29 (F := Ideal) X N WU (ix3 j r f) = projA X N WU r (col j f) :=
  ref_G X N WU j r f

end Reference

/-! ## The claim -/

section Claim

open Cert.Kernel4Ideal Cert.Kernel4Ideal.Gen
open Cert.Reference4Ideal.Read

attribute [local instance] Cert.Kernel4Ideal.Gen.facts Cert.Reference4Ideal.Gen.facts

theorem algebraic : Cert.algebraic_Kernel4Ideal_Reference4Ideal := by
  intro m g m' g' hpre hagree
  refine ⟨rO m, rN m, rG m, rU m, (θ_run defs _ _).mono (fun r h c => ⟨(h c).1.trans (final_5 m c), (h c).2.1.trans (final_6 m c),
      (h c).2.2.1.trans (final_7 m c), (h c).2.2.2.1.trans (final_8 m c), (h c).2.2.2.2⟩)
    (Cert.Kernel4Ideal.Value.run_blocks m g), ?_⟩
  refine (θ_run Cert.Reference4Ideal.defs _ _).mono (fun r h c => ?_) (Cert.Reference4Ideal.Value.run m' g')
  obtain ⟨e0, e1, e2, e3, e4⟩ := hagree c
  obtain ⟨h0, h1, h2, h3, hk⟩ := h c
  refine ⟨h0.trans ((val_main_v20_eq _ _ _ _ _).trans ?_), h1.trans ((val_main_v21_eq _ _).trans ?_),
    h2.trans ((val_main_v25_eq _ _ _).trans ?_), h3.trans ((val_main_v29_eq _ _ _).trans ?_), hk⟩
  · rw [e0, e1, e2, e3, e4]
    funext y
    rw [eq_ix2 y]
    exact ref_O (aX m c) (aN m c) (aG m c) (aU m c) (aD m c) _ _
  · rw [e0, e1]
    funext y
    rw [eq_ix2 y]
    exact ref_N (aX m c) (aN m c) _ _
  · rw [e0, e1, e2]
    funext y
    rw [eq_ix3 y]
    exact ref_G (aX m c) (aN m c) (aG m c) _ _ _
  · rw [e0, e1, e3]
    funext y
    rw [eq_ix3 y]
    exact ref_U (aX m c) (aN m c) (aU m c) _ _ _

end Claim

end Cert.Fwd

end
-- ==== Proof.Mix.Idx.lean ====
module

public import Idealize.ShloMosaic.Lib.Pipeline.ValueKit.Point
public import Idealize.ShloMosaic.Lib.Pointwise.Tactic
public import Idealize.ShloMosaic.Lib.ValueIdx

@[expose] public section

noncomputable section

namespace Cert.Mix

open Idealize.ShloMosaic

/-! ## An index from its coordinates' values -/

theorem idx1 {n0 : Nat} (y : (⟨1, ![n0]⟩ : Shape).Idx) (a : Fin n0) (h0 : (y 0 : Nat) = a) : y = ix1 a :=
  (eq_ix1 y).trans (by rw [show y 0 = a from Fin.ext h0])

theorem idx2 {n0 n1 : Nat} (y : (⟨2, ![n0, n1]⟩ : Shape).Idx) (a : Fin n0) (b : Fin n1)
    (h0 : (y 0 : Nat) = a) (h1 : (y 1 : Nat) = b) : y = ix2 a b :=
  (eq_ix2 y).trans (by rw [show y 0 = a from Fin.ext h0, show y 1 = b from Fin.ext h1])

theorem idx3 {n0 n1 n2 : Nat} (y : (⟨3, ![n0, n1, n2]⟩ : Shape).Idx) (a : Fin n0) (b : Fin n1) (c : Fin n2)
    (h0 : (y 0 : Nat) = a) (h1 : (y 1 : Nat) = b) (h2 : (y 2 : Nat) = c) : y = ix3 a b c :=
  (eq_ix3 y).trans (by rw [show y 0 = a from Fin.ext h0, show y 1 = b from Fin.ext h1, show y 2 = c from Fin.ext h2])

theorem zero_bits : Ideal.ofBits .f32 0x00000000#32 = 0 := by
  simp [Ideal.ofBits, Ideal.ieee]

end Cert.Mix

end
-- ==== Proof.Mix.NormIn.lean ====
module

public import proofs.«01_k».proof.Proof.Mix.Idx
public import proofs.«01_k».proof.Proof.Norm.Alg
public import proofs.«01_k».proof.Proof.Gen.Kernel5Ideal.Value
public import proofs.«01_k».proof.Proof.Gen.Reference5Ideal.Read
public import proofs.«01_k».proof.Proof.Gen.Pre_finite5
public import proofs.«01_k».proof.Defs
public import Idealize.ShloMosaic.Lib.Pipeline.ValueKit.Acc

@[expose] public section

noncomputable section

namespace Cert.Mix.NormIn

open Idealize.ShloMosaic Idealize.ShloMosaic.TcCoe Idealize.SL.Sem
open Cert.Norm (msq dxRow refRow row_eq_any real_mul real_sum real_of_all)

section Kernel

open Cert.Kernel5Ideal Cert.Kernel5Ideal.Gen

/-! ## One block of rows -/

/-- The gradient of the norm's result on a block: the projection's gradient against its weight. -/
def dxnB (x0 : Vec Ideal S1x512x3072 .bf16) (x1 : Vec Ideal S1x1024x3072 .bf16) (r : Fin 512) (k : Fin 1024) : EReal :=
  ∑ h : Fin 3072, x0 (ix3 0 r h) * x1 (ix3 0 k h)

theorem dxn_read (x0 : Vec Ideal S1x512x3072 .bf16) (x1 : Vec Ideal S1x1024x3072 .bf16) :
    k0_pay3 x0 x1 (k0_pay1 (F := Ideal)) = fun y => dxnB x0 x1 (y 0) (y 1) := by
  funext y
  obtain ⟨p, q, rfl⟩ : ∃ p q, y = ix2 p q := ⟨_, _, eq_ix2 y⟩
  pointwise [k0_pay3, k0_pay1, dxnB]

theorem pay_dx (a x : Vec Ideal S512x1024 .f32) (g : Vec Ideal S1x1024 .f32) (d : Vec Ideal S512x1024 .f32) (y : S512x1024.Idx) :
    k0_pay6 a x g d y
      = dxRow (fun k => a (ix2 (y 0) k)) (fun k => x (ix2 (y 0) k)) (fun k => g (ix2 0 k)) (d y) (y 1) := by
  obtain ⟨p, q, rfl⟩ : ∃ p q, y = ix2 p q := ⟨_, _, eq_ix2 y⟩
  pointwise [k0_pay6, k0_pay5, k0_pay4, dxRow, Cert.Norm.inv, msq]

theorem pay_dg (a x : Vec Ideal S512x1024 .f32) (v : Vec Ideal S1x1024 .f32) (y : S1x1024.Idx) :
    k0_pay7 a x v y
      = v y + ∑ r : Fin 512, a (ix2 r (y 1)) * (x (ix2 r (y 1)) * Cert.Norm.inv (fun k => x (ix2 r k))) := by
  pointwise [k0_pay7, k0_pay5, k0_pay4, Cert.Norm.inv, msq]

theorem zero_g (y : S1x1024.Idx) : k0_pay2 (F := Ideal) y = 0 := by
  pointwise [k0_pay2]

section Case

variable (c : Dev nD) (i : grid0.Coords)
  (arg2 : Memref sig .tc .vmem S1x512x3072 .bf16) (harg2 : arg2.IsWhole)
  (arg3 : Memref sig .tc .vmem S1x1024x3072 .bf16) (harg3 : arg3.IsWhole)
  (arg4 : Memref sig .tc .vmem S512x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S512x1024 .f32) (harg7 : arg7.IsWhole)
  (arg8 : Memref sig .tc .vmem S1x1024 .f32) (harg8 : arg8.IsWhole)
  (arg9 : Memref sig .tc .vmem S512x1024 .f32) (harg9 : arg9.IsWhole)
  (hc0 : cond0_0 i) (hc2 : cond0_2 i)
  (x0 : Vec Ideal S1x512x3072 .bf16) (x1 : Vec Ideal S1x1024x3072 .bf16)
  (x2 : Vec Ideal S512x1024 .f32) (x3 : Vec Ideal S1x1024 .f32) (x4 : Vec Ideal S512x1024 .f32) (xo6 : Vec Ideal S1x1024 .f32)

/-- The block of the gradient of the input. -/
def dxB (y : S512x1024.Idx) : EReal :=
  dxRow (fun k => dxnB x0 x1 (y 0) k) (fun k => x2 (ix2 (y 0) k)) (fun k => x3 (ix2 0 k)) (x4 y) (y 1)

/-- What one block of rows adds to the gradient of the gain. -/
def partB (y : S1x1024.Idx) : EReal :=
  ∑ r : Fin 512, dxnB x0 x1 r (y 1) * (x2 (ix2 r (y 1)) * Cert.Norm.inv (fun k => x2 (ix2 r k)))

theorem out_A_5 (hc1 : cond0_1 i) (y : S512x1024.Idx) :
    out0_A_5 c i arg2 harg2 arg3 harg3 arg4 harg4 arg5 harg5 arg6 harg6 arg7 harg7 arg8 harg8 arg9 harg9 hc0 hc1 hc2 x0 x1 x2 x3 x4 y = dxB x0 x1 x2 x3 x4 y := by
  frame_out
  rw [dxn_read x0 x1, pay_dx]
  rfl

theorem out_A_6 (hc1 : cond0_1 i) (y : S1x1024.Idx) :
    out0_A_6 c i arg2 harg2 arg3 harg3 arg4 harg4 arg5 harg5 arg6 harg6 arg7 harg7 arg8 harg8 arg9 harg9 hc0 hc1 hc2 x0 x1 x2 x3 x4 y = 0 + partB x0 x1 x2 y := by
  frame_out
  rw [dxn_read x0 x1, pay_dg, zero_g]
  rfl

theorem out_B_5 (hc1 : ¬cond0_1 i) (y : S512x1024.Idx) :
    out0_B_5 c i arg2 harg2 arg3 harg3 arg4 harg4 arg5 harg5 arg6 harg6 arg7 harg7 arg8 harg8 arg9 harg9 hc0 hc1 hc2 x0 x1 x2 x3 x4 xo6 y = dxB x0 x1 x2 x3 x4 y := by
  frame_out
  rw [dxn_read x0 x1, pay_dx]
  rfl

theorem out_B_6 (hc1 : ¬cond0_1 i) (y : S1x1024.Idx) :
    out0_B_6 c i arg2 harg2 arg3 harg3 arg4 harg4 arg5 harg5 arg6 harg6 arg7 harg7 arg8 harg8 arg9 harg9 hc0 hc1 hc2 x0 x1 x2 x3 x4 xo6 y = xo6 y + partB x0 x1 x2 y := by
  frame_out
  rw [dxn_read x0 x1, pay_dg]
  rfl

end Case

/-! ## The mathematics over whole arrays -/

section Arrays

variable (X R : (⟨2, ![4096, 1024]⟩ : Shape).Idx → EReal) (G : (⟨1, ![1024]⟩ : Shape).Idx → EReal)
  (W : (⟨2, ![1024, 3072]⟩ : Shape).Idx → EReal) (Z : (⟨2, ![4096, 3072]⟩ : Shape).Idx → EReal)

/-- The gradient of the norm's result. -/
def dxnA (r : Fin 4096) (k : Fin 1024) : EReal := ∑ h : Fin 3072, Z (ix2 r h) * W (ix2 k h)

/-- The gradient of the input. -/
def dxA (r : Fin 4096) (k : Fin 1024) : EReal :=
  dxRow (fun j => dxnA W Z r j) (fun j => X (ix2 r j)) (fun j => G (ix1 j)) (R (ix2 r k)) k

/-- The gradient of the gain. -/
def dgA (k : Fin 1024) : EReal :=
  ∑ r : Fin 4096, dxnA W Z r k * (X (ix2 r k) * Cert.Norm.inv (fun j => X (ix2 r j)))

theorem dx_eq (hX : ∀ i, ∃ a : ℝ, X i = a) (hG : ∀ i, ∃ a : ℝ, G i = a) (hW : ∀ i, ∃ a : ℝ, W i = a)
    (hZ : ∀ i, ∃ a : ℝ, Z i = a) (r : Fin 4096) (k : Fin 1024) :
    dxA X R G W Z r k = refRow (fun j => dxnA W Z r j) (fun j => X (ix2 r j)) (fun j => G (ix1 j)) (R (ix2 r k)) k :=
  row_eq_any _ _ _ _ _ (fun j => real_sum _ fun h => real_mul (hZ _) (hW _)) (fun j => hX _) (fun j => hG _)

end Arrays

/-! ## The blocks of a grid point -/

variable (m : (ℓ : Loc nD τ sig) → Buf (Elt Ideal) ℓ) (c : Dev nD)

abbrev aX : Vec Ideal S4096x1024 .f32 := m ((c : Thread nD τ).loc main_arg0)
abbrev aN : Vec Ideal S1024 .f32 := m ((c : Thread nD τ).loc main_arg1)
abbrev aW : Vec Ideal S1024x3072 .f32 := m ((c : Thread nD τ).loc main_arg2)
abbrev aR : Vec Ideal S4096x1024 .f32 := m ((c : Thread nD τ).loc main_arg3)
abbrev aZ : Vec Ideal S4096x3072 .f32 := m ((c : Thread nD τ).loc main_arg4)

theorem z_V (r : Fin 4096) (h : Fin 3072) : V m c main_v1 (ix3 0 r h) = aZ m c (ix2 r h) := by
  entry_read
  pointwise

theorem w_V (k : Fin 1024) (h : Fin 3072) : V m c main_v3 (ix3 0 k h) = aW m c (ix2 k h) := by
  entry_read
  pointwise

theorem n_V (k : Fin 1024) : V m c main_v4 (ix2 0 k) = aN m c (ix1 k) := by
  entry_read
  pointwise

theorem hN : cfg0.N = 8 := N_0

abbrev row (t : Fin cfg0.N) (r : Fin 512) : Fin 4096 := ⟨t.val * 512 + r.val, by have := t.isLt; have := hN; omega⟩

theorem ix_0 : ∀ t : Fin cfg0.N, win0_0.index t = ![0, t.val, 0] := (by decide +kernel : ∀ t : Fin grid0.N, _)
theorem ix_1 : ∀ t : Fin cfg0.N, win0_1.index t = ![0, 0, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![0, 0] := (by decide +kernel : ∀ t : Fin grid0.N, _)

abbrev B0 (t : Fin cfg0.N) : Vec Ideal S1x512x3072 .bf16 := iblk m c 0 t
abbrev B1 (t : Fin cfg0.N) : Vec Ideal S1x1024x3072 .bf16 := iblk m c 1 t
abbrev B2 (t : Fin cfg0.N) : Vec Ideal S512x1024 .f32 := iblk m c 2 t
abbrev B3 (t : Fin cfg0.N) : Vec Ideal S1x1024 .f32 := iblk m c 3 t
abbrev B4 (t : Fin cfg0.N) : Vec Ideal S512x1024 .f32 := iblk m c 4 t

theorem b_0 (t : Fin cfg0.N) (r : Fin 512) (h : Fin 3072) : B0 m c t (ix3 0 r h) = aZ m c (ix2 (row t r) h) := by
  rw [← z_V]
  blk_ext! [iblk, ix_0 t]

theorem b_1 (t : Fin cfg0.N) (k : Fin 1024) (h : Fin 3072) : B1 m c t (ix3 0 k h) = aW m c (ix2 k h) := by
  rw [← w_V]
  blk_ext! [iblk, ix_1 t]

theorem b_2 (t : Fin cfg0.N) (r : Fin 512) (k : Fin 1024) : B2 m c t (ix2 r k) = aX m c (ix2 (row t r) k) := by
  blk_ext! [iblk, V, ix_2 t]

theorem b_3 (t : Fin cfg0.N) (k : Fin 1024) : B3 m c t (ix2 0 k) = aN m c (ix1 k) := by
  rw [← n_V]
  blk_ext! [iblk, ix_3 t]

theorem b_4 (t : Fin cfg0.N) (r : Fin 512) (k : Fin 1024) : B4 m c t (ix2 r k) = aR m c (ix2 (row t r) k) := by
  blk_ext! [iblk, V, ix_4 t]

theorem dxn_t (t : Fin cfg0.N) (r : Fin 512) (k : Fin 1024) :
    dxnB (B0 m c t) (B1 m c t) r k = dxnA (aW m c) (aZ m c) (row t r) k := by
  unfold dxnB dxnA
  simp only [b_0, b_1]

theorem dx_t (t : Fin cfg0.N) (r : Fin 512) (k : Fin 1024) :
    dxB (B0 m c t) (B1 m c t) (B2 m c t) (B3 m c t) (B4 m c t) (ix2 r k)
      = dxA (aX m c) (aR m c) (aN m c) (aW m c) (aZ m c) (row t r) k := by
  show dxRow (fun j => dxnB (B0 m c t) (B1 m c t) r j) (fun j => B2 m c t (ix2 r j))
    (fun j => B3 m c t (ix2 0 j)) (B4 m c t (ix2 r k)) k = _
  simp only [dxn_t, b_2, b_3, b_4]
  rfl

/-! ## The carried sum -/

abbrev tB (t : Fin cfg0.N) (y : S1x1024.Idx) : EReal := partB (B0 m c t) (B1 m c t) (B2 m c t) y

theorem tB_t (t : Fin cfg0.N) (y : S1x1024.Idx) :
    tB m c t y = ∑ r : Fin 512, dxnA (aW m c) (aZ m c) (row t r) (y 1)
      * (aX m c (ix2 (row t r) (y 1)) * Cert.Norm.inv (fun j => aX m c (ix2 (row t r) j))) := by
  refine Finset.sum_congr rfl fun r _ => ?_
  exact congrArg₂ (· * ·) (dxn_t m c t r (y 1))
    (congrArg₂ (· * ·) (b_2 m c t r (y 1)) (congrArg Cert.Norm.inv (funext fun k => b_2 m c t r k)))

theorem stepA (t : Fin cfg0.N) (h : t.val % 8 = 0) (y : S1x1024.Idx) :
    (outsAt0 m c t.val t.isLt).2 y = 0 + tB m c t y := by
  have e := congrFun (congrArg (fun p => p.2) (outsAt0_A m c t h)) y
  dsimp only at e
  rw [out_A_6] at e
  exact e

theorem stepB (t : Fin cfg0.N) (h : ¬t.val % 8 = 0) (y : S1x1024.Idx) :
    (outsAt0 m c t.val t.isLt).2 y
      = (outsAt0 m c (t.val - 1) (Nat.lt_of_le_of_lt (Nat.sub_le _ _) t.isLt)).2 y + tB m c t y := by
  have e := congrFun (congrArg (fun p => p.2) (outsAt0_B m c t h)) y
  generalize outsAt0 m c (t.val - 1) (Nat.lt_of_le_of_lt (Nat.sub_le _ _) t.isLt) = p at e ⊢
  dsimp only at e
  rw [out_B_6] at e
  exact e

theorem acc_6 (t : Fin cfg0.N) (ht : t.val % 8 = 7) (y : S1x1024.Idx) :
    (outsAt0 m c t.val t.isLt).2 y
      = ∑ s : Fin 8, tB m c ⟨8 * (t.val / 8) + s.val, Pipeline.run_point_lt_of_flush t ht s⟩ y := by
  rw [Pipeline.eq_sum_fin_of_reset_step_apply_of_flush (fun n h => (outsAt0 m c n h).2) 8 (fun _ => (0 : EReal))
    (tB m c) (fun t h y => stepA m c t h y) (fun t h y => stepB m c t h y) t ht y, zero_add]

theorem blk_5 (t : Fin cfg0.N) (y : S512x1024.Idx) :
    (outsAt0 m c t.val t.isLt).1 y = dxB (B0 m c t) (B1 m c t) (B2 m c t) (B3 m c t) (B4 m c t) y := by
  by_cases h : t.val % 8 = 0
  · have e := congrFun (congrArg (fun p => p.1) (outsAt0_A m c t h)) y
    dsimp only at e
    rw [out_A_5] at e
    exact e
  · have e := congrFun (congrArg (fun p => p.1) (outsAt0_B m c t h)) y
    generalize outsAt0 m c (t.val - 1) (Nat.lt_of_le_of_lt (Nat.sub_le _ _) t.isLt) = p at e
    dsimp only at e
    rw [out_B_5] at e
    exact e

/-! ## The two result arrays -/

/-- The gradient of the input. -/
def rX (y : S4096x1024.Idx) : EReal := dxA (aX m c) (aR m c) (aN m c) (aW m c) (aZ m c) (y 0) (y 1)

/-- The gradient of the gain. -/
def rN (y : S1x1024.Idx) : EReal := dgA (aX m c) (aW m c) (aZ m c) (y 1)

theorem emb_5 (t : Fin cfg0.N) (y : S512x1024.Idx) : (win0_5.blk t).view.emb y = ix2 (row t (y 0)) (y 1) := by
  blk_ext [ix_5 t]

theorem final_5 : (dats m 0 c).arrAt 5 cfg0.N = rX m c := by
  refine (dats m 0 c).arrAt_eq_of_covers 5 _ (by decide +kernel) fun t hf y => ?_
  blk_simp
  rw [after0_5, blk_5, emb_5, idx2 y (y 0) (y 1) rfl rfl]
  exact dx_t m c t (y 0) (y 1)

theorem emb_6 (t : Fin cfg0.N) (y : S1x1024.Idx) : (win0_6.blk t).view.emb y = ix2 0 (y 1) := by
  blk_ext [ix_6 t]

theorem row_run (t : Fin cfg0.N) (ht : t.val % 8 = 7) (s : Fin 8) (h) (k : Fin 512) (hl : s.val * 512 + k.val < 4096) :
    row (⟨8 * (t.val / 8) + s.val, h⟩ : Fin cfg0.N) k = ⟨s.val * 512 + k.val, hl⟩ :=
  Fin.ext (by have := t.isLt; have := hN; show (8 * (t.val / 8) + s.val) * 512 + k.val = s.val * 512 + k.val; omega)

theorem final_6 : (dats m 0 c).arrAt 6 cfg0.N = rN m c := by
  refine (dats m 0 c).arrAt_eq_of_covers 6 _ (by decide +kernel) fun t hf y => ?_
  have ht := (flush0_6 t).mp hf
  blk_simp
  rw [after0_6, acc_6 m c t ht, emb_6]
  simp only [tB_t]
  show _ = ∑ r : Fin 4096, (fun r => dxnA (aW m c) (aZ m c) r (y 1)
      * (aX m c (ix2 r (y 1)) * Cert.Norm.inv (fun j => aX m c (ix2 r j)))) r
  refine Fin.sum_mul_add_congr fun s k hl => ?_
  rw [row_run t ht s _ k hl]

end Kernel

/-! ## The reference at an index -/

section Reference

open Cert.Reference5Ideal Cert.Reference5Ideal.Read

variable (X R : Vec Ideal S4096x1024 .f32) (G : Vec Ideal S1024 .f32) (W : Vec Ideal S1024x3072 .f32) (Z : Vec Ideal S4096x3072 .f32)

theorem v6_at (r : Fin 4096) : val_main_v6 (F := Ideal) X (ix2 r 0) = msq (fun k => X (ix2 r k)) := by
  rw [val_main_v6_apply, val_main_v4_apply, val_main_v2_apply, val_main_v1_apply, val_main_cst_apply, val_main_v3_apply,
    val_main_cst_0_apply, val_main_v5_apply, val_main_cst_1_apply]
  show Ideal.div (Ideal.ofBits .f32 0x00000000#32 + ∑ k : Fin 1024, val_main_v0 (F := Ideal) X (idx_main_v1 (idx_main_v2 (ix2 r 0)) k))
    (Ideal.ofBits .f32 0x44800000#32) + Ideal.ofBits .f32 0x358637BD#32 = _
  rw [zero_bits, zero_add]
  unfold msq
  refine congrArg (fun s => Ideal.div s _ + _) (Finset.sum_congr rfl fun k _ => ?_)
  rw [val_main_v0_apply, idx2 (idx_main_v1 (idx_main_v2 (ix2 r 0)) k) r k rfl rfl]
  rfl

theorem v7_at (r : Fin 4096) : val_main_v7 (F := Ideal) X (ix2 r 0) = Cert.Norm.inv (fun k => X (ix2 r k)) := by
  rw [val_main_v7_apply, v6_at]
  rfl

theorem v12_at (r : Fin 4096) (k : Fin 1024) :
    val_main_v12 (F := Ideal) X (ix2 r k) = X (ix2 r k) * Cert.Norm.inv (fun k => X (ix2 r k)) := by
  rw [val_main_v12_apply, val_main_v11_apply, idx2 (idx_main_v11 (ix2 r k)) r (0 : Fin 1) rfl rfl, v7_at]
  rfl

theorem v17_at (r : Fin 4096) (k : Fin 1024) : val_main_v17 (F := Ideal) W Z (ix2 r k) = dxnA W Z r k := by
  rw [val_main_v17_apply]
  exact Finset.sum_congr rfl fun h _ => congrArg₂ (fun i j => Z i * W j) (idx2 _ _ _ rfl rfl) (idx2 _ _ _ rfl rfl)

theorem v22_at (r : Fin 4096) (k : Fin 1024) : val_main_v22 (F := Ideal) G W Z (ix2 r k) = dxnA W Z r k * G (ix1 k) := by
  rw [val_main_v22_apply, v17_at, val_main_v21_apply, val_main_v13_apply, idx1 (idx_main_v13 (idx_main_v21 (ix2 r k))) k rfl]
  rfl

theorem v33_at (r : Fin 4096) :
    val_main_v33 (F := Ideal) X G W Z (ix1 r)
      = Cert.Norm.slope (fun j => dxnA W Z r j) (fun j => X (ix2 r j)) (fun j => G (ix1 j)) := by
  rw [val_main_v33_apply, val_main_cst_7_apply, Fin.sum_univ_one, idx2 (idx_main_v33 (ix1 r) 0) r (0 : Fin 1) rfl rfl,
    val_main_v32_apply, val_main_v31_apply, val_main_cst_6_apply, val_main_v30_apply, val_main_v26_apply, val_main_v25_apply,
    val_main_cst_5_apply, val_main_v10_apply, val_main_v9_apply, val_main_cst_2_apply, val_main_v8_apply, v7_at, v6_at]
  show Ideal.ofBits .f32 0x00000000#32 + Ideal.div ((Ideal.ofBits .f32 0x00000000#32
    + ∑ k : Fin 1024, val_main_v24 (F := Ideal) X G W Z (idx_main_v25 (idx_main_v26 (ix2 r 0)) k)) * _) _ = _
  rw [zero_bits, zero_add, zero_add]
  unfold Cert.Norm.slope
  refine congrArg (fun s => Ideal.div (s * _) _) (Finset.sum_congr rfl fun k _ => ?_)
  rw [idx2 (idx_main_v25 (idx_main_v26 (ix2 r 0)) k) r k (by show r.val * 1 + 0 = r.val; omega) rfl,
    val_main_v24_apply, v22_at]
  rfl

theorem v34_at (r : Fin 4096) (k : Fin 1024) :
    val_main_v34 (F := Ideal) X G W Z (ix2 r k)
      = Cert.Norm.slope (fun j => dxnA W Z r j) (fun j => X (ix2 r j)) (fun j => G (ix1 j)) := by
  rw [val_main_v34_apply, idx1 (idx_main_v34 (ix2 r k)) r rfl, v33_at]

theorem ref_X (r : Fin 4096) (k : Fin 1024) :
    val_main_v38 (F := Ideal) X G W R Z (ix2 r k)
      = refRow (fun j => dxnA W Z r j) (fun j => X (ix2 r j)) (fun j => G (ix1 j)) (R (ix2 r k)) k := by
  rw [val_main_v38_apply, val_main_v36_apply, val_main_v37_apply, val_main_v35_apply, val_main_v29_apply, val_main_v28_apply,
    v34_at, v22_at, val_main_v27_apply, idx2 (idx_main_v27 (ix2 r k)) r (0 : Fin 1) rfl rfl, v7_at]
  rfl

theorem ref_N (k : Fin 1024) : val_main_v39 (F := Ideal) X W Z (ix2 0 k) = dgA X W Z k := by
  rw [val_main_v39_apply, val_main_v23_apply, val_main_cst_4_apply, Fin.sum_univ_one, val_main_v20_apply, val_main_v19_apply,
    val_main_cst_3_apply]
  show Ideal.ofBits .f32 0x00000000#32 + (Ideal.ofBits .f32 0x00000000#32 + _) = _
  rw [zero_bits, zero_add, zero_add]
  refine Finset.sum_congr rfl fun r _ => ?_
  rw [idx2 (idx_main_v19 _ r) r k rfl (by first | rfl | simp), val_main_v18_apply, v12_at, v17_at]
  exact mul_comm _ _

end Reference

/-! ## The precondition read back -/

section Pre

open Cert.Pre_finite5

attribute [local instance] Cert.Pre_finite5.Gen.facts

theorem finite_real (x0 : Vec Ideal S4096x1024 .f32) (x1 : Vec Ideal S1024 .f32) (x2 : Vec Ideal S1024x3072 .f32)
    (x3 : Vec Ideal S4096x1024 .f32) (x4 : Vec Ideal S4096x3072 .f32)
    (e : Cert.Pre_finite5.fn (F := Ideal) x0 x1 x2 x3 x4 = fun _ => 1#1) :
    (∀ i, ∃ a : ℝ, x0 i = a) ∧ (∀ i, ∃ a : ℝ, x1 i = a) ∧ (∀ i, ∃ a : ℝ, x2 i = a)
      ∧ ∀ i, ∃ a : ℝ, x4 i = a := by
  have e0 := congrFun e (fun a => a.elim0)
  obtain ⟨e1, h4⟩ := IntOp.andi_eq_one.1 e0
  obtain ⟨e2, h2⟩ := IntOp.andi_eq_one.1 e1
  obtain ⟨h0, h1⟩ := IntOp.andi_eq_one.1 e2
  exact ⟨real_of_all x0 _ _ _ h0, real_of_all x1 _ _ _ h1, real_of_all x2 _ _ _ h2, real_of_all x4 _ _ _ h4⟩

end Pre

/-! ## The claim -/

section Claim

attribute [local instance] Cert.Kernel5Ideal.Gen.facts Cert.Reference5Ideal.Gen.facts Cert.Pre_finite5.Gen.facts

open Cert.Kernel5Ideal Cert.Kernel5Ideal.Gen

open Cert.Reference5Ideal.Read in
theorem algebraic : Cert.algebraic_Kernel5Ideal_Reference5Ideal_pre_finite5 := by
  intro m g m' g' hpre hagree
  refine ⟨rX m, rN m, (θ_run defs _ _).mono (fun r h c => ⟨(h c).1.trans (final_5 m c), (h c).2.1.trans (final_6 m c), (h c).2.2⟩)
    (Cert.Kernel5Ideal.Value.run_blocks m g), ?_⟩
  refine (θ_run Cert.Reference5Ideal.defs _ _).mono (fun r h c => ?_) (Cert.Reference5Ideal.Value.run m' g')
  obtain ⟨e0, e1, e2, e3, e4⟩ := hagree c
  obtain ⟨h0, h1, hk⟩ := h c
  obtain ⟨kX, kN, kW, kZ⟩ := finite_real _ _ _ _ _ (hpre c)
  refine ⟨h0.trans ((val_main_v38_eq m' c).trans ?_), h1.trans ((val_main_v39_eq _ _ _).trans ?_), hk⟩
  · rw [e0, e1, e2, e3, e4]
    funext y
    rw [eq_ix2 y]
    exact (ref_X (aX m c) (aR m c) (aN m c) (aW m c) (aZ m c) _ _).trans (dx_eq _ _ _ _ _ kX kN kW kZ _ _).symm
  · rw [e0, e2, e4]
    funext y
    have h0 : (y 0).val < 1 := (y 0).isLt
    rw [idx2 y (0 : Fin 1) (y 1) (by show (y 0).val = 0; omega) rfl]
    exact ref_N (aX m c) (aW m c) (aZ m c) _

end Claim

end Cert.Mix.NormIn

end
-- ==== Proof.Mix.Tn.lean ====
module

public import proofs.«01_k».proof.Proof.Mix.Idx
public import proofs.«01_k».proof.Proof.Gen.Kernel6Ideal.Value
public import proofs.«01_k».proof.Proof.Gen.Reference6Ideal.Read
public import proofs.«01_k».proof.Defs
public import Idealize.ShloMosaic.Lib.Pipeline.ValueKit.Acc

@[expose] public section

noncomputable section

namespace Cert.Mix.Tn

open Idealize.ShloMosaic Idealize.ShloMosaic.TcCoe Idealize.SL.Sem
open Cert.Kernel6Ideal Cert.Kernel6Ideal.Gen

/-! ## What a grid point adds -/

/-- A row tile's part of the weight's gradient. -/
def part (x0 : Vec Ideal S1024x1024 .bf16) (x1 : Vec Ideal S1024x768 .bf16) (y : S1024x768.Idx) : EReal :=
  ∑ r : Fin 1024, x0 (ix2 r (y 0)) * x1 (ix2 r (y 1))

theorem pay_zero (y : S1024x768.Idx) : k0_pay1 (F := Ideal) y = 0 := by
  pointwise [k0_pay1]

theorem pay_acc (v : Vec Ideal S1024x768 .f32) (x0 : Vec Ideal S1024x1024 .bf16) (x1 : Vec Ideal S1024x768 .bf16) (y : S1024x768.Idx) :
    k0_pay2 v x0 x1 y = v y + part x0 x1 y := by
  obtain ⟨p, q, rfl⟩ : ∃ p q, y = ix2 p q := ⟨_, _, eq_ix2 y⟩
  pointwise [k0_pay2, part]

theorem pay_out (v : Vec Ideal S1024x768 .f32) (y : S1x1024x768.Idx) : k0_pay3 v y = v (ix2 (y 1) (y 2)) := by
  obtain ⟨a, p, q, rfl⟩ : ∃ a p q, y = ix3 a p q := ⟨_, _, _, eq_ix3 y⟩
  pointwise [k0_pay3]

section Case

variable (c : Dev nD) (i : grid0.Coords)
  (arg2 : Memref sig .tc .vmem S1024x1024 .bf16) (harg2 : arg2.IsWhole)
  (arg3 : Memref sig .tc .vmem S1024x768 .bf16) (harg3 : arg3.IsWhole)
  (arg4 : Memref sig .tc .vmem S1x1024x768 .bf16) (harg4 : arg4.IsWhole)
  (arg5 : Memref sig .tc .vmem S1024x768 .f32) (harg5 : arg5.IsWhole)
  (x0 : Vec Ideal S1024x1024 .bf16) (x1 : Vec Ideal S1024x768 .bf16) (xs0 : Vec Ideal S1024x768 .f32)

theorem sout_A (hc0 : cond0_0 i) (hc1 : ¬cond0_1 i) (y : S1024x768.Idx) :
    sout0_A_0 c i arg2 harg2 arg3 harg3 arg4 harg4 arg5 harg5 hc0 hc1 x0 x1 y = 0 + part x0 x1 y := by
  frame_out
  rw [pay_acc, pay_zero]

theorem sout_B (hc0 : ¬cond0_0 i) (hc1 : ¬cond0_1 i) (y : S1024x768.Idx) :
    sout0_B_0 c i arg2 harg2 arg3 harg3 arg4 harg4 arg5 harg5 hc0 hc1 x0 x1 xs0 y = xs0 y + part x0 x1 y := by
  frame_out
  rw [pay_acc]

theorem sout_C (hc0 : ¬cond0_0 i) (hc1 : cond0_1 i) (y : S1024x768.Idx) :
    sout0_C_0 c i arg2 harg2 arg3 harg3 arg4 harg4 arg5 harg5 hc0 hc1 x0 x1 xs0 y = xs0 y + part x0 x1 y := by
  frame_out
  rw [pay_acc]

theorem out_C (hc0 : ¬cond0_0 i) (hc1 : cond0_1 i) (y : S1x1024x768.Idx) :
    out0_C_2 c i arg2 harg2 arg3 harg3 arg4 harg4 arg5 harg5 hc0 hc1 x0 x1 xs0 y
      = xs0 (ix2 (y 1) (y 2)) + part x0 x1 (ix2 (y 1) (y 2)) := by
  frame_out
  rw [pay_out, pay_acc]

end Case

/-! ## The blocks of a grid point -/

variable (m : (ℓ : Loc nD τ sig) → Buf (Elt Ideal) ℓ) (c : Dev nD)

abbrev aH : Vec Ideal S4096x1024 .f32 := m ((c : Thread nD τ).loc main_arg0)
abbrev aZ : Vec Ideal S4096x3072 .f32 := m ((c : Thread nD τ).loc main_arg2)

theorem h_V (r : Fin 4096) (k : Fin 1024) : V m c main_v0 (ix2 r k) = aH m c (ix2 r k) := by
  entry_read
  pointwise

theorem z_V (r : Fin 4096) (k : Fin 3072) : V m c main_v1 (ix2 r k) = aZ m c (ix2 r k) := by
  entry_read
  pointwise

theorem hN : cfg0.N = 16 := N_0

abbrev row (t : Fin cfg0.N) (r : Fin 1024) : Fin 4096 := ⟨t.val % 4 * 1024 + r.val, by omega⟩
abbrev col (t : Fin cfg0.N) (b : Fin 768) : Fin 3072 := ⟨t.val / 4 * 768 + b.val, by have := t.isLt; have := hN; omega⟩
abbrev chunk (t : Fin cfg0.N) : Fin 4 := ⟨t.val / 4, by have := t.isLt; have := hN; omega⟩

theorem ix_0 : ∀ t : Fin cfg0.N, win0_0.index t = ![t.val % 4, 0] := (by decide +kernel : ∀ t : Fin grid0.N, _)
theorem ix_1 : ∀ t : Fin cfg0.N, win0_1.index t = ![t.val % 4, t.val / 4] := (by decide +kernel : ∀ t : Fin grid0.N, _)
theorem ix_2 : ∀ t : Fin cfg0.N, win0_2.index t = ![t.val / 4, 0, 0] := (by decide +kernel : ∀ t : Fin grid0.N, _)

abbrev B0 (t : Fin cfg0.N) : Vec Ideal S1024x1024 .bf16 := iblk m c 0 t
abbrev B1 (t : Fin cfg0.N) : Vec Ideal S1024x768 .bf16 := iblk m c 1 t

theorem b_0 (t : Fin cfg0.N) (r : Fin 1024) (k : Fin 1024) : B0 m c t (ix2 r k) = aH m c (ix2 (row t r) k) := by
  rw [← h_V]
  blk_ext! [iblk, ix_0 t]

theorem b_1 (t : Fin cfg0.N) (r : Fin 1024) (k : Fin 768) : B1 m c t (ix2 r k) = aZ m c (ix2 (row t r) (col t k)) := by
  rw [← z_V]
  blk_ext! [iblk, ix_1 t]

/-! ## The carried sum -/

abbrev tP (t : Fin cfg0.N) (y : S1024x768.Idx) : EReal := part (B0 m c t) (B1 m c t) y

theorem tP_t (t : Fin cfg0.N) (y : S1024x768.Idx) :
    tP m c t y = ∑ r : Fin 1024, aH m c (ix2 (row t r) (y 0)) * aZ m c (ix2 (row t r) (col t (y 1))) :=
  Finset.sum_congr rfl fun r _ => congrArg₂ (· * ·) (b_0 m c t r (y 0)) (b_1 m c t r (y 1))

theorem stepA (t : Fin cfg0.N) (h : t.val % 4 = 0) (y : S1024x768.Idx) :
    (outsAt0 m c t.val t.isLt).2 y = 0 + tP m c t y := by
  have e := congrFun (congrArg (fun p => p.2) (outsAt0_A m c t h (by omega))) y
  dsimp only at e
  rw [sout_A] at e
  exact e

theorem stepB (t : Fin cfg0.N) (h : ¬t.val % 4 = 0) (h1 : ¬t.val % 4 = 3) (y : S1024x768.Idx) :
    (outsAt0 m c t.val t.isLt).2 y
      = (outsAt0 m c (t.val - 1) (Nat.lt_of_le_of_lt (Nat.sub_le _ _) t.isLt)).2 y + tP m c t y := by
  have e := congrFun (congrArg (fun p => p.2) (outsAt0_B m c t h h1)) y
  generalize outsAt0 m c (t.val - 1) (Nat.lt_of_le_of_lt (Nat.sub_le _ _) t.isLt) = p at e ⊢
  dsimp only at e
  rw [sout_B] at e
  exact e

theorem stepC (t : Fin cfg0.N) (h : ¬t.val % 4 = 0) (h1 : t.val % 4 = 3) (y : S1024x768.Idx) :
    (outsAt0 m c t.val t.isLt).2 y
      = (outsAt0 m c (t.val - 1) (Nat.lt_of_le_of_lt (Nat.sub_le _ _) t.isLt)).2 y + tP m c t y := by
  have e := congrFun (congrArg (fun p => p.2) (outsAt0_C m c t h h1)) y
  generalize outsAt0 m c (t.val - 1) (Nat.lt_of_le_of_lt (Nat.sub_le _ _) t.isLt) = p at e ⊢
  dsimp only at e
  rw [sout_C] at e
  exact e

theorem scr (t : Fin cfg0.N) (ht : t.val % 4 = 3) (y : S1024x768.Idx) :
    (outsAt0 m c t.val t.isLt).2 y
      = ∑ s : Fin 4, tP m c ⟨4 * (t.val / 4) + s.val, Pipeline.run_point_lt_of_flush t ht s⟩ y := by
  rw [Pipeline.eq_sum_fin_of_reset_step_apply_of_flush (fun n h => (outsAt0 m c n h).2) 4 (fun _ => (0 : EReal))
    (tP m c) (fun t h y => stepA m c t h y)
    (fun t h y => if h1 : t.val % 4 = 3 then stepC m c t h h1 y else stepB m c t h h1 y)
    t ht y, zero_add]

theorem wr (t : Fin cfg0.N) (ht : t.val % 4 = 3) (y : S1x1024x768.Idx) :
    (outsAt0 m c t.val t.isLt).1 y = (outsAt0 m c t.val t.isLt).2 (ix2 (y 1) (y 2)) := by
  have e := congrFun (congrArg (fun p => p.1) (outsAt0_C m c t (by omega) ht)) y
  have e' := stepC m c t (by omega) ht (ix2 (y 1) (y 2))
  generalize outsAt0 m c (t.val - 1) (Nat.lt_of_le_of_lt (Nat.sub_le _ _) t.isLt) = p at e e'
  dsimp only at e
  rw [out_C] at e
  exact e.trans e'.symm

/-! ## The result array -/

/-- The gradient of the weight, in four groups of columns. -/
def dW (y : S4x1024x768.Idx) : EReal :=
  ∑ r : Fin 4096, aH m c (ix2 r (y 1)) * aZ m c (ix2 r ⟨(y 0).val * 768 + (y 2).val, by
    have h0 : (y 0).val < 4 := (y 0).isLt
    have h2 : (y 2).val < 768 := (y 2).isLt
    omega⟩)

theorem emb_2 (t : Fin cfg0.N) (y : S1x1024x768.Idx) : (win0_2.blk t).view.emb y = ix3 (chunk t) (y 1) (y 2) := by
  blk_ext [ix_2 t]

theorem final : (dats m 0 c).arrAt 2 cfg0.N = dW m c := by
  refine (dats m 0 c).arrAt_eq_of_covers 2 _ (by decide +kernel) fun t hf y => ?_
  have ht := (flush0_2 t).mp hf
  blk_simp
  rw [after0_2, wr m c t ht, scr m c t ht, emb_2]
  simp only [tP_t]
  show _ = ∑ r : Fin 4096, (fun r => aH m c (ix2 r (y 1)) * aZ m c (ix2 r (col t (y 2)))) r
  refine Fin.sum_mul_add_congr fun s k hl => ?_
  have hr : row (⟨4 * (t.val / 4) + s.val, Pipeline.run_point_lt_of_flush t ht s⟩ : Fin cfg0.N) k = ⟨s.val * 1024 + k.val, hl⟩ :=
    Fin.ext (by show (4 * (t.val / 4) + s.val) % 4 * 1024 + k.val = s.val * 1024 + k.val; omega)
  have hc : col (⟨4 * (t.val / 4) + s.val, Pipeline.run_point_lt_of_flush t ht s⟩ : Fin cfg0.N) (y 2) = col t (y 2) :=
    Fin.ext (by show (4 * (t.val / 4) + s.val) / 4 * 768 + _ = t.val / 4 * 768 + _; omega)
  show aH m c (ix2 (row _ k) (y 1)) * aZ m c (ix2 (row _ k) (col _ (y 2))) = _
  rw [hr, hc]

/-! ## The reference -/

section Ref

open Cert.Reference6Ideal.Read

theorem ref_at (H : Vec Ideal S4096x1024 .f32) (Z : Vec Ideal S4096x3072 .f32) (j : Fin 4) (a : Fin 1024) (b : Fin 768) :
    val_main_v5 (F := Ideal) H Z (ix3 j a b)
      = ∑ r : Fin 4096, H (ix2 r a) * Z (ix2 r ⟨j.val * 768 + b.val, by omega⟩) := by
  rw [val_main_v5_apply]
  show val_main_v4 (F := Ideal) H Z (ix3 j a b) = _
  rw [val_main_v4_apply, val_main_v3_apply, val_main_v2_apply, val_main_v1_apply]
  refine Finset.sum_congr rfl fun r _ => ?_
  rw [mul_comm]
  refine congrArg₂ (fun i k => H i * Z k) (idx2 _ _ _ rfl ?_) (idx2 _ _ _ rfl ?_)
  · simp
    omega
  · simp
    omega

end Ref

section Claim

attribute [local instance] Cert.Kernel6Ideal.Gen.facts Cert.Reference6Ideal.Gen.facts

open Cert.Reference6Ideal.Read in
theorem algebraic : Cert.algebraic_Kernel6Ideal_Reference6Ideal := by
  intro m g m' g' hpre hagree
  refine ⟨dW m, (θ_run defs _ _).mono (fun r h c => ⟨(h c).1.trans (final m c), (h c).2⟩)
    (Cert.Kernel6Ideal.Value.run_blocks m g), ?_⟩
  refine (θ_run Cert.Reference6Ideal.defs _ _).mono (fun r h c => ?_) (Cert.Reference6Ideal.Value.run m' g')
  obtain ⟨e0, e1, e2⟩ := hagree c
  obtain ⟨h0, hk⟩ := h c
  refine ⟨h0.trans ((val_main_v5_eq _ _).trans ?_), hk⟩
  rw [e0, e2]
  funext y
  rw [eq_ix3 y]
  exact ref_at (aH m c) (aZ m c) _ _ _

end Claim

end Cert.Mix.Tn

end
-- ==== Proof.Mix.Proj.lean ====
module

public import proofs.«01_k».proof.Proof.Mix.Idx
public import proofs.«01_k».proof.Proof.Fwd.Arr
public import proofs.«01_k».proof.Proof.Gen.Kernel7Ideal.Value
public import proofs.«01_k».proof.Proof.Gen.Reference7Ideal.Read
public import proofs.«01_k».proof.Defs
public import Idealize.ShloMosaic.Lib.Pipeline.ValueKit.Acc

@[expose] public section

noncomputable section

namespace Cert.Mix.Proj

open Idealize.ShloMosaic Idealize.ShloMosaic.TcCoe Idealize.SL.Sem
open Cert.Kernel7Ideal Cert.Kernel7Ideal.Gen
open Cert.Fwd (nA)

/-! ## The block a grid point writes -/

/-- The normalised block of rows. -/
def nB (x : Vec Ideal S512x1024 .f32) (g : Vec Ideal S1x1024 .f32) (y : S512x1024.Idx) : EReal :=
  x (ix2 (y 0) (y 1)) * Cert.Fwd.inv (fun k => x (ix2 (y 0) k)) * g (ix2 0 (y 1))

theorem pay_n (x : Vec Ideal S512x1024 .f32) (g : Vec Ideal S1x1024 .f32) (y : S512x1024.Idx) : k0_pay1 x g y = nB x g y := by
  obtain ⟨p, q, rfl⟩ : ∃ p q, y = ix2 p q := ⟨_, _, eq_ix2 y⟩
  pointwise [k0_pay1, nB, Cert.Fwd.inv]

theorem pay_z (x : Vec Ideal S512x1024 .f32) (g : Vec Ideal S1x1024 .f32) (w : Vec Ideal S1024x3072 .bf16) (y : S512x3072.Idx) :
    k0_pay2 x g w y = ∑ k : Fin 1024, nB x g (ix2 (y 0) k) * w (ix2 k (y 1)) := by
  simp only [← pay_n]
  obtain ⟨p, q, rfl⟩ : ∃ p q, y = ix2 p q := ⟨_, _, eq_ix2 y⟩
  unfold k0_pay2
  generalize k0_pay1 x g = n
  pointwise

theorem out_n (x0 : Vec Ideal S512x1024 .f32) (x1 : Vec Ideal S1x1024 .f32) (x2 : Vec Ideal S1024x3072 .bf16) (y : S512x1024.Idx) :
    out0_3 x0 x1 x2 y = nB x0 x1 y := by
  frame_out
  rw [pay_n]

theorem out_z (x0 : Vec Ideal S512x1024 .f32) (x1 : Vec Ideal S1x1024 .f32) (x2 : Vec Ideal S1024x3072 .bf16) (y : S512x3072.Idx) :
    out0_4 x0 x1 x2 y = ∑ k : Fin 1024, nB x0 x1 (ix2 (y 0) k) * x2 (ix2 k (y 1)) := by
  frame_out
  rw [pay_z]

/-! ## The blocks of a grid point -/

variable (m : (ℓ : Loc nD τ sig) → Buf (Elt Ideal) ℓ) (c : Dev nD)

abbrev aX : Vec Ideal S4096x1024 .f32 := m ((c : Thread nD τ).loc main_arg0)
abbrev aN : Vec Ideal S1024 .f32 := m ((c : Thread nD τ).loc main_arg1)
abbrev aW : Vec Ideal S1024x3072 .f32 := m ((c : Thread nD τ).loc main_arg2)

theorem n_V (k : Fin 1024) : V m c main_v0 (ix2 0 k) = aN m c (ix1 k) := by
  entry_read
  pointwise

theorem w_V (k : Fin 1024) (h : Fin 3072) : V m c main_v1 (ix2 k h) = aW m c (ix2 k h) := by
  entry_read
  pointwise

theorem hN : cfg0.N = 8 := N_0

abbrev row (t : Fin cfg0.N) (r : Fin 512) : Fin 4096 := ⟨t.val * 512 + r.val, by have := t.isLt; have := hN; omega⟩

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)

abbrev B0 (t : Fin cfg0.N) : Vec Ideal S512x1024 .f32 := iblk m c 0 t
abbrev B1 (t : Fin cfg0.N) : Vec Ideal S1x1024 .f32 := iblk m c 1 t
abbrev B2 (t : Fin cfg0.N) : Vec Ideal S1024x3072 .bf16 := iblk m c 2 t

theorem b_0 (t : Fin cfg0.N) (r : Fin 512) (k : Fin 1024) : B0 m c t (ix2 r k) = aX m c (ix2 (row t r) k) := by
  blk_ext! [iblk, V, ix_0 t]

theorem b_1 (t : Fin cfg0.N) (k : Fin 1024) : B1 m c t (ix2 0 k) = aN m c (ix1 k) := by
  rw [← n_V]
  blk_ext! [iblk, ix_1 t]

theorem b_2 (t : Fin cfg0.N) (k : Fin 1024) (h : Fin 3072) : B2 m c t (ix2 k h) = aW m c (ix2 k h) := by
  rw [← w_V]
  blk_ext! [iblk, ix_2 t]

theorem nB_t (t : Fin cfg0.N) (r : Fin 512) (k : Fin 1024) :
    nB (B0 m c t) (B1 m c t) (ix2 r k) = nA (aX m c) (aN m c) (row t r) k := by
  show B0 m c t (ix2 r k) * Cert.Fwd.inv (fun k => B0 m c t (ix2 r k)) * B1 m c t (ix2 0 k) = _
  simp only [b_0, b_1]
  rfl

/-! ## The result arrays -/

/-- The normalised rows. -/
def rH (y : S4096x1024.Idx) : EReal := nA (aX m c) (aN m c) (y 0) (y 1)

/-- Their projection. -/
def rZ (y : S4096x3072.Idx) : EReal := ∑ k : Fin 1024, nA (aX m c) (aN m c) (y 0) k * aW m c (ix2 k (y 1))

theorem emb_3 (t : Fin cfg0.N) (y : S512x1024.Idx) : (win0_3.blk t).view.emb y = ix2 (row t (y 0)) (y 1) := by
  blk_ext [ix_3 t]

theorem emb_4 (t : Fin cfg0.N) (y : S512x3072.Idx) : (win0_4.blk t).view.emb y = ix2 (row t (y 0)) (y 1) := by
  blk_ext [ix_4 t]

theorem final_3 : (dats m 0 c).arrAt 3 cfg0.N = rH m c := by
  refine (dats m 0 c).arrAt_eq_of_covers 3 _ (by decide +kernel) fun t hf y => ?_
  blk_simp
  rw [after0_3, out_n, emb_3, eq_ix2 y]
  exact nB_t m c t (y 0) (y 1)

theorem final_4 : (dats m 0 c).arrAt 4 cfg0.N = rZ m c := by
  refine (dats m 0 c).arrAt_eq_of_covers 4 _ (by decide +kernel) fun t hf y => ?_
  blk_simp
  rw [after0_4, out_z, emb_4]
  have e : (∑ k : Fin 1024, nB (B0 m c t) (B1 m c t) (ix2 (y 0) k) * B2 m c t (ix2 k (y 1)))
      = ∑ k : Fin 1024, nA (aX m c) (aN m c) (row t (y 0)) k * aW m c (ix2 k (y 1)) :=
    Finset.sum_congr rfl fun k _ => congrArg₂ (fun a b : EReal => a * b) (nB_t m c t (y 0) k) (b_2 m c t k (y 1))
  exact e

/-! ## The reference -/

section Reference

open Cert.Reference7Ideal.Read

variable (X : Vec Ideal S4096x1024 .f32) (N : Vec Ideal S1024 .f32) (W : Vec Ideal S1024x3072 .f32)

theorem v7_at (r : Fin 4096) : val_main_v7 (F := Ideal) X (ix2 r 0) = Cert.Fwd.inv (fun k => X (ix2 r k)) := by
  rw [val_main_v7_apply, val_main_v6_apply, val_main_v4_apply, val_main_v2_apply, val_main_v1_apply, val_main_cst_apply,
    val_main_v3_apply, val_main_cst_0_apply, val_main_v5_apply, val_main_cst_1_apply]
  show Ideal.rsqrt (Ideal.div (Ideal.ofBits .f32 0x00000000#32 + ∑ k : Fin 1024, val_main_v0 (F := Ideal) X (idx_main_v1 (idx_main_v2 (ix2 r 0)) k))
    (Ideal.ofBits .f32 0x44800000#32) + Ideal.ofBits .f32 0x358637BD#32) = _
  rw [zero_bits, zero_add]
  unfold Cert.Fwd.inv
  refine congrArg (fun s => Ideal.rsqrt (Ideal.div s _ + _)) (Finset.sum_congr rfl fun k _ => ?_)
  rw [val_main_v0_apply, idx2 (idx_main_v1 (idx_main_v2 (ix2 r 0)) k) r k rfl rfl]
  rfl

theorem v12_at (r : Fin 4096) (k : Fin 1024) : val_main_v12 (F := Ideal) X N (ix2 r k) = nA X N r k := by
  rw [val_main_v12_apply, val_main_v9_apply, val_main_v8_apply, idx2 (idx_main_v8 (ix2 r k)) r (0 : Fin 1) rfl rfl, v7_at,
    val_main_v11_apply, val_main_v10_apply, idx1 (idx_main_v10 (idx_main_v11 (ix2 r k))) k rfl]
  rfl

theorem ref_H (r : Fin 4096) (k : Fin 1024) : val_main_v13 (F := Ideal) X N (ix2 r k) = nA X N r k :=
  (val_main_v13_apply X N (ix2 r k)).trans (v12_at X N r k)

theorem ref_Z (r : Fin 4096) (h : Fin 3072) :
    val_main_v15 (F := Ideal) X N W (ix2 r h) = ∑ k : Fin 1024, nA X N r k * W (ix2 k h) := by
  refine (val_main_v15_apply X N W (ix2 r h)).trans ?_
  show val_main_v14 (F := Ideal) X N W (ix2 r h) = _
  rw [val_main_v14_apply]
  refine Finset.sum_congr rfl fun k _ => ?_
  rw [idx2 (lidx_main_v14 (ix2 r h) k) r k rfl rfl, v12_at, idx2 (ridx_main_v14 (ix2 r h) k) k h rfl rfl]

end Reference

section Claim

attribute [local instance] Cert.Kernel7Ideal.Gen.facts Cert.Reference7Ideal.Gen.facts

open Cert.Reference7Ideal.Read in
theorem algebraic : Cert.algebraic_Kernel7Ideal_Reference7Ideal := by
  intro m g m' g' hpre hagree
  refine ⟨rH m, rZ m, (θ_run defs _ _).mono (fun r h c => ⟨(h c).1.trans (final_3 m c), (h c).2.1.trans (final_4 m c), (h c).2.2⟩)
    (Cert.Kernel7Ideal.Value.run_blocks m g), ?_⟩
  refine (θ_run Cert.Reference7Ideal.defs _ _).mono (fun r h c => ?_) (Cert.Reference7Ideal.Value.run m' g')
  obtain ⟨e0, e1, e2⟩ := hagree c
  obtain ⟨h0, h1, hk⟩ := h c
  refine ⟨h0.trans ((val_main_v13_eq _ _).trans ?_), h1.trans ((val_main_v15_eq _ _ _).trans ?_), hk⟩
  · rw [e0, e1]
    funext y
    rw [eq_ix2 y]
    exact ref_H (aX m c) (aN m c) _ _
  · rw [e0, e1, e2]
    funext y
    rw [eq_ix2 y]
    exact ref_Z (aX m c) (aN m c) (aW m c) _ _

end Claim

end Cert.Mix.Proj

end
-- ==== Proof.Mix.Out.lean ====
module

public import proofs.«01_k».proof.Proof.Mix.Idx
public import proofs.«01_k».proof.Proof.Gen.Kernel9Ideal.Value
public import proofs.«01_k».proof.Proof.Gen.Reference9Ideal.Read
public import proofs.«01_k».proof.Defs
public import Idealize.ShloMosaic.Lib.Pipeline.ValueKit.Acc

@[expose] public section

noncomputable section

namespace Cert.Mix.Out

open Idealize.ShloMosaic Idealize.ShloMosaic.TcCoe Idealize.SL.Sem
open Cert.Kernel9Ideal Cert.Kernel9Ideal.Gen

/-! ## The block a grid point writes -/

/-- The rows plus their projection. -/
def oB (y0 : Vec Ideal S512x1024 .bf16) (w : Vec Ideal S1024x1024 .bf16) (x : Vec Ideal S512x1024 .f32) (y : S512x1024.Idx) : EReal :=
  x (ix2 (y 0) (y 1)) + ∑ k : Fin 1024, y0 (ix2 (y 0) k) * w (ix2 k (y 1))

theorem pay_o (x : Vec Ideal S512x1024 .f32) (y0 : Vec Ideal S512x1024 .bf16) (w : Vec Ideal S1024x1024 .bf16) (y : S512x1024.Idx) :
    k0_pay1 x y0 w y = oB y0 w x y := by
  obtain ⟨p, q, rfl⟩ : ∃ p q, y = ix2 p q := ⟨_, _, eq_ix2 y⟩
  pointwise [k0_pay1, oB]

theorem out_o (x0 : Vec Ideal S512x1024 .bf16) (x1 : Vec Ideal S1024x1024 .bf16) (x2 : Vec Ideal S512x1024 .f32) (y : S512x1024.Idx) :
    out0_3 x0 x1 x2 y = oB x0 x1 x2 y := by
  frame_out
  rw [pay_o]

/-! ## The blocks of a grid point -/

variable (m : (ℓ : Loc nD τ sig) → Buf (Elt Ideal) ℓ) (c : Dev nD)

abbrev aY : Vec Ideal S4096x1024 .f32 := m ((c : Thread nD τ).loc main_arg0)
abbrev aW : Vec Ideal S1024x1024 .f32 := m ((c : Thread nD τ).loc main_arg1)
abbrev aX : Vec Ideal S4096x1024 .f32 := m ((c : Thread nD τ).loc main_arg2)

theorem y_V (r : Fin 4096) (k : Fin 1024) : V m c main_v0 (ix2 r k) = aY m c (ix2 r k) := by
  entry_read
  pointwise

theorem w_V (k : Fin 1024) (h : Fin 1024) : V m c main_v1 (ix2 k h) = aW m c (ix2 k h) := by
  entry_read
  pointwise

theorem hN : cfg0.N = 8 := N_0

abbrev row (t : Fin cfg0.N) (r : Fin 512) : Fin 4096 := ⟨t.val * 512 + r.val, by have := t.isLt; have := hN; omega⟩

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)

abbrev B0 (t : Fin cfg0.N) : Vec Ideal S512x1024 .bf16 := iblk m c 0 t
abbrev B1 (t : Fin cfg0.N) : Vec Ideal S1024x1024 .bf16 := iblk m c 1 t
abbrev B2 (t : Fin cfg0.N) : Vec Ideal S512x1024 .f32 := iblk m c 2 t

theorem b_0 (t : Fin cfg0.N) (r : Fin 512) (k : Fin 1024) : B0 m c t (ix2 r k) = aY m c (ix2 (row t r) k) := by
  rw [← y_V]
  blk_ext! [iblk, ix_0 t]

theorem b_1 (t : Fin cfg0.N) (k : Fin 1024) (h : Fin 1024) : B1 m c t (ix2 k h) = aW m c (ix2 k h) := by
  rw [← w_V]
  blk_ext! [iblk, ix_1 t]

theorem b_2 (t : Fin cfg0.N) (r : Fin 512) (k : Fin 1024) : B2 m c t (ix2 r k) = aX m c (ix2 (row t r) k) := by
  blk_ext! [iblk, V, ix_2 t]

/-! ## The result array -/

/-- The residual rows plus the projection. -/
def rO (y : S4096x1024.Idx) : EReal :=
  aX m c (ix2 (y 0) (y 1)) + ∑ k : Fin 1024, aY m c (ix2 (y 0) k) * aW m c (ix2 k (y 1))

theorem emb_3 (t : Fin cfg0.N) (y : S512x1024.Idx) : (win0_3.blk t).view.emb y = ix2 (row t (y 0)) (y 1) := by
  blk_ext [ix_3 t]

theorem final : (dats m 0 c).arrAt 3 cfg0.N = rO m c := by
  refine (dats m 0 c).arrAt_eq_of_covers 3 _ (by decide +kernel) fun t hf y => ?_
  blk_simp
  rw [after0_3, out_o, emb_3]
  exact congrArg₂ (fun a b : EReal => a + b) (b_2 m c t (y 0) (y 1)) (Finset.sum_congr rfl fun k _ =>
    congrArg₂ (fun a b : EReal => a * b) (b_0 m c t (y 0) k) (b_1 m c t k (y 1)))

/-! ## The reference -/

section Reference

open Cert.Reference9Ideal.Read

theorem ref_O (Y : Vec Ideal S4096x1024 .f32) (W : Vec Ideal S1024x1024 .f32) (X : Vec Ideal S4096x1024 .f32) (r : Fin 4096) (h : Fin 1024) :
    val_main_v1 (F := Ideal) Y W X (ix2 r h) = X (ix2 r h) + ∑ k : Fin 1024, Y (ix2 r k) * W (ix2 k h) := by
  rw [val_main_v1_apply, val_main_v0_apply]
  refine congrArg (fun s : EReal => X (ix2 r h) + s) (Finset.sum_congr rfl fun k _ => ?_)
  rw [idx2 (lidx_main_v0 (ix2 r h) k) r k rfl rfl, idx2 (ridx_main_v0 (ix2 r h) k) k h rfl rfl]

end Reference

section Claim

attribute [local instance] Cert.Kernel9Ideal.Gen.facts Cert.Reference9Ideal.Gen.facts

open Cert.Reference9Ideal.Read in
theorem algebraic : Cert.algebraic_Kernel9Ideal_Reference9Ideal := by
  intro m g m' g' hpre hagree
  refine ⟨rO m, (θ_run defs _ _).mono (fun r h c => ⟨(h c).1.trans (final m c), (h c).2⟩)
    (Cert.Kernel9Ideal.Value.run_blocks m g), ?_⟩
  refine (θ_run Cert.Reference9Ideal.defs _ _).mono (fun r h c => ?_) (Cert.Reference9Ideal.Value.run m' g')
  obtain ⟨e0, e1, e2⟩ := hagree c
  obtain ⟨h0, hk⟩ := h c
  refine ⟨h0.trans ((val_main_v1_eq _ _ _).trans ?_), hk⟩
  rw [e0, e1, e2]
  funext y
  rw [eq_ix2 y]
  exact ref_O (aY m c) (aW m c) (aX m c) _ _

end Claim

end Cert.Mix.Out

end
-- ==== Proof.Mix.Conv.lean ====
module

public import proofs.«01_k».proof.Proof.Mix.Idx
public import proofs.«01_k».proof.Proof.Gen.Kernel8Ideal.Value
public import proofs.«01_k».proof.Proof.Gen.Reference8Ideal.Read
public import proofs.«01_k».proof.Defs
public import Idealize.ShloMosaic.Lib.Pipeline.ValueKit.Acc
public import Idealize.ShloMosaic.Lib.KernelVsHost

@[expose] public section

noncomputable section

namespace Cert.Mix.Conv

open Idealize.ShloMosaic Idealize.ShloMosaic.TcCoe Idealize.SL.Sem
open Cert.Kernel8Ideal Cert.Kernel8Ideal.Gen

/-! ## The block a grid point writes -/

/-- Row `i` of the scratch array: the last rows before the block, then the block. -/
def scr (lo : Vec Ideal S16x1024 .f32) (hi : Vec Ideal S512x1024 .f32) (i : Fin 528) (q : Fin 1024) : EReal :=
  if h : i.val < 16 then lo (ix2 ⟨i.val, h⟩ q) else hi (ix2 ⟨i.val - 16, by have := i.isLt; omega⟩ q)

theorem canon_scr (lo : Vec Ideal S16x1024 .f32) (hi : Vec Ideal S512x1024 .f32) (i : Fin 528) (q : Fin 1024) :
    View.canon (Val := Elt Ideal) (s := S528x1024) (e := .f32)
      [⟨Rect.unit ![16, 0] ![512, 1024] inb_S528x1024_S512x1024_16_0, hi⟩,
        ⟨Rect.unit ![0, 0] ![16, 1024] inb_S528x1024_S16x1024_0_0, lo⟩] (ix2 i q) = scr lo hi i q := by
  unfold scr
  by_cases h : i.val < 16
  · rw [dif_pos h, View.canon_cons_of_not_mem]
    · have e : (ix2 i q : S528x1024.Idx) = (Rect.unit (s := S528x1024) ![0, 0] ![16, 1024] inb_S528x1024_S16x1024_0_0).emb (ix2 (⟨i.val, h⟩ : Fin 16) q) :=
        (idx2 _ i q (by simp) (by simp)).symm
      rw [e, View.canon_cons_emb]
    · intro hm
      have h0 := (Rect.mem_set_unit (s := S528x1024) (inb := inb_S528x1024_S512x1024_16_0).mp hm) 0
      have h1 : 16 ≤ i.val := h0.1
      omega
  · rw [dif_neg h]
    have e : (ix2 i q : S528x1024.Idx) = (Rect.unit (s := S528x1024) ![16, 0] ![512, 1024] inb_S528x1024_S512x1024_16_0).emb
        (ix2 (⟨i.val - 16, by have := i.isLt; omega⟩ : Fin 512) q) :=
      (idx2 _ i q (by simp; omega) (by simp)).symm
    rw [e, View.canon_cons_emb]

/-- A window of the scratch array. -/
theorem win_at (v : View sig .tc .vmem S528x1024 .f32) (lo : Vec Ideal S16x1024 .f32) (hi : Vec Ideal S512x1024 .f32)
    (o : Nat) (inb : ∀ a, (![o, 0] : Fin 2 → Nat) a + (![512, 1024] : Fin 2 → Nat) a ≤ S528x1024.size a) (ho : o ≤ 16) (p : Fin 512) (q : Fin 1024) :
    v.readCov (Val := Elt Ideal)
      [⟨Rect.unit ![16, 0] ![512, 1024] inb_S528x1024_S512x1024_16_0, hi⟩,
        ⟨Rect.unit ![0, 0] ![16, 1024] inb_S528x1024_S16x1024_0_0, lo⟩]
      (Rect.unit (s := S528x1024) ![o, 0] ![512, 1024] inb).toLoadRect (ix2 p q)
      = scr lo hi ⟨o + p.val, by have := p.isLt; omega⟩ q := by
  rw [View.readCov_eq_canon', ← canon_scr]
  exact congrArg _ (idx2 _ (⟨o + p.val, by have := p.isLt; omega⟩ : Fin 528) q (by simp) (by simp))

theorem pay_at (w0 w1 w2 : Vec Ideal S1x1024 .f32) (a b d : Vec Ideal S512x1024 .f32) (x : Vec Ideal S512x1024 .bf16) (p : Fin 512) (q : Fin 1024) :
    k0_pay1 (k0_pay4 w0 a) b (k0_pay5 w1) w2 d x (ix2 p q)
      = x (ix2 p q) * (w0 (ix2 0 q) * a (ix2 p q) + w1 (ix2 0 q) * b (ix2 p q) + w2 (ix2 0 q) * d (ix2 p q)) := by
  pointwise [k0_pay1, k0_pay4, k0_pay5]

theorem pay_hi (x1 x2 : Vec Ideal S512x1024 .bf16) (p : Fin 512) (q : Fin 1024) : k0_pay3 x1 x2 (ix2 p q) = x1 (ix2 p q) * x2 (ix2 p q) := by
  pointwise [k0_pay3]

theorem pay_lo (i : grid0.Coords) (x3 x4 : Vec Ideal S16x1024 .bf16) (p : Fin 16) (q : Fin 1024) :
    k0_pay2 i x3 x4 (ix2 p q) = if (i 0).val = 0 then 0 else x3 (ix2 p q) * x4 (ix2 p q) := by
  have hi : (i 0).val < 8 := (i 0).isLt
  by_cases h : (i 0).val = 0
  · rw [if_pos h]
    unfold k0_pay2
    have e : Scalar.cmpi CmpIPredicate.eq (BitVec.ofNat 32 (i 0).val) 0#32 = 1#1 := by rw [h]; rfl
    simp only [e]
    pointwise
  · rw [if_neg h]
    unfold k0_pay2
    have e : Scalar.cmpi CmpIPredicate.eq (BitVec.ofNat 32 (i 0).val) 0#32 = 0#1 := by
      generalize (i 0).val = n at h hi
      interval_cases n <;> first | exact absurd rfl h | rfl
    simp only [e]
    pointwise

theorem ld_w (x5 : Vec Ideal S8x1024 .f32) (k : Fin 8) (inb : ∀ a, (![k.val, 0] : Fin 2 → Nat) a + (![1, 1024] : Fin 2 → Nat) a ≤ S8x1024.size a) (q : Fin 1024) :
    View.ld x5 (Rect.unit (s := S8x1024) ![k.val, 0] ![1, 1024] inb) (ix2 0 q) = x5 (ix2 k q) :=
  congrArg x5 (idx2 _ k q (by simp) (by simp))

theorem out_o (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S8x1024 .f32) (harg6 : arg6.IsWhole) (arg7 : Memref sig .tc .vmem S512x1024 .bf16) (harg7 : arg7.IsWhole) (arg8 : Memref sig .tc .vmem S528x1024 .f32) (harg8 : arg8.IsWhole)
    (x0 x1 x2 : Vec Ideal S512x1024 .bf16) (x3 x4 : Vec Ideal S16x1024 .bf16) (x5 : Vec Ideal S8x1024 .f32) (p : Fin 512) (q : Fin 1024) :
    out0_A_6 c i arg1 harg1 arg2 harg2 arg3 harg3 arg4 harg4 arg5 harg5 arg6 harg6 arg7 harg7 arg8 harg8 x0 x1 x2 x3 x4 x5 (ix2 p q)
      = x0 (ix2 p q) * (x5 (ix2 0 q) * scr (k0_pay2 i x3 x4) (k0_pay3 x1 x2) ⟨14 + p.val, by have := p.isLt; omega⟩ q
        + x5 (ix2 1 q) * scr (k0_pay2 i x3 x4) (k0_pay3 x1 x2) ⟨15 + p.val, by have := p.isLt; omega⟩ q
        + x5 (ix2 2 q) * scr (k0_pay2 i x3 x4) (k0_pay3 x1 x2) ⟨16 + p.val, by have := p.isLt; omega⟩ q) := by
  frame_out
  refine (pay_at _ _ _ _ _ _ _ p q).trans ?_
  rw [win_at arg8.view _ _ 14 _ (by omega), win_at arg8.view _ _ 15 _ (by omega), win_at arg8.view _ _ 16 _ (by omega)]
  exact congrArg (fun s : EReal => x0 (ix2 p q) * s) (congrArg₂ (fun a b : EReal => a + b)
    (congrArg₂ (fun a b : EReal => a + b) (congrArg (fun s : EReal => s * _) (ld_w x5 0 _ q)) (congrArg (fun s : EReal => s * _) (ld_w x5 1 _ q)))
    (congrArg (fun s : EReal => s * _) (ld_w x5 2 _ q)))

/-! ## The blocks of a grid point -/

variable (m : (ℓ : Loc nD τ sig) → Buf (Elt Ideal) ℓ) (c : Dev nD)

abbrev aZ : Vec Ideal S4096x3072 .f32 := m ((c : Thread nD τ).loc main_arg0)
abbrev aC : Vec Ideal S3x1024 .f32 := m ((c : Thread nD τ).loc main_arg1)

theorem z_V (k : Fin 4096) (h : Fin 3072) : V m c main_v0 (ix2 k h) = aZ m c (ix2 k h) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp
  rfl

theorem c_V (k : Fin 3) (h : Fin 1024) : V m c main_v1 (ix2 (⟨k.val, by have := k.isLt; omega⟩ : Fin 8) h) = aC m c (ix2 k h) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp
  refine pad_apply_of_inside _ _ _ _ _ _ _ _ (ix2 k h) fun a => ?_
  match a with
  | ⟨0, _⟩ => simp
  | ⟨1, _⟩ => simp

theorem hN : cfg0.N = 8 := N_0

abbrev row (t : Fin cfg0.N) (r : Fin 512) : Fin 4096 := ⟨t.val * 512 + r.val, by have := t.isLt; have := hN; omega⟩
abbrev prow (t : Fin cfg0.N) (r : Fin 16) : Fin 4096 := ⟨(32 * t.val - 1) * 16 + r.val, by have := t.isLt; have := hN; omega⟩
abbrev c0 (q : Fin 1024) : Fin 3072 := ⟨q.val, by omega⟩
abbrev c1 (q : Fin 1024) : Fin 3072 := ⟨1024 + q.val, by omega⟩
abbrev c2 (q : Fin 1024) : Fin 3072 := ⟨2048 + q.val, by omega⟩

theorem ix_0 : ∀ t : Fin cfg0.N, win0_0.index t = ![t.val, 0] := (by decide +kernel : ∀ t : Fin grid0.N, _)
theorem ix_1 : ∀ t : Fin cfg0.N, win0_1.index t = ![t.val, 1] := (by decide +kernel : ∀ t : Fin grid0.N, _)
theorem ix_2 : ∀ t : Fin cfg0.N, win0_2.index t = ![t.val, 2] := (by decide +kernel : ∀ t : Fin grid0.N, _)
theorem ix_3 : ∀ t : Fin cfg0.N, win0_3.index t = ![32 * t.val - 1, 1] := (by decide +kernel : ∀ t : Fin grid0.N, _)
theorem ix_4 : ∀ t : Fin cfg0.N, win0_4.index t = ![32 * t.val - 1, 2] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![t.val, 0] := (by decide +kernel : ∀ t : Fin grid0.N, _)
theorem coord : ∀ t : Fin cfg0.N, ((grid0.coords t) 0).val = t.val := (by decide +kernel : ∀ t : Fin grid0.N, _)

abbrev B0 (t : Fin cfg0.N) : Vec Ideal S512x1024 .bf16 := iblk m c 0 t
abbrev B1 (t : Fin cfg0.N) : Vec Ideal S512x1024 .bf16 := iblk m c 1 t
abbrev B2 (t : Fin cfg0.N) : Vec Ideal S512x1024 .bf16 := iblk m c 2 t
abbrev B3 (t : Fin cfg0.N) : Vec Ideal S16x1024 .bf16 := iblk m c 3 t
abbrev B4 (t : Fin cfg0.N) : Vec Ideal S16x1024 .bf16 := iblk m c 4 t
abbrev B5 (t : Fin cfg0.N) : Vec Ideal S8x1024 .f32 := iblk m c 5 t

theorem b_0 (t : Fin cfg0.N) (r : Fin 512) (k : Fin 1024) : B0 m c t (ix2 r k) = aZ m c (ix2 (row t r) (c0 k)) := by
  rw [← z_V]
  blk_ext! [iblk, ix_0 t]

theorem b_1 (t : Fin cfg0.N) (r : Fin 512) (k : Fin 1024) : B1 m c t (ix2 r k) = aZ m c (ix2 (row t r) (c1 k)) := by
  rw [← z_V]
  blk_ext! [iblk, ix_1 t]

theorem b_2 (t : Fin cfg0.N) (r : Fin 512) (k : Fin 1024) : B2 m c t (ix2 r k) = aZ m c (ix2 (row t r) (c2 k)) := by
  rw [← z_V]
  blk_ext! [iblk, ix_2 t]

theorem b_3 (t : Fin cfg0.N) (r : Fin 16) (k : Fin 1024) : B3 m c t (ix2 r k) = aZ m c (ix2 (prow t r) (c1 k)) := by
  rw [← z_V]
  blk_ext! [iblk, ix_3 t]

theorem b_4 (t : Fin cfg0.N) (r : Fin 16) (k : Fin 1024) : B4 m c t (ix2 r k) = aZ m c (ix2 (prow t r) (c2 k)) := by
  rw [← z_V]
  blk_ext! [iblk, ix_4 t]

theorem b_5 (t : Fin cfg0.N) (k : Fin 3) (h : Fin 1024) : B5 m c t (ix2 (⟨k.val, by have := k.isLt; omega⟩ : Fin 8) h) = aC m c (ix2 k h) := by
  rw [← c_V]
  blk_ext! [iblk, ix_5 t]

/-- The product of the two gates, two rows of zeros before it. -/
def pd (Z : Vec Ideal S4096x3072 .f32) (i : Fin 4098) (q : Fin 1024) : EReal :=
  if h : 2 ≤ i.val then Z (ix2 ⟨i.val - 2, by have := i.isLt; omega⟩ (c1 q)) * Z (ix2 ⟨i.val - 2, by have := i.isLt; omega⟩ (c2 q)) else 0

theorem scr_t (t : Fin cfg0.N) (i : Fin 528) (h14 : 14 ≤ i.val) (q : Fin 1024) (j : Fin 4098) (hj : j.val = t.val * 512 + i.val - 14) :
    scr (k0_pay2 (grid0.coords t) (B3 m c t) (B4 m c t)) (k0_pay3 (B1 m c t) (B2 m c t)) i q = pd (aZ m c) j q := by
  have ht := t.isLt
  have hn := hN
  unfold scr
  by_cases h : i.val < 16
  · rw [dif_pos h, pay_lo, coord]
    by_cases h0 : t.val = 0
    · rw [if_pos h0]
      unfold pd
      rw [dif_neg (by omega)]
    · rw [if_neg h0, b_3, b_4]
      unfold pd
      rw [dif_pos (by omega)]
      have e : prow t ⟨i.val, h⟩ = (⟨j.val - 2, by have := j.isLt; omega⟩ : Fin 4096) := Fin.ext (by show (32 * t.val - 1) * 16 + i.val = j.val - 2; omega)
      rw [e]
  · rw [dif_neg h, pay_hi, b_1, b_2]
    unfold pd
    rw [dif_pos (by omega)]
    have e : row t ⟨i.val - 16, by have := i.isLt; omega⟩ = (⟨j.val - 2, by have := j.isLt; omega⟩ : Fin 4096) :=
      Fin.ext (by show t.val * 512 + (i.val - 16) = j.val - 2; omega)
    rw [e]

/-! ## The result array -/

/-- The gated convolution at one entry. -/
def cv (Z : Vec Ideal S4096x3072 .f32) (C : Vec Ideal S3x1024 .f32) (r : Fin 4096) (q : Fin 1024) : EReal :=
  Z (ix2 r (c0 q)) * (C (ix2 0 q) * pd Z ⟨r.val, by omega⟩ q + C (ix2 1 q) * pd Z ⟨r.val + 1, by omega⟩ q + C (ix2 2 q) * pd Z ⟨r.val + 2, by omega⟩ q)

def rY (y : S4096x1024.Idx) : EReal := cv (aZ m c) (aC m c) (y 0) (y 1)

theorem emb_6 (t : Fin cfg0.N) (y : S512x1024.Idx) : (win0_6.blk t).view.emb y = ix2 (row t (y 0)) (y 1) := by
  blk_ext [ix_6 t]

theorem outs_t (t : Fin cfg0.N) (p : Fin 512) (q : Fin 1024) : outsAt0 m c t (ix2 p q) = cv (aZ m c) (aC m c) (row t p) q := by
  unfold outsAt0
  refine (out_o _ _ _ _ _ _ _ _ _ _ _ _ _ _ _ _ _ _ (B0 m c t) (B1 m c t) (B2 m c t) (B3 m c t) (B4 m c t) (B5 m c t) p q).trans ?_
  have hp := p.isLt
  have ht := t.isLt
  have hn := hN
  have w0 := b_5 m c t 0 q
  have w1 := b_5 m c t 1 q
  have w2 := b_5 m c t 2 q
  have s0 := scr_t m c t ⟨14 + p.val, by omega⟩ (by show 14 ≤ 14 + p.val; omega) q ⟨(row t p).val, by omega⟩ (by show t.val * 512 + p.val = t.val * 512 + (14 + p.val) - 14; omega)
  have s1 := scr_t m c t ⟨15 + p.val, by omega⟩ (by show 14 ≤ 15 + p.val; omega) q ⟨(row t p).val + 1, by omega⟩ (by show t.val * 512 + p.val + 1 = t.val * 512 + (15 + p.val) - 14; omega)
  have s2 := scr_t m c t ⟨16 + p.val, by omega⟩ (by show 14 ≤ 16 + p.val; omega) q ⟨(row t p).val + 2, by omega⟩ (by show t.val * 512 + p.val + 2 = t.val * 512 + (16 + p.val) - 14; omega)
  rw [s0, s1, s2, b_0]
  unfold cv
  exact congrArg (fun s : EReal => aZ m c (ix2 (row t p) (c0 q)) * s) (congrArg₂ (fun a b : EReal => a + b)
    (congrArg₂ (fun a b : EReal => a + b) (congrArg (fun s : EReal => s * _) w0) (congrArg (fun s : EReal => s * _) w1))
    (congrArg (fun s : EReal => s * _) w2))

theorem final_6 : (dats m 0 c).arrAt 6 cfg0.N = rY m c := by
  refine (dats m 0 c).arrAt_eq_of_covers 6 _ (by decide +kernel) fun t hf y => ?_
  blk_simp
  rw [after0_6, emb_6, eq_ix2 y]
  exact outs_t m c t (y 0) (y 1)

/-! ## The reference -/

section Reference

open Cert.Reference8Ideal.Read

variable (Z : Vec Ideal S4096x3072 .f32) (C : Vec Ideal S3x1024 .f32)

theorem v3_at (r : Fin 4096) (q : Fin 1024) : val_main_v3 (F := Ideal) Z (ix2 r q) = Z (ix2 r (c1 q)) * Z (ix2 r (c2 q)) := by
  rw [val_main_v3_apply, val_main_v1_apply, val_main_v2_apply, idx2 (idx_main_v1 (ix2 r q)) r (c1 q) (by simp) (by simp),
    idx2 (idx_main_v2 (ix2 r q)) r (c2 q) (by simp) (by simp)]
  rfl

theorem v4_at (i : Fin 4098) (q : Fin 1024) : val_main_v4 (F := Ideal) Z (ix2 i q) = pd Z i q := by
  unfold val_main_v4 pd
  by_cases h : 2 ≤ i.val
  · rw [dif_pos h, ← v3_at]
    refine pad_apply_of_inside _ _ _ _ _ _ _ _ (ix2 (⟨i.val - 2, by have := i.isLt; omega⟩ : Fin 4096) q) fun a => ?_
    match a with
    | ⟨0, _⟩ => show i.val = 2 + (i.val - 2) * (0 + 1); omega
    | ⟨1, _⟩ => show q.val = 0 + q.val * (0 + 1); omega
  · rw [dif_neg h]
    refine (pad_apply_of_not_inside _ _ _ _ _ _ _ _ 0 fun hh => h hh.1).trans ?_
    show (((((0#32 : BitVec 32).toInt : ℤ) : ℝ)) : EReal) = 0
    simp

theorem v27_at (r : Fin 4096) (q : Fin 1024) : val_main_v27 (F := Ideal) Z C (ix2 r q) = cv Z C r q := by
  have hq := q.isLt
  rw [val_main_v27_apply, val_main_v0_apply, val_main_v26_apply, val_main_v19_apply, val_main_v12_apply, val_main_v11_apply, val_main_cst_apply,
    val_main_v10_apply, val_main_v9_apply, val_main_v8_apply, val_main_v6_apply, val_main_v5_apply, val_main_v7_apply,
    val_main_v18_apply, val_main_v17_apply, val_main_v16_apply, val_main_v14_apply, val_main_v13_apply, val_main_v15_apply,
    val_main_v25_apply, val_main_v24_apply, val_main_v23_apply, val_main_v21_apply, val_main_v20_apply, val_main_v22_apply]
  rw [idx2 (idx_main_v0 (ix2 r q)) r (c0 q) (by simp) (by simp),
    idx2 (idx_main_v5 (idx_main_v6 (idx_main_v8 (idx_main_v9 (ix2 r q))))) (0 : Fin 3) q (by simp) (by simp [Nat.mod_eq_of_lt hq]),
    idx2 (idx_main_v13 (idx_main_v14 (idx_main_v16 (idx_main_v17 (ix2 r q))))) (1 : Fin 3) q (by simp) (by simp [Nat.mod_eq_of_lt hq]),
    idx2 (idx_main_v20 (idx_main_v21 (idx_main_v23 (idx_main_v24 (ix2 r q))))) (2 : Fin 3) q (by simp) (by simp [Nat.mod_eq_of_lt hq]),
    idx2 (idx_main_v7 (ix2 r q)) (⟨r.val, by omega⟩ : Fin 4098) q (by simp) (by simp), v4_at,
    idx2 (idx_main_v15 (ix2 r q)) (⟨r.val + 1, by omega⟩ : Fin 4098) q (by simp [Nat.add_comm]) (by simp), v4_at,
    idx2 (idx_main_v22 (ix2 r q)) (⟨r.val + 2, by omega⟩ : Fin 4098) q (by simp [Nat.add_comm]) (by simp), v4_at]
  show Z (ix2 r (c0 q)) * (((Ideal.ofBits .f32 0x00000000#32 + _) + _) + _) = _
  rw [zero_bits, zero_add]
  rfl

end Reference

section Claim

attribute [local instance] Cert.Kernel8Ideal.Gen.facts Cert.Reference8Ideal.Gen.facts

open Cert.Reference8Ideal.Read in
theorem algebraic : Cert.algebraic_Kernel8Ideal_Reference8Ideal := by
  intro m g m' g' hpre hagree
  refine ⟨rY m, (θ_run defs _ _).mono (fun r h c => ⟨(h c).1.trans (final_6 m c), (h c).2⟩)
    (Cert.Kernel8Ideal.Value.run_blocks m g), ?_⟩
  refine (θ_run Cert.Reference8Ideal.defs _ _).mono (fun r h c => ?_) (Cert.Reference8Ideal.Value.run m' g')
  obtain ⟨e0, e1⟩ := hagree c
  obtain ⟨h0, hk⟩ := h c
  refine ⟨h0.trans ((val_main_v28_eq _ _).trans ?_), hk⟩
  rw [e0, e1]
  funext y
  rw [eq_ix2 y]
  exact (val_main_v28_apply _ _ _).trans (v27_at (aZ m c) (aC m c) _ _)

end Claim

end Cert.Mix.Conv

end
-- ==== Proof.Mix.Sums.lean ====
module

public import proofs.«01_k».proof.Proof.Mix.Idx

@[expose] public section

noncomputable section

namespace Cert.Mix

open Idealize.ShloMosaic

/-! ## Suffix sums -/

/-- The masked sum over a block plus the sum from the block's end is the sum from the row. -/
theorem suffix_block (f : ℕ → EReal) (o n N r : ℕ) (hr : r ≤ n) (hN : o + n ≤ N) :
    (∑ j ∈ Finset.range n, if r ≤ j then f (o + j) else 0) + ∑ i ∈ Finset.Ico (o + n) N, f i = ∑ i ∈ Finset.Ico (o + r) N, f i := by
  have h1 : (∑ j ∈ Finset.range n, if r ≤ j then f (o + j) else 0) = ∑ j ∈ Finset.Ico r n, f (j + o) := by
    rw [Finset.range_eq_Ico, ← Finset.sum_Ico_consecutive _ (Nat.zero_le r) hr,
      Finset.sum_eq_zero (fun j hj => if_neg (by have := Finset.mem_Ico.mp hj; omega)), zero_add]
    exact Finset.sum_congr rfl fun j hj => by rw [if_pos (Finset.mem_Ico.mp hj).1, Nat.add_comm]
  rw [h1, Finset.sum_Ico_add' f r n o, Nat.add_comm r o, Nat.add_comm n o]
  exact Finset.sum_Ico_consecutive f (by omega) hN

/-- The sum from a block's start is the sum from its end plus the block's. -/
theorem suffix_whole (f : ℕ → EReal) (o n N : ℕ) (hN : o + n ≤ N) :
    (∑ i ∈ Finset.Ico (o + n) N, f i) + ∑ j ∈ Finset.range n, f (o + j) = ∑ i ∈ Finset.Ico o N, f i := by
  have h := suffix_block f o n N 0 (Nat.zero_le n) hN
  simp only [Nat.zero_le, if_true, Nat.add_zero] at h
  rw [add_comm]
  exact h

/-- A window of the array continued by zeros sums to the rest of the array. -/
theorem suffix_window (f : ℕ → EReal) (N r : ℕ) (hr : r ≤ N) :
    (∑ j ∈ Finset.range N, if r + j < N then f (r + j) else 0) = ∑ i ∈ Finset.Ico r N, f i := by
  rw [Finset.range_eq_Ico, ← Finset.sum_Ico_consecutive _ (Nat.zero_le (N - r)) (Nat.sub_le N r),
    Finset.sum_eq_zero (s := Finset.Ico (N - r) N) (fun j hj => if_neg (by have := Finset.mem_Ico.mp hj; omega)), add_zero]
  have h1 : (∑ j ∈ Finset.Ico 0 (N - r), if r + j < N then f (r + j) else 0) = ∑ j ∈ Finset.Ico 0 (N - r), f (j + r) :=
    Finset.sum_congr rfl fun j hj => by
      have := Finset.mem_Ico.mp hj
      rw [if_pos (by omega), Nat.add_comm]
  rw [h1, Finset.sum_Ico_add' f 0 (N - r) r, Nat.zero_add, Nat.sub_add_cancel hr]

/-- A left fold of additions is the sum of its terms. -/
theorem foldl_sum {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

theorem foldl_fin (n : ℕ) (g : Fin n → EReal) : (List.finRange n).foldl (fun r i => r + g i) 0 = ∑ i, g i := by
  rw [foldl_sum, zero_add, Fin.sum_univ_def]

/-! ## The derivative of the logarithm of the logistic function -/

/-- The quotient form of the logistic function, from the softplus of its argument. -/
theorem exp_softplus (u : EReal) :
    Ideal.exp ((if u = ⊤ then 0 else u) - (if max u 0 + Ideal.log1p (Ideal.exp (-max u (-u))) = ⊤ then 0
      else max u 0 + Ideal.log1p (Ideal.exp (-max u (-u))))) = Ideal.logistic u := by
  induction u with
  | bot =>
    have h : max (⊥ : EReal) 0 + Ideal.log1p (Ideal.exp (-max (⊥ : EReal) (-⊥))) = 0 := by
      rw [EReal.neg_bot, max_eq_right (bot_le), max_eq_right (bot_le), EReal.neg_top, Ideal.exp_bot, Ideal.log1p, add_zero, zero_add]
      show Ideal.log ((1 : ℝ) : EReal) = 0
      show (if (1 : ℝ) ≤ 0 then (⊥ : EReal) else ((Real.log 1 : ℝ) : EReal)) = 0
      rw [if_neg (by norm_num), Real.log_one]
      rfl
    rw [h, if_neg (by decide), if_neg (by decide), sub_zero, Ideal.exp_bot, Ideal.logistic_bot]
  | top =>
    have h : max (⊤ : EReal) 0 + Ideal.log1p (Ideal.exp (-max (⊤ : EReal) (-⊤))) = ⊤ := by
      rw [EReal.neg_top, max_eq_left (le_top), max_eq_left (le_top), EReal.neg_top, Ideal.exp_bot, Ideal.log1p, add_zero]
      show ⊤ + Ideal.log ((1 : ℝ) : EReal) = ⊤
      show ⊤ + (if (1 : ℝ) ≤ 0 then (⊥ : EReal) else ((Real.log 1 : ℝ) : EReal)) = ⊤
      rw [if_neg (by norm_num), Real.log_one]
      rfl
    rw [h, if_pos rfl, sub_zero, Ideal.logistic_top]
    show ((Real.exp 0 : ℝ) : EReal) = 1
    rw [Real.exp_zero]; rfl
  | coe a =>
    have hp : 0 < 1 + Real.exp (-max a (-a)) := by positivity
    have h : max (a : EReal) 0 + Ideal.log1p (Ideal.exp (-max (a : EReal) (-(a : EReal))))
        = ((max a 0 + Real.log (1 + Real.exp (-max a (-a))) : ℝ) : EReal) := by
      have e1 : max (a : EReal) (-(a : EReal)) = ((max a (-a) : ℝ) : EReal) := by rw [← EReal.coe_neg]; exact (EReal.coe_strictMono.monotone.map_max).symm
      have e2 : max (a : EReal) 0 = ((max a 0 : ℝ) : EReal) := by rw [← EReal.coe_zero]; exact (EReal.coe_strictMono.monotone.map_max).symm
      rw [e1, e2, ← EReal.coe_neg, Ideal.log1p]
      show _ + Ideal.log (1 + ((Real.exp (-max a (-a)) : ℝ) : EReal)) = _
      rw [← EReal.coe_one, ← EReal.coe_add]
      show _ + (if 1 + Real.exp (-max a (-a)) ≤ 0 then (⊥ : EReal) else ((Real.log (1 + Real.exp (-max a (-a))) : ℝ) : EReal)) = _
      rw [if_neg (not_le.mpr hp), ← EReal.coe_add]
    rw [h, if_neg (EReal.coe_ne_top _), if_neg (EReal.coe_ne_top _), ← EReal.coe_sub, Ideal.logistic_coe]
    show ((Real.exp (a - (max a 0 + Real.log (1 + Real.exp (-max a (-a))))) : ℝ) : EReal) = _
    rw [EReal.coe_eq_coe_iff, ← sub_sub, Real.exp_sub, Real.exp_log hp, Real.exp_sub]
    rcases le_total 0 a with ha | ha
    · rw [max_eq_left ha, max_eq_left (by linarith : -a ≤ a), div_self (Real.exp_ne_zero a), one_div]
    · rw [max_eq_right ha, max_eq_right (by linarith : a ≤ -a), Real.exp_zero, div_one, neg_neg]
      have e : Real.exp (-a) = (Real.exp a)⁻¹ := Real.exp_neg a
      have hpos := Real.exp_pos a
      rw [e]
      field_simp
      ring

end Cert.Mix
-- ==== Proof.Mix.Scan.lean ====
module

public import proofs.«01_k».proof.Proof.Mix.Idx
public import proofs.«01_k».proof.Proof.Mix.Sums
public import proofs.«01_k».proof.Proof.Gen.Kernel3Ideal.Value
public import proofs.«01_k».proof.Proof.Gen.Reference3Ideal.Read
public import proofs.«01_k».proof.Defs
public import Idealize.ShloMosaic.Lib.Pipeline.ValueKit.Acc
public import Idealize.ShloMosaic.Lib.KernelVsHost

@[expose] public section

noncomputable section

namespace Cert.Mix.Scan

open Idealize.ShloMosaic Idealize.ShloMosaic.TcCoe Idealize.SL.Sem
open Cert.Kernel3Ideal Cert.Kernel3Ideal.Gen

/-! ## The sums, over the natural numbers -/

/-- A lane of an array, continued by zeros. -/
def lane (X : Vec Ideal S4096x128 .f32) (q : Fin 128) (i : ℕ) : EReal := if h : i < 4096 then X (ix2 ⟨i, h⟩ q) else 0

/-- The sum of a lane from a row on. -/
def suf (X : Vec Ideal S4096x128 .f32) (q : Fin 128) (r : ℕ) : EReal := ∑ i ∈ Finset.Ico r 4096, lane X q i

/-- The gradient of a logit. -/
def grad (X Y : Vec Ideal S4096x128 .f32) (q : Fin 128) (r : ℕ) : EReal := suf X q r * Ideal.logistic (0 - lane Y q r)

/-! ## One trip of the loop -/

section Trip

variable (𝒱 : Variants) (c : Dev nD) (bd : Option 𝒱.V) (arg0 : Memref sig .tc .vmem S4096x128 .f32) (harg0 : arg0.IsWhole) (arg1 : Memref sig .tc .vmem S4096x128 .f32) (harg1 : arg1.IsWhole) (arg2 : Memref sig .tc .vmem S4096x128 .f32) (harg2 : arg2.IsWhole) (arg3 : Memref sig .tc .vmem S1x128 .f32) (harg3 : arg3.IsWhole)

abbrev rows (k : Fin k0_t1_loop.trips) : Rect S4096x128 := Rect.unit (s := S4096x128) (k0_off1 k) S256x128.size (k0_off1_inb k)

abbrev got (arg : Memref sig .tc .vmem S4096x128 .f32) (X : BufTy.Contents (Elt Ideal) arg.view.ty) (k : Fin k0_t1_loop.trips) : Vec Ideal S256x128 .f32 :=
  arg.view.readAt (Elt Ideal) (rows k).toLoadRect X

theorem trips16 : k0_t1_loop.trips = 16 := by decide +kernel

theorem off_k : ∀ k : Fin k0_t1_loop.trips, k0_off1 k = ![256 * (15 - k.val), 0] := by decide +kernel

theorem trip_R (X0 : BufTy.Contents (Elt Ideal) arg0.view.ty) (X1 : BufTy.Contents (Elt Ideal) arg1.view.ty) (k : Fin k0_t1_loop.trips)
    (acc : FVec Ideal S1x128 .f32 × FVec Ideal S1x128 .f32) :
    tripR_k0_t1 (F := Ideal) 𝒱 c bd arg0 harg0 arg1 harg1 arg2 harg2 arg3 harg3 X0 X1 k acc
      = (k0_pay5 acc.1 (got arg0 X0 k), k0_pay6 acc.1 acc.2 (got arg0 X0 k) (got arg1 X1 k)) := by
  unfold tripR_k0_t1 trip_k0_t1
  rfl

theorem trip_L (X0 : BufTy.Contents (Elt Ideal) arg0.view.ty) (X1 : BufTy.Contents (Elt Ideal) arg1.view.ty) (k : Fin k0_t1_loop.trips)
    (acc : FVec Ideal S1x128 .f32 × FVec Ideal S1x128 .f32) :
    tripL_k0_t1 (F := Ideal) 𝒱 c bd arg0 harg0 arg1 harg1 arg2 harg2 arg3 harg3 X0 X1 k acc
      = [⟨rows k, k0_pay4 acc.1 (got arg0 X0 k) (got arg1 X1 k)⟩] := by
  unfold tripL_k0_t1 trip_k0_t1
  rfl

theorem got_eq (arg : Memref sig .tc .vmem S4096x128 .f32) (harg : arg.IsWhole) (x : Vec Ideal S4096x128 .f32) (k : Fin k0_t1_loop.trips) :
    got arg (harg.unread x) k = View.ld x (rows k) := by
  rw [got, View.readAt_eq_ld, harg.read_unread]

theorem emb_k (k : Fin k0_t1_loop.trips) (p : Fin 256) (q : Fin 128) (j : Fin 4096) (hj : j.val = 256 * (15 - k.val) + p.val) :
    (rows k).emb (ix2 p q) = ix2 j q :=
  idx2 _ j q (by simp [off_k, hj]) (by simp [off_k])

theorem row_lt (k : Fin k0_t1_loop.trips) (p : ℕ) (hp : p < 256) : 256 * (15 - k.val) + p < 4096 := by omega

theorem got_at (arg : Memref sig .tc .vmem S4096x128 .f32) (harg : arg.IsWhole) (x : Vec Ideal S4096x128 .f32) (k : Fin k0_t1_loop.trips) (p : Fin 256) (q : Fin 128) :
    got arg (harg.unread x) k (ix2 p q) = lane x q (256 * (15 - k.val) + p.val) := by
  rw [got_eq]
  unfold lane
  rw [dif_pos (row_lt k p.val p.isLt)]
  exact congrArg x (emb_k k p q _ rfl)

/-- An entry of the triangle of ones. -/
theorem tri_at (p x : Fin 256) :
    (FloatOps.sitofp FTy.f32 (BitVec.setWidth 32 (IntOp.cmpi CmpIPredicate.sle (BitVec.ofNat 32 p.val) (BitVec.ofNat 32 x.val))) : Ideal FTy.f32)
      = (if p.val ≤ x.val then 1 else 0 : EReal) := by
  have hp := p.isLt
  have hx := x.isLt
  have e : (BitVec.ofNat 32 p.val).sle (BitVec.ofNat 32 x.val) = decide (p.val ≤ x.val) := by
    rw [BitVec.sle_eq_decide, BitVec.toInt_eq_toNat_of_lt (by simp; omega), BitVec.toInt_eq_toNat_of_lt (by simp; omega)]
    simp
    omega
  show (((BitVec.setWidth 32 (BitVec.ofBool ((BitVec.ofNat 32 p.val).sle (BitVec.ofNat 32 x.val)))).toInt : ℝ) : EReal) = _
  rw [e]
  by_cases h : p.val ≤ x.val
  · rw [if_pos h, decide_eq_true h]
    simp
  · rw [if_neg h, decide_eq_false h]
    simp

theorem pay3_at (a : FVec Ideal S1x128 .f32) (v : Vec Ideal S256x128 .f32) (p : Fin 256) (q : Fin 128) :
    k0_pay3 a v (ix2 p q) = (∑ j : Fin 256, if p.val ≤ j.val then v (ix2 j q) else 0) + a (ix2 0 q) := by
  pointwise [k0_pay3]
  refine congrArg (fun s : EReal => s + a (ix2 0 q)) (Finset.sum_congr rfl fun j _ => ?_)
  rw [tri_at]
  split
  · rw [one_mul]
  · rw [zero_mul]

theorem pay4_at (a : FVec Ideal S1x128 .f32) (v w : Vec Ideal S256x128 .f32) (p : Fin 256) (q : Fin 128) :
    k0_pay4 a v w (ix2 p q) = k0_pay3 a v (ix2 p q) * Ideal.logistic (0 - w (ix2 p q)) := by
  unfold k0_pay4
  generalize k0_pay3 a v = s
  pointwise

theorem pay5_at (a : FVec Ideal S1x128 .f32) (v : Vec Ideal S256x128 .f32) (q : Fin 128) :
    k0_pay5 a v (ix2 0 q) = k0_pay3 a v (ix2 0 q) := by
  unfold k0_pay5
  generalize k0_pay3 a v = s
  pointwise

theorem pay6_at (a b : FVec Ideal S1x128 .f32) (v w : Vec Ideal S256x128 .f32) (q : Fin 128) :
    k0_pay6 a b v w (ix2 0 q) = b (ix2 0 q) + ∑ j : Fin 256, k0_pay4 a v w (ix2 j q) := by
  unfold k0_pay6
  generalize k0_pay4 a v w = s
  pointwise

end Trip

/-! ## The loop -/

section State

variable (c : Dev nD) (arg0 : Memref sig .tc .vmem S4096x128 .f32) (harg0 : arg0.IsWhole) (arg1 : Memref sig .tc .vmem S4096x128 .f32) (harg1 : arg1.IsWhole) (arg2 : Memref sig .tc .vmem S4096x128 .f32) (harg2 : arg2.IsWhole) (arg3 : Memref sig .tc .vmem S1x128 .f32) (harg3 : arg3.IsWhole)

abbrev st (x0 x1 : Vec Ideal S4096x128 .f32) (k : ℕ) : (FVec Ideal S1x128 .f32 × FVec Ideal S1x128 .f32) × List (View.Piece (Elt Ideal) S4096x128 .f32) :=
  st_k0_t1 (F := Ideal) Variants.none c none arg0 harg0 arg1 harg1 arg2 harg2 arg3 harg3 (harg0.unread x0) (harg1.unread x1) (k0_pay1, k0_pay2) k

theorem st_at (x0 x1 : Vec Ideal S4096x128 .f32) (q : Fin 128) : ∀ k : ℕ, k ≤ 16 →
    (st c arg0 harg0 arg1 harg1 arg2 harg2 arg3 harg3 x0 x1 k).1.1 (ix2 0 q) = suf x0 q (256 * (16 - k))
    ∧ (st c arg0 harg0 arg1 harg1 arg2 harg2 arg3 harg3 x0 x1 k).1.2 (ix2 0 q) = ∑ i ∈ Finset.Ico (256 * (16 - k)) 4096, grad x0 x1 q i
    ∧ ∀ r : Fin 4096, 256 * (16 - k) ≤ r.val →
      View.canon (Val := Elt Ideal) (st c arg0 harg0 arg1 harg1 arg2 harg2 arg3 harg3 x0 x1 k).2 (ix2 r q) = grad x0 x1 q r.val := by
  intro k
  induction k with
  | zero =>
    intro _
    refine ⟨?_, ?_, fun r hr => absurd r.isLt (by omega)⟩
    · show Ideal.ofBits .f32 0x00000000#32 = ∑ i ∈ Finset.Ico 4096 4096, lane x0 q i
      rw [zero_bits, Finset.Ico_self, Finset.sum_empty]
    · show Ideal.ofBits .f32 0x00000000#32 = ∑ i ∈ Finset.Ico 4096 4096, grad x0 x1 q i
      rw [zero_bits, Finset.Ico_self, Finset.sum_empty]
  | succ k ih =>
    intro hk
    obtain ⟨ih1, ih2, ih3⟩ := ih (by omega)
    have e := st_k0_t1_succ (F := Ideal) Variants.none c none arg0 harg0 arg1 harg1 arg2 harg2 arg3 harg3 (harg0.unread x0) (harg1.unread x1)
      (k0_pay1, k0_pay2) ⟨k, by rw [trips16]; omega⟩
    rw [trip_R, trip_L] at e
    change st c arg0 harg0 arg1 harg1 arg2 harg2 arg3 harg3 x0 x1 (k + 1) = _ at e
    rw [e]
    have o1 : 256 * (16 - k) = 256 * (15 - k) + 256 := by omega
    have o2 : 256 * (16 - (k + 1)) = 256 * (15 - k) := by omega
    rw [o2]
    have hk16 : k < k0_t1_loop.trips := by rw [trips16]; omega
    have s3 : ∀ p : Fin 256, k0_pay3 (st c arg0 harg0 arg1 harg1 arg2 harg2 arg3 harg3 x0 x1 k).1.1 (got arg0 (harg0.unread x0) ⟨k, hk16⟩) (ix2 p q)
        = suf x0 q (256 * (15 - k) + p.val) := by
      intro p
      have es : (∑ j : Fin 256, if p.val ≤ j.val then got arg0 (harg0.unread x0) ⟨k, hk16⟩ (ix2 j q) else 0 : EReal)
          = ∑ j ∈ Finset.range 256, if p.val ≤ j then lane x0 q (256 * (15 - k) + j) else 0 := by
        rw [Finset.sum_range]
        exact Finset.sum_congr rfl fun j _ => by rw [got_at]
      rw [pay3_at, ih1, es, o1]
      exact suffix_block (lane x0 q) (256 * (15 - k)) 256 4096 p.val (by have := p.isLt; omega) (by omega)
    have s4 : ∀ p : Fin 256, k0_pay4 (st c arg0 harg0 arg1 harg1 arg2 harg2 arg3 harg3 x0 x1 k).1.1 (got arg0 (harg0.unread x0) ⟨k, hk16⟩)
        (got arg1 (harg1.unread x1) ⟨k, hk16⟩) (ix2 p q) = grad x0 x1 q (256 * (15 - k) + p.val) := by
      intro p
      rw [pay4_at, s3, got_at]
      rfl
    refine ⟨?_, ?_, fun r hr => ?_⟩
    · exact (pay5_at _ _ q).trans (s3 0)
    · refine (pay6_at _ _ _ _ q).trans ?_
      have es : (∑ j : Fin 256, k0_pay4 (st c arg0 harg0 arg1 harg1 arg2 harg2 arg3 harg3 x0 x1 k).1.1 (got arg0 (harg0.unread x0) ⟨k, hk16⟩)
          (got arg1 (harg1.unread x1) ⟨k, hk16⟩) (ix2 j q) : EReal) = ∑ j ∈ Finset.range 256, grad x0 x1 q (256 * (15 - k) + j) := by
        rw [Finset.sum_range]
        exact Finset.sum_congr rfl fun j _ => s4 j
      refine (congrArg₂ (fun a b : EReal => a + b) ih2 es).trans ?_
      rw [o1]
      exact suffix_whole (grad x0 x1 q) (256 * (15 - k)) 256 4096 (by omega)
    · show View.canon (Val := Elt Ideal) (⟨rows ⟨k, hk16⟩, k0_pay4 (F := Ideal) _ _ _⟩ :: (st c arg0 harg0 arg1 harg1 arg2 harg2 arg3 harg3 x0 x1 k).2) (ix2 r q) = _
      by_cases h : 256 * (16 - k) ≤ r.val
      · rw [View.canon_cons_of_not_mem]
        · exact ih3 r h
        · intro hm
          have h0 := (Rect.mem_set_unit (s := S4096x128) (inb := k0_off1_inb ⟨k, hk16⟩).mp hm) 0
          rw [off_k] at h0
          have h1 : r.val < 256 * (15 - k) + 256 := h0.2
          omega
      · have hp : r.val - 256 * (15 - k) < 256 := by omega
        rw [← emb_k ⟨k, hk16⟩ ⟨r.val - 256 * (15 - k), hp⟩ q r (by show r.val = 256 * (15 - k) + (r.val - 256 * (15 - k)); omega), View.canon_cons_emb]
        refine (s4 _).trans (congrArg _ ?_)
        show 256 * (15 - k) + (r.val - 256 * (15 - k)) = r.val
        omega

theorem trips_lit : Scf.trips (0#32) (Scalar.addi 0#32 16#32) 1#32 = 16 := by decide +kernel

theorem out_2 (x0 x1 : Vec Ideal S4096x128 .f32) (r : Fin 4096) (q : Fin 128) :
    out0_A_2 c arg0 harg0 arg1 harg1 arg2 harg2 arg3 harg3 x0 x1 (ix2 r q) = grad x0 x1 q r.val := by
  unfold out0_A_2 kernelRun0_A
  dsimp only
  rw [View.read_writes_junk_eq_canon, trips_lit]
  exact (st_at c arg0 harg0 arg1 harg1 arg2 harg2 arg3 harg3 x0 x1 q 16 le_rfl).2.2 r (by omega)

theorem out_3 (x0 x1 : Vec Ideal S4096x128 .f32) (q : Fin 128) :
    out0_A_3 c arg0 harg0 arg1 harg1 arg2 harg2 arg3 harg3 x0 x1 (ix2 0 q) = ∑ i ∈ Finset.Ico 0 4096, grad x0 x1 q i := by
  unfold out0_A_3 kernelRun0_A
  dsimp only
  rw [View.read_writes_junk_eq_canon, trips_lit]
  have e : (ix2 0 q : S1x128.Idx) = (Rect.unit (s := S1x128) ![0, 0] ![1, 128] inb_S1x128_S1x128_0_0).emb (ix2 (0 : Fin 1) q) :=
    (idx2 _ (0 : Fin 1) q (by simp) (by simp)).symm
  rw [e, View.canon_cons_emb]
  exact (st_at c arg0 harg0 arg1 harg1 arg2 harg2 arg3 harg3 x0 x1 q 16 le_rfl).2.1

end State

/-! ## The arguments of the call -/

variable (m : (ℓ : Loc nD τ sig) → Buf (Elt Ideal) ℓ) (c : Dev nD)

abbrev aF : Vec Ideal S4096x8 .f32 := m ((c : Thread nD τ).loc main_arg0)
abbrev aB : Vec Ideal S8 .f32 := m ((c : Thread nD τ).loc main_arg1)
abbrev aT : Vec Ideal S4096x8 .f32 := m ((c : Thread nD τ).loc main_arg2)

abbrev X0 : Vec Ideal S4096x128 .f32 := V m c main_v0
abbrev X1 : Vec Ideal S4096x128 .f32 := V m c main_v4

abbrev wide (q : Fin 8) : Fin 128 := ⟨q.val, by omega⟩

theorem x0_in (r : Fin 4096) (q : Fin 8) : X0 m c (ix2 r (wide q)) = aT m c (ix2 r q) := by
  simp only [X0, V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp
  refine pad_apply_of_inside _ _ _ _ _ _ _ _ (ix2 r q) fun a => ?_
  match a with
  | ⟨0, _⟩ => simp
  | ⟨1, _⟩ => simp

theorem x0_out (r : Fin 4096) (q : Fin 128) (hq : 8 ≤ q.val) : X0 m c (ix2 r q) = 0 := by
  simp only [X0, V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp
  refine (pad_apply_of_not_inside _ _ _ _ _ _ _ _ 1 fun hh => ?_).trans ?_
  · have h2 : (q.val - 0) / (0 + 1) < 8 := hh.2.2
    simp at h2
    omega
  show (((((0#32 : BitVec 32).toInt : ℤ) : ℝ)) : EReal) = 0
  simp

theorem x1_in (r : Fin 4096) (q : Fin 8) : X1 m c (ix2 r (wide q)) = aF m c (ix2 r q) + aB m c (ix1 q) := by
  simp only [X1, V, hostOps0, hostOps0_1, hostOps0_2, hostOps0_3, List.flatten_cons, List.flatten_nil, List.append_nil, List.cons_append, List.nil_append,
    StableHlo.TRef.binary, StableHlo.TRef.unary, StableHlo.TRef.toBuf, StableHlo.TRef.ofBuf, cast_eq]
  after_results_simp
  refine (pad_apply_of_inside _ _ _ _ _ _ _ _ (ix2 r q) fun a => ?_).trans ?_
  · match a with
    | ⟨0, _⟩ => simp
    | ⟨1, _⟩ => simp
  pointwise

theorem ix_0 : ∀ t : Fin cfg0.N, win0_0.index t = ![0, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)

theorem b_0 (t : Fin cfg0.N) : iblk m c 0 t = X0 m c := by
  blk_ext! [iblk, ix_0 t]

theorem b_1 (t : Fin cfg0.N) : iblk m c 1 t = X1 m c := by
  blk_ext! [iblk, ix_1 t]

/-! ## The result arrays -/

def rD (y : S4096x128.Idx) : EReal := grad (X0 m c) (X1 m c) (y 1) (y 0).val
def rB (y : S1x128.Idx) : EReal := ∑ i ∈ Finset.Ico 0 4096, grad (X0 m c) (X1 m c) (y 1) i

theorem emb_2 (t : Fin cfg0.N) (y : S4096x128.Idx) : (win0_2.blk t).view.emb y = ix2 (y 0) (y 1) := by
  blk_ext [ix_2 t]

theorem emb_3 (t : Fin cfg0.N) (y : S1x128.Idx) : (win0_3.blk t).view.emb y = ix2 0 (y 1) := by
  blk_ext [ix_3 t]

theorem outs_2 (t : Fin cfg0.N) (r : Fin 4096) (q : Fin 128) : (outsAt0 m c t).1 (ix2 r q) = grad (X0 m c) (X1 m c) q r.val := by
  unfold outsAt0
  rw [b_0, b_1]
  exact out_2 _ _ _ _ _ _ _ _ _ _ _ r q

theorem outs_3 (t : Fin cfg0.N) (q : Fin 128) : (outsAt0 m c t).2 (ix2 0 q) = ∑ i ∈ Finset.Ico 0 4096, grad (X0 m c) (X1 m c) q i := by
  unfold outsAt0
  rw [b_0, b_1]
  exact out_3 _ _ _ _ _ _ _ _ _ _ _ q

theorem final_2 : (dats m 0 c).arrAt 2 cfg0.N = rD m c := by
  refine (dats m 0 c).arrAt_eq_of_covers 2 _ (by decide +kernel) fun t hf y => ?_
  blk_simp
  rw [after0_2, emb_2, eq_ix2 y]
  exact outs_2 m c t (y 0) (y 1)

theorem final_3 : (dats m 0 c).arrAt 3 cfg0.N = rB m c := by
  refine (dats m 0 c).arrAt_eq_of_covers 3 _ (by decide +kernel) fun t hf y => ?_
  blk_simp
  rw [after0_3, emb_3]
  have e : y = ix2 (0 : Fin 1) (y 1) := idx2 _ _ _ (Nat.lt_one_iff.mp (y 0).isLt) rfl
  rw [e]
  exact outs_3 m c t (y 1)

/-! ## The reference -/

theorem sel_une (x a b : EReal) : Scalar.select (Ideal.cmp .une x x) a b = b := by
  simp [Ideal.cmp, Scalar.select]

theorem sel_oeq (x y a b : EReal) : Scalar.select (Ideal.cmp .oeq x y) a b = if x = y then a else b := by
  by_cases h : x = y <;> simp [Ideal.cmp, Scalar.select, h]

/-- A windowed sum from zero is the sum over the window's positions. -/
theorem win_sum {s t : Shape} (window strides lo hi : Fin s.rank → Nat) (h : s.ReduceWindows window strides lo hi t) (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else 0 := by
  unfold Ideal.hostReduceWindowAdd Host.reduceWindow
  dsimp only
  rw [foldl_fin]
  rw [← Equiv.sum_comp (⟨s.rank, window⟩ : Shape).rowMajor.symm]
  exact Finset.sum_congr rfl fun i _ => by congr

/-- The positions of a window of one column. -/
def column : (⟨2, ![4096, 1]⟩ : Shape).Idx ≃ Fin 4096 where
  toFun w := w 0
  invFun j := ix2 j 0
  left_inv w := (idx2 w (w 0) (0 : Fin 1) rfl (Nat.lt_one_iff.mp (w 1).isLt)).symm
  right_inv j := rfl

section Reference

open Cert.Reference3Ideal.Read

variable (Fl : Vec Ideal S4096x8 .f32) (B : Vec Ideal S8 .f32) (T : Vec Ideal S4096x8 .f32)

theorem top_bits : Ideal.ofBits .f32 0x7F800000#32 = ⊤ := by
  simp [Ideal.ofBits, Ideal.ieee]

theorem u_at (r : Fin 4096) (q : Fin 8) : val_main_call0_v0 (F := Ideal) Fl B (ix2 r q) = -(Fl (ix2 r q) + B (ix1 q)) := by
  rw [val_main_call0_v0_apply, val_main_v2_apply, val_main_v1_apply, val_main_v0_apply, idx1 (Cert.Reference3Ideal.Read.idx_main_v0 _) q (by simp)]
  rfl

theorem sp_at (r : Fin 4096) (q : Fin 8) (u : EReal) (hu : val_main_call0_v0 (F := Ideal) Fl B (ix2 r q) = u) :
    val_main_call0_v1_0 (F := Ideal) Fl B (ix2 r q) = max u 0 + Ideal.log1p (Ideal.exp (-max u (-u))) := by
  rw [val_main_call0_v1_0_apply, val_main_call0_call0_v4_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_call0_v2_apply, val_main_call0_call0_v0_apply, val_main_call0_call0_cst_apply, hu]
  refine (sel_une _ _ _).trans ?_
  show max u (Ideal.ofBits .f32 0x00000000#32) + Ideal.log1p (Ideal.exp (-max (u - Ideal.ofBits .f32 0x00000000#32) (-(u - Ideal.ofBits .f32 0x00000000#32)))) = _
  rw [zero_bits, sub_zero]

theorem sig_at (r : Fin 4096) (q : Fin 8) : val_main_v3_1 (F := Ideal) Fl B (ix2 r q) = Ideal.logistic (-(Fl (ix2 r q) + B (ix1 q))) := by
  rw [val_main_v3_1_apply, val_main_call0_call0_v21_apply, val_main_call0_call0_v16_apply, val_main_call0_call0_v20_apply,
    val_main_call0_call0_v14_apply, val_main_call0_call0_v18_apply, sp_at Fl B r q _ (u_at Fl B r q), u_at,
    val_main_call0_call0_v13_apply, val_main_call0_call0_v15_apply, val_main_call0_call0_v17_apply, val_main_call0_call0_v19_apply,
    val_main_call0_call0_cst_0_apply, val_main_call0_call0_cst_1_apply, val_main_call0_call0_cst_2_apply, val_main_call0_call0_cst_3_apply]
  generalize -(Fl (ix2 r q) + B (ix1 q)) = u
  refine Eq.trans ?_ (exp_softplus u)
  generalize max u 0 + Ideal.log1p (Ideal.exp (-max u (-u))) = S
  show Ideal.exp (Scalar.select (Ideal.cmp .oeq u (Ideal.ofBits .f32 0x7F800000#32)) (Ideal.ofBits .f32 0x00000000#32) u
    - Scalar.select (Ideal.cmp .oeq S (Ideal.ofBits .f32 0x7F800000#32)) (Ideal.ofBits .f32 0x00000000#32) S) = _
  rw [zero_bits, top_bits, sel_oeq, sel_oeq]

/-- A lane of the cotangent, continued by zeros. -/
def lane8 (q : Fin 8) (i : ℕ) : EReal := if h : i < 4096 then T (ix2 ⟨i, h⟩ q) else 0

theorem lane8_of (q : Fin 8) {i : ℕ} (h : i < 4096) : lane8 T q i = T (ix2 ⟨i, h⟩ q) := dif_pos h

theorem v5_at (r : Fin 4096) (q : Fin 8) : val_main_v5 (F := Ideal) T (ix2 r q) = ∑ i ∈ Finset.Ico r.val 4096, lane8 T q i := by
  rw [← suffix_window (lane8 T q) 4096 r.val r.isLt.le]
  unfold val_main_v5 Host.reduceWindowAdd
  have z : val_main_call2_call0_v0 (F := Ideal) (Shape.Idx.first Cert.Reference3Ideal.Gen.facts.toFacts₀.h_S_) = 0 := by
    rw [val_main_call2_call0_v0_apply]
    exact zero_bits
  rw [z]
  refine (win_sum _ _ _ _ _ T (ix2 r q)).trans ?_
  rw [Finset.sum_range]
  refine Fintype.sum_equiv column _ _ fun w => ?_
  have hw : (w 1).val < 1 := (w 1).isLt
  by_cases h : r.val + (w 0).val < 4096
  · refine (dif_pos fun a => ?_).trans ?_
    · match a with
      | ⟨0, _⟩ => exact ⟨Nat.zero_le _, by show r.val * 1 + (w 0).val - 0 < 4096; omega⟩
      | ⟨1, _⟩ => exact ⟨Nat.zero_le _, by show q.val * 1 + (w 1).val - 0 < 8; omega⟩
    · rw [if_pos (show r.val + (column w).val < 4096 from h)]
      refine (congrArg T (idx2 _ ⟨r.val + (w 0).val, h⟩ q ?_ ?_)).trans (lane8_of T q h).symm
      · show r.val * 1 + (w 0).val - 0 = r.val + (w 0).val
        omega
      · show q.val * 1 + (w 1).val - 0 = q.val
        omega
  · refine (dif_neg fun hin => h ?_).trans (if_neg h).symm
    have h0 : r.val * 1 + (w 0).val - 0 < 4096 := (hin 0).2
    omega

theorem v6_at (r : Fin 4096) (q : Fin 8) : val_main_v6 (F := Ideal) Fl B T (ix2 r q)
    = (∑ i ∈ Finset.Ico r.val 4096, lane8 T q i) * Ideal.logistic (-(Fl (ix2 r q) + B (ix1 q))) := by
  rw [val_main_v6_apply, val_main_call3_v1_apply, val_main_call3_v0_apply, v5_at, sig_at]
  show -((-(∑ i ∈ Finset.Ico r.val 4096, lane8 T q i)) * Ideal.logistic (-(Fl (ix2 r q) + B (ix1 q)))) = _
  rw [EReal.neg_mul, neg_neg]

theorem v11_at (i : S1x8.Idx) (q : Fin 8) (hq : (i 1).val = q.val) : val_main_v11 (F := Ideal) Fl B T i
    = ∑ r : Fin 4096, val_main_v6 (F := Ideal) Fl B T (ix2 r q) := by
  rw [val_main_v11_apply, val_main_v9_apply, val_main_cst_0_apply, Fin.sum_univ_one, val_main_v8_apply, val_main_v7_apply, val_main_cst_apply]
  show Ideal.ofBits .f32 0x00000000#32 + (Ideal.ofBits .f32 0x00000000#32 + _) = _
  rw [zero_bits, zero_add, zero_add]
  refine Finset.sum_congr rfl fun r _ => congrArg _ (idx2 _ _ _ rfl ?_)
  simpa using hq

theorem zero_int : FloatOps.sitofp (F := Ideal) .f32 (0#32 : BitVec 32) = (0 : EReal) := by
  show (((((0#32 : BitVec 32).toInt : ℤ) : ℝ)) : EReal) = 0
  simp

theorem v10_in (r : Fin 4096) (q : Fin 8) : val_main_v10 (F := Ideal) Fl B T (ix2 r (wide q)) = val_main_v6 (F := Ideal) Fl B T (ix2 r q) := by
  unfold val_main_v10
  refine pad_apply_of_inside _ _ _ _ _ _ _ _ (ix2 r q) fun a => ?_
  match a with
  | ⟨0, _⟩ => simp
  | ⟨1, _⟩ => simp

theorem v10_out (r : Fin 4096) (q : Fin 128) (hq : 8 ≤ q.val) : val_main_v10 (F := Ideal) Fl B T (ix2 r q) = 0 := by
  unfold val_main_v10
  refine (pad_apply_of_not_inside _ _ _ _ _ _ _ _ 1 fun hh => ?_).trans ?_
  · have h2 : (q.val - 0) / (0 + 1) < 8 := hh.2.2
    simp at h2
    omega
  exact zero_int

theorem v12_in (q : Fin 8) : val_main_v12 (F := Ideal) Fl B T (ix2 0 (wide q)) = ∑ r : Fin 4096, val_main_v6 (F := Ideal) Fl B T (ix2 r q) := by
  rw [← v11_at Fl B T (ix2 0 q) q rfl]
  unfold val_main_v12
  refine pad_apply_of_inside _ _ _ _ _ _ _ _ (ix2 0 q) fun a => ?_
  match a with
  | ⟨0, _⟩ => simp
  | ⟨1, _⟩ => simp

theorem v12_out (q : Fin 128) (hq : 8 ≤ q.val) : val_main_v12 (F := Ideal) Fl B T (ix2 0 q) = 0 := by
  unfold val_main_v12
  refine (pad_apply_of_not_inside _ _ _ _ _ _ _ _ 1 fun hh => ?_).trans ?_
  · have h2 : (q.val - 0) / (0 + 1) < 8 := hh.2.2
    simp at h2
    omega
  exact zero_int

end Reference

/-! ## The two agree -/

theorem suf_in (q : Fin 8) (r : ℕ) : suf (X0 m c) (wide q) r = ∑ i ∈ Finset.Ico r 4096, lane8 (aT m c) q i := by
  refine Finset.sum_congr rfl fun i hi => ?_
  have h : i < 4096 := (Finset.mem_Ico.mp hi).2
  rw [lane, lane8, dif_pos h, dif_pos h]
  exact x0_in m c ⟨i, h⟩ q

theorem suf_out (q : Fin 128) (hq : 8 ≤ q.val) (r : ℕ) : suf (X0 m c) q r = 0 := by
  refine Finset.sum_eq_zero fun i hi => ?_
  have h : i < 4096 := (Finset.mem_Ico.mp hi).2
  rw [lane, dif_pos h]
  exact x0_out m c ⟨i, h⟩ q hq

theorem grad_in (r : Fin 4096) (q : Fin 8) : grad (X0 m c) (X1 m c) (wide q) r.val
    = Cert.Reference3Ideal.Read.val_main_v6 (F := Ideal) (aF m c) (aB m c) (aT m c) (ix2 r q) := by
  rw [v6_at, grad, suf_in, lane, dif_pos r.isLt, zero_sub]
  exact congrArg (fun s : EReal => (∑ i ∈ Finset.Ico r.val 4096, lane8 (aT m c) q i) * Ideal.logistic (-s)) (x1_in m c r q)

theorem grad_out (q : Fin 128) (hq : 8 ≤ q.val) (r : ℕ) : grad (X0 m c) (X1 m c) q r = 0 := by
  rw [grad, suf_out m c q hq, zero_mul]

theorem d_eq (r : Fin 4096) (q : Fin 128) : Cert.Reference3Ideal.Read.val_main_v10 (F := Ideal) (aF m c) (aB m c) (aT m c) (ix2 r q) = rD m c (ix2 r q) := by
  show _ = grad (X0 m c) (X1 m c) q r.val
  by_cases h : q.val < 8
  · exact (v10_in _ _ _ r ⟨q.val, h⟩).trans (grad_in m c r ⟨q.val, h⟩).symm
  · rw [v10_out _ _ _ r q (by omega), grad_out m c q (by omega)]

theorem b_eq (q : Fin 128) : Cert.Reference3Ideal.Read.val_main_v12 (F := Ideal) (aF m c) (aB m c) (aT m c) (ix2 0 q) = rB m c (ix2 0 q) := by
  show _ = ∑ i ∈ Finset.Ico 0 4096, grad (X0 m c) (X1 m c) q i
  by_cases h : q.val < 8
  · refine (v12_in _ _ _ ⟨q.val, h⟩).trans ?_
    rw [← Finset.range_eq_Ico, Finset.sum_range]
    exact Finset.sum_congr rfl fun r _ => (grad_in m c r ⟨q.val, h⟩).symm
  · rw [v12_out _ _ _ q (by omega)]
    exact (Finset.sum_eq_zero fun i _ => grad_out m c q (by omega) i).symm

section Claim

attribute [local instance] Cert.Kernel3Ideal.Gen.facts Cert.Reference3Ideal.Gen.facts

open Cert.Reference3Ideal.Read

theorem algebraic : Cert.algebraic_Kernel3Ideal_Reference3Ideal := by
  intro m g m' g' _ hagree
  refine ⟨rD m, rB m, (θ_run defs _ _).mono (fun r h c => ⟨(h c).1.trans (final_2 m c), (h c).2.1.trans (final_3 m c), (h c).2.2⟩)
    (Cert.Kernel3Ideal.Value.run_blocks m g), ?_⟩
  refine (θ_run Cert.Reference3Ideal.defs _ _).mono (fun r h c => ?_) (Cert.Reference3Ideal.Value.run m' g')
  obtain ⟨e0, e1, e2⟩ := hagree c
  obtain ⟨h0, h1, hk⟩ := h c
  refine ⟨h0.trans ((val_main_v10_eq m' c).trans ?_), h1.trans ((val_main_v12_eq m' c).trans ?_), hk⟩
  · rw [e0, e1, e2]
    funext y
    rw [eq_ix2 y]
    exact d_eq m c _ _
  · rw [e0, e1, e2]
    funext y
    rw [idx2 y (0 : Fin 1) (y 1) (Nat.lt_one_iff.mp (y 0).isLt) rfl]
    exact b_eq m c _

end Claim

end Cert.Mix.Scan

end
-- ==== Proof.Mix.Nt.lean ====
module

public import proofs.«01_k».proof.Proof.Mix.Idx
public import proofs.«01_k».proof.Proof.Gen.Kernel10Ideal.Value
public import proofs.«01_k».proof.Proof.Gen.Reference10Ideal.Read
public import proofs.«01_k».proof.Defs
public import Idealize.ShloMosaic.Lib.Pipeline.ValueKit.Acc

@[expose] public section

noncomputable section

namespace Cert.Mix.Nt

open Idealize.ShloMosaic Idealize.ShloMosaic.TcCoe Idealize.SL.Sem
open Cert.Kernel10Ideal Cert.Kernel10Ideal.Gen

/-! ## The block a grid point writes -/

/-- The rows times the weight's rows. -/
def oB (d : Vec Ideal S512x1024 .f32) (w : Vec Ideal S1024x1024 .bf16) (y : S512x1024.Idx) : EReal :=
  ∑ k : Fin 1024, d (ix2 (y 0) k) * w (ix2 (y 1) k)

theorem pay_o (d : Vec Ideal S512x1024 .f32) (w : Vec Ideal S1024x1024 .bf16) (y : S512x1024.Idx) : k0_pay1 d w y = oB d w y := by
  obtain ⟨p, q, rfl⟩ : ∃ p q, y = ix2 p q := ⟨_, _, eq_ix2 y⟩
  pointwise [k0_pay1, oB]

theorem out_o (x0 : Vec Ideal S512x1024 .f32) (x1 : Vec Ideal S1024x1024 .bf16) (y : S512x1024.Idx) : out0_2 x0 x1 y = oB x0 x1 y := by
  frame_out
  rw [pay_o]

/-! ## The blocks of a grid point -/

variable (m : (ℓ : Loc nD τ sig) → Buf (Elt Ideal) ℓ) (c : Dev nD)

abbrev aW : Vec Ideal S1024x1024 .f32 := m ((c : Thread nD τ).loc main_arg1)
abbrev aD : Vec Ideal S4096x1024 .f32 := m ((c : Thread nD τ).loc main_arg2)

theorem w_V (k : Fin 1024) (h : Fin 1024) : V m c main_v0 (ix2 k h) = aW m c (ix2 k h) := by
  entry_read
  pointwise

theorem hN : cfg0.N = 8 := N_0

abbrev row (t : Fin cfg0.N) (r : Fin 512) : Fin 4096 := ⟨t.val * 512 + r.val, by have := t.isLt; have := hN; omega⟩

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

abbrev B0 (t : Fin cfg0.N) : Vec Ideal S512x1024 .f32 := iblk m c 0 t
abbrev B1 (t : Fin cfg0.N) : Vec Ideal S1024x1024 .bf16 := iblk m c 1 t

theorem b_0 (t : Fin cfg0.N) (r : Fin 512) (k : Fin 1024) : B0 m c t (ix2 r k) = aD m c (ix2 (row t r) k) := by
  blk_ext! [iblk, V, ix_0 t]

theorem b_1 (t : Fin cfg0.N) (k : Fin 1024) (h : Fin 1024) : B1 m c t (ix2 k h) = aW m c (ix2 k h) := by
  rw [← w_V]
  blk_ext! [iblk, ix_1 t]

/-! ## The result array -/

/-- The gradient of the rows. -/
def rO (y : S4096x1024.Idx) : EReal := ∑ k : Fin 1024, aD m c (ix2 (y 0) k) * aW m c (ix2 (y 1) k)

theorem emb_2 (t : Fin cfg0.N) (y : S512x1024.Idx) : (win0_2.blk t).view.emb y = ix2 (row t (y 0)) (y 1) := by
  blk_ext [ix_2 t]

theorem final : (dats m 0 c).arrAt 2 cfg0.N = rO m c := by
  refine (dats m 0 c).arrAt_eq_of_covers 2 _ (by decide +kernel) fun t hf y => ?_
  blk_simp
  rw [after0_2, out_o, emb_2]
  have e : oB (B0 m c t) (B1 m c t) y = rO m c (ix2 (row t (y 0)) (y 1)) :=
    Finset.sum_congr rfl fun k _ => congrArg₂ (fun a b : EReal => a * b) (b_0 m c t (y 0) k) (b_1 m c t (y 1) k)
  exact e

/-! ## The reference -/

section Reference

open Cert.Reference10Ideal.Read

theorem ref_O (W : Vec Ideal S1024x1024 .f32) (D : Vec Ideal S4096x1024 .f32) (r : Fin 4096) (h : Fin 1024) :
    val_main_v1 (F := Ideal) W D (ix2 r h) = ∑ k : Fin 1024, D (ix2 r k) * W (ix2 h k) := by
  rw [val_main_v1_apply]
  refine Finset.sum_congr rfl fun k _ => ?_
  rw [idx2 (lidx_main_v1 (ix2 r h) k) r k rfl rfl, idx2 (ridx_main_v1 (ix2 r h) k) h k rfl rfl]

end Reference

section Claim

attribute [local instance] Cert.Kernel10Ideal.Gen.facts Cert.Reference10Ideal.Gen.facts

open Cert.Reference10Ideal.Read in
theorem algebraic : Cert.algebraic_Kernel10Ideal_Reference10Ideal := by
  intro m g m' g' hpre hagree
  refine ⟨rO m, (θ_run defs _ _).mono (fun r h c => ⟨(h c).1.trans (final m c), (h c).2⟩)
    (Cert.Kernel10Ideal.Value.run_blocks m g), ?_⟩
  refine (θ_run Cert.Reference10Ideal.defs _ _).mono (fun r h c => ?_) (Cert.Reference10Ideal.Value.run m' g')
  obtain ⟨e0, e1, e2⟩ := hagree c
  obtain ⟨h0, hk⟩ := h c
  refine ⟨h0.trans ((val_main_v1_eq _ _).trans ?_), hk⟩
  rw [e1, e2]
  funext y
  rw [eq_ix2 y]
  exact ref_O (aW m c) (aD m c) _ _

end Claim

end Cert.Mix.Nt

end
-- ==== Proof.Mix.TnOut.lean ====
module

public import proofs.«01_k».proof.Proof.Mix.Idx
public import proofs.«01_k».proof.Proof.Gen.Kernel11Ideal.Value
public import proofs.«01_k».proof.Proof.Gen.Reference11Ideal.Read
public import proofs.«01_k».proof.Defs
public import Idealize.ShloMosaic.Lib.Pipeline.ValueKit.Acc

@[expose] public section

noncomputable section

namespace Cert.Mix.TnOut

open Idealize.ShloMosaic Idealize.ShloMosaic.TcCoe Idealize.SL.Sem
open Cert.Kernel11Ideal Cert.Kernel11Ideal.Gen

/-! ## What a grid point adds -/

/-- A row tile's part of the weight's gradient. -/
def part (x0 : Vec Ideal S1024x1024 .bf16) (x1 : Vec Ideal S1024x1024 .f32) (y : S1024x1024.Idx) : EReal :=
  ∑ r : Fin 1024, x0 (ix2 r (y 0)) * x1 (ix2 r (y 1))

theorem pay_zero (y : S1024x1024.Idx) : k0_pay1 (F := Ideal) y = 0 := by
  pointwise [k0_pay1]

theorem pay_acc (v : Vec Ideal S1024x1024 .f32) (x0 : Vec Ideal S1024x1024 .bf16) (x1 : Vec Ideal S1024x1024 .f32) (y : S1024x1024.Idx) :
    k0_pay2 v x0 x1 y = v y + part x0 x1 y := by
  obtain ⟨p, q, rfl⟩ : ∃ p q, y = ix2 p q := ⟨_, _, eq_ix2 y⟩
  pointwise [k0_pay2, part]

theorem pay_out (v : Vec Ideal S1024x1024 .f32) (y : S1x1024x1024.Idx) : k0_pay3 v y = v (ix2 (y 1) (y 2)) := by
  obtain ⟨a, p, q, rfl⟩ : ∃ a p q, y = ix3 a p q := ⟨_, _, _, eq_ix3 y⟩
  pointwise [k0_pay3]

section Case

variable (c : Dev nD) (i : grid0.Coords)
  (arg2 : Memref sig .tc .vmem S1024x1024 .bf16) (harg2 : arg2.IsWhole)
  (arg3 : Memref sig .tc .vmem S1024x1024 .f32) (harg3 : arg3.IsWhole)
  (arg4 : Memref sig .tc .vmem S1x1024x1024 .bf16) (harg4 : arg4.IsWhole)
  (arg5 : Memref sig .tc .vmem S1024x1024 .f32) (harg5 : arg5.IsWhole)
  (x0 : Vec Ideal S1024x1024 .bf16) (x1 : Vec Ideal S1024x1024 .f32) (xs0 : Vec Ideal S1024x1024 .f32)

theorem sout_A (hc0 : cond0_0 i) (hc1 : ¬cond0_1 i) (y : S1024x1024.Idx) :
    sout0_A_0 c i arg2 harg2 arg3 harg3 arg4 harg4 arg5 harg5 hc0 hc1 x0 x1 y = 0 + part x0 x1 y := by
  frame_out
  rw [pay_acc, pay_zero]

theorem sout_B (hc0 : ¬cond0_0 i) (hc1 : ¬cond0_1 i) (y : S1024x1024.Idx) :
    sout0_B_0 c i arg2 harg2 arg3 harg3 arg4 harg4 arg5 harg5 hc0 hc1 x0 x1 xs0 y = xs0 y + part x0 x1 y := by
  frame_out
  rw [pay_acc]

theorem sout_C (hc0 : ¬cond0_0 i) (hc1 : cond0_1 i) (y : S1024x1024.Idx) :
    sout0_C_0 c i arg2 harg2 arg3 harg3 arg4 harg4 arg5 harg5 hc0 hc1 x0 x1 xs0 y = xs0 y + part x0 x1 y := by
  frame_out
  rw [pay_acc]

theorem out_C (hc0 : ¬cond0_0 i) (hc1 : cond0_1 i) (y : S1x1024x1024.Idx) :
    out0_C_2 c i arg2 harg2 arg3 harg3 arg4 harg4 arg5 harg5 hc0 hc1 x0 x1 xs0 y
      = xs0 (ix2 (y 1) (y 2)) + part x0 x1 (ix2 (y 1) (y 2)) := by
  frame_out
  rw [pay_out, pay_acc]

end Case

/-! ## The blocks of a grid point -/

variable (m : (ℓ : Loc nD τ sig) → Buf (Elt Ideal) ℓ) (c : Dev nD)

abbrev aH : Vec Ideal S4096x1024 .f32 := m ((c : Thread nD τ).loc main_arg0)
abbrev aZ : Vec Ideal S4096x1024 .f32 := m ((c : Thread nD τ).loc main_arg2)

theorem h_V (r : Fin 4096) (k : Fin 1024) : V m c main_v0 (ix2 r k) = aH m c (ix2 r k) := by
  entry_read
  pointwise

theorem hN : cfg0.N = 4 := N_0

abbrev row (t : Fin cfg0.N) (r : Fin 1024) : Fin 4096 := ⟨t.val % 4 * 1024 + r.val, by omega⟩
abbrev col (t : Fin cfg0.N) (b : Fin 1024) : Fin 1024 := ⟨t.val / 4 * 1024 + b.val, by have := t.isLt; have := hN; omega⟩
abbrev chunk (t : Fin cfg0.N) : Fin 1 := ⟨t.val / 4, by have := t.isLt; have := hN; omega⟩

theorem ix_0 : ∀ t : Fin cfg0.N, win0_0.index t = ![t.val % 4, 0] := (by decide +kernel : ∀ t : Fin grid0.N, _)
theorem ix_1 : ∀ t : Fin cfg0.N, win0_1.index t = ![t.val % 4, t.val / 4] := (by decide +kernel : ∀ t : Fin grid0.N, _)
theorem ix_2 : ∀ t : Fin cfg0.N, win0_2.index t = ![t.val / 4, 0, 0] := (by decide +kernel : ∀ t : Fin grid0.N, _)

abbrev B0 (t : Fin cfg0.N) : Vec Ideal S1024x1024 .bf16 := iblk m c 0 t
abbrev B1 (t : Fin cfg0.N) : Vec Ideal S1024x1024 .f32 := iblk m c 1 t

theorem b_0 (t : Fin cfg0.N) (r : Fin 1024) (k : Fin 1024) : B0 m c t (ix2 r k) = aH m c (ix2 (row t r) k) := by
  rw [← h_V]
  blk_ext! [iblk, ix_0 t]

theorem b_1 (t : Fin cfg0.N) (r : Fin 1024) (k : Fin 1024) : B1 m c t (ix2 r k) = aZ m c (ix2 (row t r) (col t k)) := by
  blk_ext! [iblk, V, ix_1 t]

/-! ## The carried sum -/

abbrev tP (t : Fin cfg0.N) (y : S1024x1024.Idx) : EReal := part (B0 m c t) (B1 m c t) y

theorem tP_t (t : Fin cfg0.N) (y : S1024x1024.Idx) :
    tP m c t y = ∑ r : Fin 1024, aH m c (ix2 (row t r) (y 0)) * aZ m c (ix2 (row t r) (col t (y 1))) :=
  Finset.sum_congr rfl fun r _ => congrArg₂ (· * ·) (b_0 m c t r (y 0)) (b_1 m c t r (y 1))

theorem stepA (t : Fin cfg0.N) (h : t.val % 4 = 0) (y : S1024x1024.Idx) :
    (outsAt0 m c t.val t.isLt).2 y = 0 + tP m c t y := by
  have e := congrFun (congrArg (fun p => p.2) (outsAt0_A m c t h (by omega))) y
  dsimp only at e
  rw [sout_A] at e
  exact e

theorem stepB (t : Fin cfg0.N) (h : ¬t.val % 4 = 0) (h1 : ¬t.val % 4 = 3) (y : S1024x1024.Idx) :
    (outsAt0 m c t.val t.isLt).2 y
      = (outsAt0 m c (t.val - 1) (Nat.lt_of_le_of_lt (Nat.sub_le _ _) t.isLt)).2 y + tP m c t y := by
  have e := congrFun (congrArg (fun p => p.2) (outsAt0_B m c t h h1)) y
  generalize outsAt0 m c (t.val - 1) (Nat.lt_of_le_of_lt (Nat.sub_le _ _) t.isLt) = p at e ⊢
  dsimp only at e
  rw [sout_B] at e
  exact e

theorem stepC (t : Fin cfg0.N) (h : ¬t.val % 4 = 0) (h1 : t.val % 4 = 3) (y : S1024x1024.Idx) :
    (outsAt0 m c t.val t.isLt).2 y
      = (outsAt0 m c (t.val - 1) (Nat.lt_of_le_of_lt (Nat.sub_le _ _) t.isLt)).2 y + tP m c t y := by
  have e := congrFun (congrArg (fun p => p.2) (outsAt0_C m c t h h1)) y
  generalize outsAt0 m c (t.val - 1) (Nat.lt_of_le_of_lt (Nat.sub_le _ _) t.isLt) = p at e ⊢
  dsimp only at e
  rw [sout_C] at e
  exact e

theorem scr (t : Fin cfg0.N) (ht : t.val % 4 = 3) (y : S1024x1024.Idx) :
    (outsAt0 m c t.val t.isLt).2 y
      = ∑ s : Fin 4, tP m c ⟨4 * (t.val / 4) + s.val, Pipeline.run_point_lt_of_flush t ht s⟩ y := by
  rw [Pipeline.eq_sum_fin_of_reset_step_apply_of_flush (fun n h => (outsAt0 m c n h).2) 4 (fun _ => (0 : EReal))
    (tP m c) (fun t h y => stepA m c t h y)
    (fun t h y => if h1 : t.val % 4 = 3 then stepC m c t h h1 y else stepB m c t h h1 y)
    t ht y, zero_add]

theorem wr (t : Fin cfg0.N) (ht : t.val % 4 = 3) (y : S1x1024x1024.Idx) :
    (outsAt0 m c t.val t.isLt).1 y = (outsAt0 m c t.val t.isLt).2 (ix2 (y 1) (y 2)) := by
  have e := congrFun (congrArg (fun p => p.1) (outsAt0_C m c t (by omega) ht)) y
  have e' := stepC m c t (by omega) ht (ix2 (y 1) (y 2))
  generalize outsAt0 m c (t.val - 1) (Nat.lt_of_le_of_lt (Nat.sub_le _ _) t.isLt) = p at e e'
  dsimp only at e
  rw [out_C] at e
  exact e.trans e'.symm

/-! ## The result array -/

/-- The gradient of the weight, with a leading axis. -/
def dW (y : S1x1024x1024.Idx) : EReal :=
  ∑ r : Fin 4096, aH m c (ix2 r (y 1)) * aZ m c (ix2 r ⟨(y 0).val * 1024 + (y 2).val, by
    have h0 : (y 0).val < 1 := (y 0).isLt
    have h2 : (y 2).val < 1024 := (y 2).isLt
    omega⟩)

theorem emb_2 (t : Fin cfg0.N) (y : S1x1024x1024.Idx) : (win0_2.blk t).view.emb y = ix3 (chunk t) (y 1) (y 2) := by
  blk_ext [ix_2 t]

theorem final : (dats m 0 c).arrAt 2 cfg0.N = dW m c := by
  refine (dats m 0 c).arrAt_eq_of_covers 2 _ (by decide +kernel) fun t hf y => ?_
  have ht := (flush0_2 t).mp hf
  blk_simp
  rw [after0_2, wr m c t ht, scr m c t ht, emb_2]
  simp only [tP_t]
  show _ = ∑ r : Fin 4096, (fun r => aH m c (ix2 r (y 1)) * aZ m c (ix2 r (col t (y 2)))) r
  refine Fin.sum_mul_add_congr fun s k hl => ?_
  have hr : row (⟨4 * (t.val / 4) + s.val, Pipeline.run_point_lt_of_flush t ht s⟩ : Fin cfg0.N) k = ⟨s.val * 1024 + k.val, hl⟩ :=
    Fin.ext (by show (4 * (t.val / 4) + s.val) % 4 * 1024 + k.val = s.val * 1024 + k.val; omega)
  have hc : col (⟨4 * (t.val / 4) + s.val, Pipeline.run_point_lt_of_flush t ht s⟩ : Fin cfg0.N) (y 2) = col t (y 2) :=
    Fin.ext (by show (4 * (t.val / 4) + s.val) / 4 * 1024 + _ = t.val / 4 * 1024 + _; omega)
  show aH m c (ix2 (row _ k) (y 1)) * aZ m c (ix2 (row _ k) (col _ (y 2))) = _
  rw [hr, hc]

/-! ## The reference -/

section Ref

open Cert.Reference11Ideal.Read

theorem ref_at (H : Vec Ideal S4096x1024 .f32) (Z : Vec Ideal S4096x1024 .f32) (j : Fin 1) (a : Fin 1024) (b : Fin 1024) :
    val_main_v4 (F := Ideal) H Z (ix3 j a b)
      = ∑ r : Fin 4096, H (ix2 r a) * Z (ix2 r ⟨j.val * 1024 + b.val, by omega⟩) := by
  rw [val_main_v4_apply]
  show val_main_v3 (F := Ideal) H Z (ix3 j a b) = _
  rw [val_main_v3_apply, val_main_v2_apply, val_main_v1_apply]
  refine Finset.sum_congr rfl fun r _ => ?_
  rw [mul_comm]
  refine congrArg₂ (fun i k => H i * Z k) (idx2 _ _ _ rfl ?_) (idx2 _ _ _ rfl ?_)
  · simp
  · simp

end Ref

section Claim

attribute [local instance] Cert.Kernel11Ideal.Gen.facts Cert.Reference11Ideal.Gen.facts

open Cert.Reference11Ideal.Read in
theorem algebraic : Cert.algebraic_Kernel11Ideal_Reference11Ideal := by
  intro m g m' g' hpre hagree
  refine ⟨dW m, (θ_run defs _ _).mono (fun r h c => ⟨(h c).1.trans (final m c), (h c).2⟩)
    (Cert.Kernel11Ideal.Value.run_blocks m g), ?_⟩
  refine (θ_run Cert.Reference11Ideal.defs _ _).mono (fun r h c => ?_) (Cert.Reference11Ideal.Value.run m' g')
  obtain ⟨e0, e1, e2⟩ := hagree c
  obtain ⟨h0, hk⟩ := h c
  refine ⟨h0.trans ((val_main_v4_eq _ _).trans ?_), hk⟩
  rw [e0, e2]
  funext y
  rw [eq_ix3 y]
  exact ref_at (aH m c) (aZ m c) _ _ _

end Claim

end Cert.Mix.TnOut

end
-- ==== Proof.Mix.Soft.lean ====
module

public import Idealize.ShloMosaic.PureOps.Ideal

@[expose] public section

noncomputable section

namespace Cert.Mix.Soft

open Idealize.ShloMosaic

/-! ## A row of masked logits, taken a stretch of columns at a time -/

/-- The logit of column `j` for row `t`: the columns after the row are masked. -/
def msk (t : ℕ) (s : ℕ → ℝ) (j : ℕ) : EReal := if j ≤ t then (s j : EReal) else ⊥

/-- The largest of the first `n` logits. -/
def mx (t : ℕ) (s : ℕ → ℝ) (n : ℕ) : EReal := (Finset.range n).sup (msk t s)

/-- A column's weight against a row maximum. -/
def wt (t : ℕ) (s : ℕ → ℝ) (M : ℝ) (j : ℕ) : ℝ := if j ≤ t then Real.exp (s j - M) else 0

/-- The weighted sum over the first `n` columns. -/
def acc (t : ℕ) (s : ℕ → ℝ) (w : ℕ → EReal) (n : ℕ) : EReal := ∑ j ∈ Finset.range n, Ideal.exp (msk t s j - mx t s n) * w j

variable (t : ℕ) (s : ℕ → ℝ) (w : ℕ → EReal)

theorem exp_msk (M : ℝ) (j : ℕ) : Ideal.exp (msk t s j - (M : EReal)) = (wt t s M j : EReal) := by
  unfold msk wt
  split
  · rw [← EReal.coe_sub, Ideal.exp_coe]
  · rw [EReal.bot_sub, Ideal.exp_bot, EReal.coe_zero]

theorem mx_real {n : ℕ} (hn : 0 < n) : ∃ M : ℝ, mx t s n = M := by
  have hb : mx t s n ≠ ⊥ := by
    intro h
    have h0 : msk t s 0 ≤ mx t s n := Finset.le_sup (Finset.mem_range.2 hn)
    rw [h] at h0
    have h1 : msk t s 0 = (s 0 : EReal) := if_pos (Nat.zero_le t)
    rw [h1] at h0
    exact EReal.coe_ne_bot _ (le_bot_iff.1 h0)
  have ht : mx t s n ≠ ⊤ := by
    refine ne_of_lt ((Finset.sup_lt_iff bot_lt_top).2 fun j _ => ?_)
    unfold msk
    split
    · exact EReal.coe_lt_top _
    · exact bot_lt_top
  exact ⟨_, (EReal.coe_toReal ht hb).symm⟩

theorem mx_zero : mx t s 0 = ⊥ := rfl

theorem sup_shift (f : ℕ → EReal) (n b : ℕ) :
    (Finset.range (n + b)).sup f = max ((Finset.range n).sup f) ((Finset.range b).sup fun j => f (n + j)) := by
  induction b with
  | zero => simp
  | succ b ih =>
    rw [← Nat.add_assoc, Finset.range_add_one, Finset.sup_insert, ih, Finset.range_add_one, Finset.sup_insert]
    show max _ (max _ _) = max _ (max _ _)
    rw [max_left_comm]

theorem mx_add (n b : ℕ) : mx t s (n + b) = max (mx t s n) ((Finset.range b).sup fun j => msk t s (n + j)) :=
  sup_shift _ n b

theorem coe_sum (f : ℕ → ℝ) (n : ℕ) : ((∑ j ∈ Finset.range n, f j : ℝ) : EReal) = ∑ j ∈ Finset.range n, (f j : EReal) := by
  induction n with
  | zero => simp
  | succ n ih => rw [Finset.sum_range_succ, Finset.sum_range_succ, EReal.coe_add, ih]

theorem acc_wt {n : ℕ} {M : ℝ} (h : mx t s n = M) : acc t s w n = ∑ j ∈ Finset.range n, (wt t s M j : EReal) * w j := by
  rw [acc, h]
  exact Finset.sum_congr rfl fun j _ => by rw [exp_msk]

/-- A real factor that is not negative goes into a sum, whatever the terms. -/
theorem mul_range {a : ℝ} (ha : 0 ≤ a) (f : ℕ → EReal) (n : ℕ) : (a : EReal) * ∑ j ∈ Finset.range n, f j = ∑ j ∈ Finset.range n, (a : EReal) * f j := by
  induction n with
  | zero => simp
  | succ n ih =>
    rw [Finset.sum_range_succ, Finset.sum_range_succ,
      EReal.left_distrib_of_nonneg_of_ne_top (EReal.coe_nonneg.2 ha) (EReal.coe_ne_top a), ih]

theorem wt_change (M M' : ℝ) (j : ℕ) : Real.exp (M - M') * wt t s M j = wt t s M' j := by
  unfold wt
  split
  · rw [← Real.exp_add]
    congr 1
    ring
  · rw [mul_zero]

/-- One stretch: the sum so far is rescaled to the new maximum and the stretch is added. -/
theorem acc_step (n b : ℕ) (hb : 0 < b) :
    Ideal.exp (mx t s n - mx t s (n + b)) * acc t s w n
        + ∑ j ∈ Finset.range b, Ideal.exp (msk t s (n + j) - mx t s (n + b)) * w (n + j)
      = acc t s w (n + b) := by
  have e : acc t s w (n + b) = ∑ j ∈ Finset.range n, Ideal.exp (msk t s j - mx t s (n + b)) * w j
      + ∑ j ∈ Finset.range b, Ideal.exp (msk t s (n + j) - mx t s (n + b)) * w (n + j) := Finset.sum_range_add _ _ _
  rw [e]
  refine congrArg (fun x : EReal => x + _) ?_
  obtain ⟨M', hM'⟩ := mx_real t s (n := n + b) (by omega)
  rcases Nat.eq_zero_or_pos n with rfl | hn
  · simp [acc]
  · obtain ⟨M, hM⟩ := mx_real t s hn
    rw [acc_wt t s w hM, hM, hM', ← EReal.coe_sub, Ideal.exp_coe, mul_range (Real.exp_pos _).le]
    refine Finset.sum_congr rfl fun j _ => ?_
    rw [exp_msk, ← mul_assoc, ← EReal.coe_mul, wt_change]

/-- The columns after the row change nothing. -/
theorem mx_past {n N : ℕ} (ht : t < n) (hN : n ≤ N) : mx t s N = mx t s n := by
  obtain ⟨b, rfl⟩ := Nat.exists_eq_add_of_le hN
  rw [mx_add]
  refine max_eq_left (Finset.sup_le fun j _ => ?_)
  rw [msk, if_neg (by omega)]
  exact bot_le

theorem acc_past {n N : ℕ} (ht : t < n) (hN : n ≤ N) : acc t s w N = acc t s w n := by
  obtain ⟨b, rfl⟩ := Nat.exists_eq_add_of_le hN
  obtain ⟨M, hM⟩ := mx_real t s (n := n) (by omega)
  have hM' := (mx_past t s ht hN).trans hM
  rw [acc_wt t s w hM, acc_wt t s w hM', Finset.sum_range_add]
  refine (congrArg (fun x : EReal => _ + x) (Finset.sum_eq_zero fun j _ => ?_)).trans (add_zero _)
  rw [wt, if_neg (by omega), EReal.coe_zero, zero_mul]

theorem sum_pos {n : ℕ} (hn : 0 < n) (M : ℝ) : 0 < ∑ j ∈ Finset.range n, wt t s M j := by
  refine Finset.sum_pos' (fun j _ => ?_) ⟨0, Finset.mem_range.2 hn, ?_⟩
  · unfold wt
    split
    · exact (Real.exp_pos _).le
    · exact le_rfl
  · rw [wt, if_pos (Nat.zero_le t)]
    exact Real.exp_pos _

/-- The sum of the weights. -/
def den (n : ℕ) : EReal := ∑ j ∈ Finset.range n, Ideal.exp (msk t s j - mx t s n)

theorem den_eq (n : ℕ) : den t s n = acc t s (fun _ => 1) n :=
  Finset.sum_congr rfl fun j _ => by rw [mul_one]

theorem den_real {n : ℕ} {M : ℝ} (h : mx t s n = M) : den t s n = ((∑ j ∈ Finset.range n, wt t s M j : ℝ) : EReal) := by
  rw [den_eq, acc_wt t s _ h, coe_sum]
  simp only [mul_one]

/-- The weighted mean taken at the end is the sum of the normalised weights times the values. -/
theorem mean_eq {n : ℕ} (hn : 0 < n) :
    Ideal.div (acc t s w n) (acc t s (fun _ => 1) n)
      = ∑ j ∈ Finset.range n, Ideal.div (Ideal.exp (msk t s j - mx t s n)) (den t s n) * w j := by
  obtain ⟨M, hM⟩ := mx_real t s hn
  have hp := (sum_pos t s hn M).ne'
  have h0 : 0 ≤ 1 / ∑ j ∈ Finset.range n, wt t s M j := one_div_nonneg.2 (sum_pos t s hn M).le
  rw [← den_eq, den_real t s hM, acc_wt t s w hM, Ideal.div_coe hp, mul_comm, mul_range h0]
  refine Finset.sum_congr rfl fun j _ => ?_
  rw [hM, exp_msk, Ideal.div_coe hp, ← mul_assoc, mul_comm ((1 / _ : ℝ) : EReal)]

theorem mean_one {n : ℕ} (hn : 0 < n) : Ideal.div (acc t s (fun _ => 1) n) (acc t s (fun _ => 1) n) = 1 := by
  obtain ⟨M, hM⟩ := mx_real t s hn
  have hp := (sum_pos t s hn M).ne'
  rw [← den_eq, den_real t s hM, Ideal.div_coe hp, ← EReal.coe_mul, mul_one_div, div_self hp, EReal.coe_one]

theorem mean_zero {n : ℕ} (hn : 0 < n) : Ideal.div (acc t s (fun _ => 0) n) (acc t s (fun _ => 1) n) = 0 := by
  obtain ⟨M, hM⟩ := mx_real t s hn
  have hp := (sum_pos t s hn M).ne'
  have h0 : acc t s (fun _ => 0) n = 0 := Finset.sum_eq_zero fun j _ => by rw [mul_zero]
  rw [h0, ← den_eq, den_real t s hM, Ideal.div_coe hp, zero_mul]

end Cert.Mix.Soft

end
-- ==== Proof.Mix.FoxTrip.lean ====
module

public import proofs.«01_k».proof.Proof.Mix.Idx
public import proofs.«01_k».proof.Proof.Mix.Soft
public import proofs.«01_k».proof.Proof.Gen.Kernel12Ideal.Value
public import Idealize.ShloMosaic.Lib.Pipeline.ValueKit.Acc

@[expose] public section

noncomputable section

namespace Cert.Mix.Fox

open Idealize.ShloMosaic Idealize.ShloMosaic.TcCoe Idealize.SL.Sem
open Cert.Kernel12Ideal Cert.Kernel12Ideal.Gen Cert.Mix.Soft

/-! ## The terms of one stretch of columns -/

theorem mask_bot : Named.named (F := Ideal) κ "mask" (φ := .f32) 0xF149F2CA#32 = (⊥ : EReal) :=
  IdealRules.named_const.ideal_named_scalar _ _ _ _ rfl

theorem neg_top_bits : Ideal.ofBits .f32 0xFF800000#32 = ⊥ := by
  simp [Ideal.ofBits, Ideal.ieee]

theorem p3_at (p : Fin 1024) : k0_pay3 (F := Ideal) (ix2 p 0) = (⊥ : EReal) := by
  pointwise [k0_pay3]
  exact mask_bot

theorem p4_at (p : Fin 1024) (q : Fin 128) : k0_pay4 (F := Ideal) (ix2 p q) = (0 : EReal) := by
  pointwise [k0_pay4]

theorem p5_at (x y : Vec Ideal S1x1024x128 .bf16) (p j : Fin 1024) :
    k0_pay5 x y (ix2 p j) = ∑ l : Fin 128, x (ix3 0 p l) * y (ix3 0 j l) := by
  pointwise [k0_pay5, k0_pay2]

theorem fold_max (f : ℕ → EReal) (n : ℕ) : Finset.fold max ⊥ (fun x : Fin n => f x.val) Finset.univ = (Finset.range n).sup f := by
  have e : Finset.fold max ⊥ (fun x : Fin n => f x.val) Finset.univ = Finset.univ.sup fun x : Fin n => f x.val := rfl
  rw [e]
  refine le_antisymm (Finset.sup_le fun x _ => Finset.le_sup (f := f) (Finset.mem_range.2 x.isLt)) (Finset.sup_le fun j hj => ?_)
  exact Finset.le_sup (f := fun x : Fin n => f x.val) (Finset.mem_univ (⟨j, Finset.mem_range.1 hj⟩ : Fin n))

theorem p6_at (x y : Vec Ideal S1x1024x128 .bf16) (a : FVec Ideal S1024x1 .f32) (p : Fin 1024) (f : ℕ → EReal)
    (hf : ∀ j : Fin 1024, k0_pay5 x y (ix2 p j) = f j.val) :
    k0_pay6 x a y (ix2 p 0) = max (a (ix2 p 0)) ((Finset.range 1024).sup f) := by
  unfold k0_pay6
  generalize k0_pay5 x y = s at hf
  pointwise
  rw [neg_top_bits, ← fold_max]
  simp only [hf]

theorem p7_at (x y v : Vec Ideal S1x1024x128 .bf16) (a : FVec Ideal S1024x1 .f32) (b : FVec Ideal S1024x128 .f32) (p : Fin 1024) (q : Fin 128) :
    k0_pay7 x a b y v (ix2 p q) = Ideal.exp (a (ix2 p 0) - k0_pay6 x a y (ix2 p 0)) * b (ix2 p q)
      + ∑ j : Fin 1024, Ideal.exp (k0_pay5 x y (ix2 p j) - k0_pay6 x a y (ix2 p 0)) * v (ix3 0 j q) := by
  unfold k0_pay7
  generalize k0_pay6 x a y = M
  generalize k0_pay5 x y = s
  pointwise

theorem sel_sge (p j : Fin 1024) (a b : EReal) :
    Scalar.select (IntOp.cmpi CmpIPredicate.sge (BitVec.ofNat 32 p.val) (BitVec.ofNat 32 j.val)) a b = if j.val ≤ p.val then a else b := by
  have hp := p.isLt
  have hx := j.isLt
  have e : (BitVec.ofNat 32 j.val).sle (BitVec.ofNat 32 p.val) = decide (j.val ≤ p.val) := by
    rw [BitVec.sle_eq_decide, BitVec.toInt_eq_toNat_of_lt (by simp; omega), BitVec.toInt_eq_toNat_of_lt (by simp; omega)]
    simp
    omega
  show Scalar.select (BitVec.ofBool ((BitVec.ofNat 32 j.val).sle (BitVec.ofNat 32 p.val))) a b = _
  rw [e]
  by_cases h : j.val ≤ p.val <;> simp [h, Scalar.select]

theorem p11_at (x y : Vec Ideal S1x1024x128 .bf16) (p j : Fin 1024) :
    k0_pay11 x y (ix2 p j) = if j.val ≤ p.val then ∑ l : Fin 128, x (ix3 0 p l) * y (ix3 0 j l) else (⊥ : EReal) := by
  pointwise [k0_pay11, k0_pay2]
  rw [mask_bot]
  exact sel_sge p j _ _

theorem p12_at (x y : Vec Ideal S1x1024x128 .bf16) (a : FVec Ideal S1024x1 .f32) (p : Fin 1024) (f : ℕ → EReal)
    (hf : ∀ j : Fin 1024, k0_pay11 x y (ix2 p j) = f j.val) :
    k0_pay12 x a y (ix2 p 0) = max (a (ix2 p 0)) ((Finset.range 1024).sup f) := by
  unfold k0_pay12
  generalize k0_pay11 x y = s at hf
  pointwise
  rw [neg_top_bits, ← fold_max]
  simp only [hf]

theorem p13_at (x y v : Vec Ideal S1x1024x128 .bf16) (a : FVec Ideal S1024x1 .f32) (b : FVec Ideal S1024x128 .f32) (p : Fin 1024) (q : Fin 128) :
    k0_pay13 x a b y v (ix2 p q) = Ideal.exp (a (ix2 p 0) - k0_pay12 x a y (ix2 p 0)) * b (ix2 p q)
      + ∑ j : Fin 1024, Ideal.exp (k0_pay11 x y (ix2 p j) - k0_pay12 x a y (ix2 p 0)) * v (ix3 0 j q) := by
  unfold k0_pay13
  generalize k0_pay12 x a y = M
  generalize k0_pay11 x y = s
  pointwise

/-- The lane that carries the sum of the weights. -/
abbrev one : Fin 128 := ⟨64, by omega⟩

theorem sel_one (x : Fin 128) (a b : EReal) :
    Scalar.select (IntOp.cmpi CmpIPredicate.eq (BitVec.ofNat 32 x.val) 64#32) a b = if x = one then a else b := by
  have h : ∀ x : Fin 128, IntOp.cmpi CmpIPredicate.eq (BitVec.ofNat 32 x.val) 64#32 = BitVec.ofBool (decide (x = one)) := by decide +kernel
  rw [h]
  by_cases e : x = one <;> simp [e, Scalar.select]

theorem p15_at (b : FVec Ideal S1024x128 .f32) (p : Fin 1024) (q : Fin 128) :
    k0_pay15 b (iota .tc S1024x128 32 [1] iota_S1024x128_d1_w32) 64#32 (ix3 0 p q) = Ideal.div (b (ix2 p q)) (b (ix2 p one)) := by
  pointwise [k0_pay15, k0_pay14]
  refine congrArg (Ideal.div _) ?_
  rw [Finset.sum_congr rfl fun x _ => sel_one x _ _, Finset.sum_ite_eq' Finset.univ one]
  exact if_pos (Finset.mem_univ _)

end Cert.Mix.Fox

end
-- ==== Proof.Mix.FoxLoop.lean ====
module

public import proofs.«01_k».proof.Proof.Mix.FoxTrip

@[expose] public section

noncomputable section

namespace Cert.Mix.Fox

open Idealize.ShloMosaic Idealize.ShloMosaic.TcCoe Idealize.SL.Sem
open Cert.Kernel12Ideal Cert.Kernel12Ideal.Gen Cert.Mix.Soft

theorem tr1 : ∀ t : Fin grid0.N, (k0_t1_loop (grid0.coords t)).trips = t.val % 4 := by decide +kernel
theorem tr2 : ∀ t : Fin grid0.N, (k0_t2_loop (grid0.coords t)).trips = 0 := by decide +kernel
theorem of1 : ∀ t : Fin grid0.N, ∀ k : Fin (k0_t1_loop (grid0.coords t)).trips, k0_off1 (grid0.coords t) k = ![0, 1024 * k.val, 0] := by decide +kernel
theorem of3 : ∀ t : Fin grid0.N, k0_off3 (grid0.coords t) = ![0, 1024 * (t.val % 4), 0] := by decide +kernel

section Trip

variable (𝒱 : Variants) (c : Dev nD) (bd : Option 𝒱.V) (t : Fin grid0.N) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x1024x128 .bf16) (harg5 : arg5.IsWhole) (arg6 : Memref sig .tc .vmem S1x1024x128 .bf16) (harg6 : arg6.IsWhole)

abbrev rows (k : Fin (k0_t1_loop (grid0.coords t)).trips) : Rect S1x4096x128 :=
  Rect.unit (s := S1x4096x128) (k0_off1 (grid0.coords t) k) S1x1024x128.size (k0_off1_inb (grid0.coords t) k)

abbrev got (arg : Memref sig .tc .vmem S1x4096x128 .bf16) (X : BufTy.Contents (Elt Ideal) arg.view.ty) (k : Fin (k0_t1_loop (grid0.coords t)).trips) : Vec Ideal S1x1024x128 .bf16 :=
  arg.view.readAt (Elt Ideal) (rows t k).toLoadRect X

theorem trip_R (v0 : Vec Ideal S1x1024x128 .bf16) (X3 : BufTy.Contents (Elt Ideal) arg3.view.ty) (X4 : BufTy.Contents (Elt Ideal) arg4.view.ty) (k : Fin (k0_t1_loop (grid0.coords t)).trips)
    (a : FVec Ideal S1024x1 .f32 × FVec Ideal S1024x128 .f32) :
    tripR_k0_t1 (F := Ideal) 𝒱 c bd (grid0.coords t) arg2 harg2 arg3 harg3 arg4 harg4 arg5 harg5 arg6 harg6 v0 X3 X4 k a
      = (k0_pay6 v0 a.1 (got t arg3 X3 k), k0_pay7 v0 a.1 a.2 (got t arg3 X3 k) (got t arg4 X4 k)) := by
  unfold tripR_k0_t1 trip_k0_t1
  rfl

theorem got_at (arg : Memref sig .tc .vmem S1x4096x128 .bf16) (harg : arg.IsWhole) (x : Vec Ideal S1x4096x128 .bf16) (k : Fin (k0_t1_loop (grid0.coords t)).trips)
    (p : Fin 1024) (q : Fin 128) (h : 1024 * k.val + p.val < 4096) :
    got t arg (harg.unread x) k (ix3 0 p q) = x (ix3 0 ⟨1024 * k.val + p.val, h⟩ q) := by
  rw [got, View.readAt_eq_ld, harg.read_unread]
  exact congrArg x (idx3 _ _ _ _ (by simp [of1]) (by simp [of1]) (by simp [of1]))

abbrev last : Rect S1x4096x128 :=
  Rect.unit (s := S1x4096x128) (k0_off3 (grid0.coords t)) S1x1024x128.size (k0_off3_inb (grid0.coords t))

theorem last_at (arg : Memref sig .tc .vmem S1x4096x128 .bf16) (harg : arg.IsWhole) (x : Vec Ideal S1x4096x128 .bf16)
    (p : Fin 1024) (q : Fin 128) (h : 1024 * (t.val % 4) + p.val < 4096) :
    arg.view.readAt (Elt Ideal) (last t).toLoadRect (harg.unread x) (ix3 0 p q) = x (ix3 0 ⟨1024 * (t.val % 4) + p.val, h⟩ q) := by
  rw [View.readAt_eq_ld, harg.read_unread]
  exact congrArg x (idx3 _ _ _ _ (by simp [of3]) (by simp [of3]) (by simp [of3]))

end Trip

section State

variable (c : Dev nD) (t : Fin grid0.N) (arg2 : Memref sig .tc .vmem S1x1024x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x1024x128 .bf16) (harg5 : arg5.IsWhole) (arg6 : Memref sig .tc .vmem S1x1024x128 .bf16) (harg6 : arg6.IsWhole)
variable (x0 : Vec Ideal S1x1024x128 .bf16) (x1 x2 : Vec Ideal S1x4096x128 .bf16)

abbrev st (k : ℕ) : FVec Ideal S1024x1 .f32 × FVec Ideal S1024x128 .f32 :=
  st_k0_t1 (F := Ideal) Variants.none c none (grid0.coords t) arg2 harg2 arg3 harg3 arg4 harg4 arg5 harg5 arg6 harg6 x0 (harg3.unread x1) (harg4.unread x2) (k0_pay3, k0_pay4) k

theorem mx_block (T : ℕ) (s : ℕ → ℝ) (k : ℕ) :
    max (mx T s (1024 * k)) ((Finset.range 1024).sup fun j => msk T s (1024 * k + j)) = mx T s (1024 * (k + 1)) :=
  (mx_add T s (1024 * k) 1024).symm

theorem acc_block (T : ℕ) (s : ℕ → ℝ) (w : ℕ → EReal) (k : ℕ) (f g : Fin 1024 → EReal)
    (hf : ∀ j : Fin 1024, f j = msk T s (1024 * k + j.val)) (hg : ∀ j : Fin 1024, g j = w (1024 * k + j.val)) :
    Ideal.exp (mx T s (1024 * k) - mx T s (1024 * (k + 1))) * acc T s w (1024 * k)
        + ∑ j : Fin 1024, Ideal.exp (f j - mx T s (1024 * (k + 1))) * g j = acc T s w (1024 * (k + 1)) := by
  refine Eq.trans ?_ (acc_step T s w (1024 * k) 1024 (by omega))
  refine congrArg (fun z : EReal => Ideal.exp (mx T s (1024 * k) - mx T s (1024 * (k + 1))) * acc T s w (1024 * k) + z) ?_
  rw [Finset.sum_range]
  exact Finset.sum_congr rfl fun j _ => by rw [hf, hg]; rfl

variable (p : Fin 1024) (s : ℕ → ℝ) (w : ℕ → EReal) (q : Fin 128)
  (hs : ∀ j : Fin 4096, ∑ l : Fin 128, x0 (ix3 0 p l) * x1 (ix3 0 j l) = (s j.val : EReal))
  (hw : ∀ j : Fin 4096, x2 (ix3 0 j q) = w j.val)

abbrev row : ℕ := 1024 * (t.val % 4) + p.val

include hs hw

theorem st_at : ∀ k : ℕ, k ≤ t.val % 4 →
    (st c t arg2 harg2 arg3 harg3 arg4 harg4 arg5 harg5 arg6 harg6 x0 x1 x2 k).1 (ix2 p 0) = mx (row t p) s (1024 * k)
    ∧ (st c t arg2 harg2 arg3 harg3 arg4 harg4 arg5 harg5 arg6 harg6 x0 x1 x2 k).2 (ix2 p q) = acc (row t p) s w (1024 * k) := by
  intro k
  induction k with
  | zero => exact fun _ => ⟨p3_at p, p4_at p q⟩
  | succ k ih =>
    intro hk
    obtain ⟨ih1, ih2⟩ := ih (by omega)
    have hk4 : k < (k0_t1_loop (grid0.coords t)).trips := by rw [tr1]; omega
    have e := st_k0_t1_succ (F := Ideal) Variants.none c none (grid0.coords t) arg2 harg2 arg3 harg3 arg4 harg4 arg5 harg5 arg6 harg6 x0 (harg3.unread x1) (harg4.unread x2)
      (k0_pay3, k0_pay4) ⟨k, hk4⟩
    rw [trip_R] at e
    change st c t arg2 harg2 arg3 harg3 arg4 harg4 arg5 harg5 arg6 harg6 x0 x1 x2 (k + 1)
      = (k0_pay6 x0 (st c t arg2 harg2 arg3 harg3 arg4 harg4 arg5 harg5 arg6 harg6 x0 x1 x2 k).1 (got t arg3 (harg3.unread x1) ⟨k, hk4⟩),
        k0_pay7 x0 (st c t arg2 harg2 arg3 harg3 arg4 harg4 arg5 harg5 arg6 harg6 x0 x1 x2 k).1 (st c t arg2 harg2 arg3 harg3 arg4 harg4 arg5 harg5 arg6 harg6 x0 x1 x2 k).2 (got t arg3 (harg3.unread x1) ⟨k, hk4⟩) (got t arg4 (harg4.unread x2) ⟨k, hk4⟩)) at e
    rw [e]
    generalize st c t arg2 harg2 arg3 harg3 arg4 harg4 arg5 harg5 arg6 harg6 x0 x1 x2 k = z at ih1 ih2
    have hm : t.val % 4 < 4 := Nat.mod_lt _ (by omega)
    have h5 : ∀ j : Fin 1024, k0_pay5 x0 (got t arg3 (harg3.unread x1) ⟨k, hk4⟩) (ix2 p j) = msk (row t p) s (1024 * k + j.val) := by
      intro j
      have hj := j.isLt
      rw [p5_at, msk, if_pos (by unfold row; omega), ← hs ⟨1024 * k + j.val, by omega⟩]
      exact Finset.sum_congr rfl fun l _ => by rw [got_at t arg3 harg3 x1 ⟨k, hk4⟩ j l (by show 1024 * k + j.val < 4096; omega)]
    have h6 : k0_pay6 x0 z.1 (got t arg3 (harg3.unread x1) ⟨k, hk4⟩) (ix2 p 0) = mx (row t p) s (1024 * (k + 1)) := by
      rw [p6_at _ _ _ p (fun j => msk (row t p) s (1024 * k + j)) h5, ih1]
      exact mx_block _ s k
    refine ⟨h6, ?_⟩
    refine (p7_at _ _ _ _ _ p q).trans ?_
    rw [h6, ih1, ih2]
    refine acc_block (row t p) s w k _ _ h5 fun j => ?_
    have hj := j.isLt
    rw [got_at t arg4 harg4 x2 ⟨k, hk4⟩ j q (by show 1024 * k + j.val < 4096; omega)]
    exact hw _

theorem fin_at :
    k0_pay13 x0 (st c t arg2 harg2 arg3 harg3 arg4 harg4 arg5 harg5 arg6 harg6 x0 x1 x2 (t.val % 4)).1
        (st c t arg2 harg2 arg3 harg3 arg4 harg4 arg5 harg5 arg6 harg6 x0 x1 x2 (t.val % 4)).2
        (arg3.view.readAt (Elt Ideal) (last t).toLoadRect (harg3.unread x1)) (arg4.view.readAt (Elt Ideal) (last t).toLoadRect (harg4.unread x2)) (ix2 p q)
      = acc (row t p) s w 4096 := by
  obtain ⟨ih1, ih2⟩ := st_at c t arg2 harg2 arg3 harg3 arg4 harg4 arg5 harg5 arg6 harg6 x0 x1 x2 p s w q hs hw (t.val % 4) le_rfl
  generalize st c t arg2 harg2 arg3 harg3 arg4 harg4 arg5 harg5 arg6 harg6 x0 x1 x2 (t.val % 4) = z at ih1 ih2
  have hm : t.val % 4 < 4 := Nat.mod_lt _ (by omega)
  have hp := p.isLt
  have h11 : ∀ j : Fin 1024, k0_pay11 x0 (arg3.view.readAt (Elt Ideal) (last t).toLoadRect (harg3.unread x1)) (ix2 p j) = msk (row t p) s (1024 * (t.val % 4) + j.val) := by
    intro j
    have hj := j.isLt
    rw [p11_at, msk]
    by_cases h : j.val ≤ p.val
    · rw [if_pos h, if_pos (by unfold row; omega), ← hs ⟨1024 * (t.val % 4) + j.val, by omega⟩]
      exact Finset.sum_congr rfl fun l _ => by rw [last_at t arg3 harg3 x1 j l (by omega)]
    · rw [if_neg h, if_neg (by unfold row; omega)]
  have h12 : k0_pay12 x0 z.1 (arg3.view.readAt (Elt Ideal) (last t).toLoadRect (harg3.unread x1)) (ix2 p 0) = mx (row t p) s (1024 * (t.val % 4 + 1)) := by
    rw [p12_at _ _ _ p (fun j => msk (row t p) s (1024 * (t.val % 4) + j)) h11, ih1]
    exact mx_block _ s _
  refine (p13_at _ _ _ _ _ p q).trans ?_
  rw [h12, ih1, ih2, acc_past (row t p) s w (n := 1024 * (t.val % 4 + 1)) (N := 4096) (by unfold row; omega) (by omega)]
  refine acc_block (row t p) s w _ _ _ h11 fun j => ?_
  have hj := j.isLt
  rw [last_at t arg4 harg4 x2 j q (by omega)]
  exact hw _

omit hs hw in
theorem whole_2 : arg2.view.readAt (Elt Ideal) (Rect.unit (s := S1x1024x128) ![0, 0, 0] S1x1024x128.size inb_S1x1024x128_S1x1024x128_0_0_0).toLoadRect (harg2.unread x0) = x0 := by
  rw [View.readAt_eq_ld, harg2.read_unread]
  funext y
  obtain ⟨a, b, d, rfl⟩ : ∃ a b d, y = ix3 a b d := ⟨_, _, _, eq_ix3 y⟩
  exact congrArg x0 (idx3 _ _ _ _ (by simp) (by simp) (by simp))

omit hs hw in
theorem lit1 : Scf.trips (k0_t1_loop (grid0.coords t)).lb (k0_t1_loop (grid0.coords t)).ub (k0_t1_loop (grid0.coords t)).st = t.val % 4 := tr1 t

omit hs hw in
theorem lit2 : Scf.trips (k0_t2_loop (grid0.coords t)).lb (k0_t2_loop (grid0.coords t)).ub (k0_t2_loop (grid0.coords t)).st = 0 := tr2 t

omit hs hw in
theorem run_2 : kernelRun0_A.sl.r_2 c (grid0.coords t) arg2 harg2 arg3 harg3 arg4 harg4 arg5 harg5 arg6 harg6 x0 x1 x2
    = k0_pay13 x0 (st c t arg2 harg2 arg3 harg3 arg4 harg4 arg5 harg5 arg6 harg6 x0 x1 x2 (t.val % 4)).1
        (st c t arg2 harg2 arg3 harg3 arg4 harg4 arg5 harg5 arg6 harg6 x0 x1 x2 (t.val % 4)).2
        (arg3.view.readAt (Elt Ideal) (last t).toLoadRect (harg3.unread x1)) (arg4.view.readAt (Elt Ideal) (last t).toLoadRect (harg4.unread x2)) := by
  unfold kernelRun0_A.sl.r_2
  rw [whole_2, lit1, lit2, st_k0_t2_zero]

omit hw in
theorem out_3 (h1 : ∀ j : Fin 4096, x2 (ix3 0 j one) = 1) (hw : ∀ j : Fin 4096, x2 (ix3 0 j q) = w j.val) :
    out0_A_3 c (grid0.coords t) arg2 harg2 arg3 harg3 arg4 harg4 arg5 harg5 arg6 harg6 x0 x1 x2 (ix3 0 p q)
      = Ideal.div (acc (row t p) s w 4096) (acc (row t p) s (fun _ => 1) 4096) := by
  rw [← fin_at c t arg2 harg2 arg3 harg3 arg4 harg4 arg5 harg5 arg6 harg6 x0 x1 x2 p s w q hs hw,
    ← fin_at c t arg2 harg2 arg3 harg3 arg4 harg4 arg5 harg5 arg6 harg6 x0 x1 x2 p s (fun _ => 1) one hs h1, ← p15_at, ← run_2]
  unfold out0_A_3 kernelRun0_A
  dsimp only
  rw [View.read_writes_junk_eq_canon]
  have e : (ix3 0 p q : S1x1024x128.Idx) = (Rect.unit (s := S1x1024x128) ![0, 0, 0] ![1, 1024, 128] inb_S1x1024x128_S1x1024x128_0_0_0).emb (ix3 (0 : Fin 1) p q) :=
    (idx3 _ (0 : Fin 1) p q (by simp) (by simp) (by simp)).symm
  refine (congrArg (View.canon (Val := Elt Ideal) _) e).trans ?_
  rw [View.canon_cons_emb]
  generalize kernelRun0_A.sl.r_2 c (grid0.coords t) arg2 harg2 arg3 harg3 arg4 harg4 arg5 harg5 arg6 harg6 x0 x1 x2 = z
  rfl

end State

end Cert.Mix.Fox

end
-- ==== Proof.Mix.FoxIn.lean ====
module

public import proofs.«01_k».proof.Proof.Mix.FoxLoop
public import proofs.«01_k».proof.Proof.Mix.Scan
public import Idealize.ShloMosaic.Lib.KernelVsHost

@[expose] public section

noncomputable section

namespace Cert.Mix.Fox

open Idealize.ShloMosaic Idealize.ShloMosaic.TcCoe Idealize.SL.Sem
open Cert.Kernel12Ideal Cert.Kernel12Ideal.Gen Cert.Mix.Soft

/-! ## The arguments of the call -/

variable (m : (ℓ : Loc nD τ sig) → Buf (Elt Ideal) ℓ) (c : Dev nD)

abbrev aQ : Vec Ideal S8x4096x64 .f32 := m ((c : Thread nD τ).loc main_arg0)
abbrev aK : Vec Ideal S8x4096x64 .f32 := m ((c : Thread nD τ).loc main_arg1)
abbrev aV : Vec Ideal S8x4096x64 .f32 := m ((c : Thread nD τ).loc main_arg2)
abbrev aF : Vec Ideal S8x4096 .f32 := m ((c : Thread nD τ).loc main_arg3)

abbrev XQ : Vec Ideal S8x4096x128 .bf16 := V m c main_v17
abbrev XK : Vec Ideal S8x4096x128 .bf16 := V m c main_v32
abbrev XV : Vec Ideal S8x4096x128 .bf16 := V m c main_v38

theorem trunc_at (x : FVec Ideal S8x4096x128 .f32) (i : S8x4096x128.Idx) : (truncf .bf16 x bitsLt_bf16_f32 : FVec Ideal S8x4096x128 .bf16) i = x i := rfl

theorem cat_v (a : Vec Ideal S8x4096x64 .f32) (b0 b1 b2 : Vec Ideal S8x4096x1 .f32) (h : Fin 8) (r : Fin 4096) (q : Fin 67) :
    concatenate S8x4096x67 2 [⟨S8x4096x64, a⟩, ⟨S8x4096x1, b0⟩, ⟨S8x4096x1, b1⟩, ⟨S8x4096x1, b2⟩] concatenates_S8x4096x64_S8x4096x1_S8x4096x1_S8x4096x1_S8x4096x67_d2 (ix3 h r q)
      = if hq : q.val < 64 then a (ix3 h r ⟨q.val, hq⟩) else if q.val - 64 < 1 then b0 (ix3 h r 0) else if q.val - 64 - 1 < 1 then b1 (ix3 h r 0) else b2 (ix3 h r 0) := by
  have z : ∀ (n : Nat) (hn : n < 1), (⟨n, hn⟩ : Fin 1) = 0 := fun _ _ => Subsingleton.elim _ _
  pointwise
  simp only [z]
  rfl

theorem cat_q (a : Vec Ideal S8x4096x64 .f32) (b0 b1 b2 b3 b4 b5 : Vec Ideal S8x4096x1 .f32) (h : Fin 8) (r : Fin 4096) (q : Fin 70) :
    concatenate S8x4096x70 2 [⟨S8x4096x64, a⟩, ⟨S8x4096x1, b0⟩, ⟨S8x4096x1, b1⟩, ⟨S8x4096x1, b2⟩, ⟨S8x4096x1, b3⟩, ⟨S8x4096x1, b4⟩, ⟨S8x4096x1, b5⟩] concatenates_S8x4096x64_S8x4096x1_S8x4096x1_S8x4096x1_S8x4096x1_S8x4096x1_S8x4096x1_S8x4096x70_d2 (ix3 h r q)
      = if hq : q.val < 64 then a (ix3 h r ⟨q.val, hq⟩) else if q.val - 64 < 1 then b0 (ix3 h r 0) else if q.val - 64 - 1 < 1 then b1 (ix3 h r 0) else if q.val - 64 - 1 - 1 < 1 then b2 (ix3 h r 0) else if q.val - 64 - 1 - 1 - 1 < 1 then b3 (ix3 h r 0) else if q.val - 64 - 1 - 1 - 1 - 1 < 1 then b4 (ix3 h r 0) else b5 (ix3 h r 0) := by
  have z : ∀ (n : Nat) (hn : n < 1), (⟨n, hn⟩ : Fin 1) = 0 := fun _ _ => Subsingleton.elim _ _
  pointwise
  simp only [z]
  rfl

theorem cat_k (a : Vec Ideal S8x4096x64 .f32) (b0 b1 b2 b3 b4 b5 b6 b7 b8 : Vec Ideal S8x4096x1 .f32) (h : Fin 8) (r : Fin 4096) (q : Fin 73) :
    concatenate S8x4096x73 2 [⟨S8x4096x64, a⟩, ⟨S8x4096x1, b0⟩, ⟨S8x4096x1, b1⟩, ⟨S8x4096x1, b2⟩, ⟨S8x4096x1, b3⟩, ⟨S8x4096x1, b4⟩, ⟨S8x4096x1, b5⟩, ⟨S8x4096x1, b6⟩, ⟨S8x4096x1, b7⟩, ⟨S8x4096x1, b8⟩] concatenates_S8x4096x64_S8x4096x1_S8x4096x1_S8x4096x1_S8x4096x1_S8x4096x1_S8x4096x1_S8x4096x1_S8x4096x1_S8x4096x1_S8x4096x73_d2 (ix3 h r q)
      = if hq : q.val < 64 then a (ix3 h r ⟨q.val, hq⟩) else if q.val - 64 < 1 then b0 (ix3 h r 0) else if q.val - 64 - 1 < 1 then b1 (ix3 h r 0) else if q.val - 64 - 1 - 1 < 1 then b2 (ix3 h r 0) else if q.val - 64 - 1 - 1 - 1 < 1 then b3 (ix3 h r 0) else if q.val - 64 - 1 - 1 - 1 - 1 < 1 then b4 (ix3 h r 0) else if q.val - 64 - 1 - 1 - 1 - 1 - 1 < 1 then b5 (ix3 h r 0) else if q.val - 64 - 1 - 1 - 1 - 1 - 1 - 1 < 1 then b6 (ix3 h r 0) else if q.val - 64 - 1 - 1 - 1 - 1 - 1 - 1 - 1 < 1 then b7 (ix3 h r 0) else b8 (ix3 h r 0) := by
  have z : ∀ (n : Nat) (hn : n < 1), (⟨n, hn⟩ : Fin 1) = 0 := fun _ _ => Subsingleton.elim _ _
  pointwise
  simp only [z]
  rfl

theorem eighth_bits : Ideal.ofBits .f32 0x3E000000#32 = ((8⁻¹ : ℝ) : EReal) := by
  simp [Ideal.ofBits, Ideal.ieee]
  rw [← EReal.coe_mul, EReal.coe_eq_coe_iff]
  norm_num

/-- The lanes of a query row: the scaled query, its gate sum in three parts, three ones. -/
def lq (u : Fin 64 → ℝ) (f : ℝ) (x : Fin 128) : ℝ :=
  if hx : x.val < 64 then u ⟨x.val, hx⟩ * 8⁻¹ else if x.val - 64 < 1 then f else if x.val < 67 then 0 else if x.val < 70 then 1 else 0

/-- The lanes of a key row: the key, three ones, its gate sum negated in three parts. -/
def lk (u : Fin 64 → ℝ) (f : ℝ) (x : Fin 128) : ℝ :=
  if hx : x.val < 64 then u ⟨x.val, hx⟩ else if x.val < 67 then 1 else if x.val - 67 < 1 then -f else if x.val < 70 then 0 else if x.val < 73 then 1 else 0

theorem lane_sum (u v : Fin 64 → ℝ) (f g : ℝ) : ∑ x : Fin 128, lq u f x * lk v g x = (∑ l : Fin 64, u l * v l) * 8⁻¹ + f - g := by
  refine (Fin.sum_univ_add (a := 64) (b := 64) fun x => lq u f x * lk v g x).trans ?_
  have e : ∀ i : Fin 64, lq u f (Fin.natAdd 64 i) * lk v g (Fin.natAdd 64 i) = (if i = 0 then f else 0) + (if i = 3 then -g else 0) := by
    intro i
    fin_cases i <;> simp [lq, lk]
  have d : ∀ i : Fin 64, lq u f (Fin.castAdd 64 i) * lk v g (Fin.castAdd 64 i) = u i * v i * 8⁻¹ := by
    intro i
    have hi : (Fin.castAdd 64 i).val < 64 := i.isLt
    rw [lq, lk, dif_pos hi, dif_pos hi]
    show u i * 8⁻¹ * v i = _
    ring
  simp only [e, d, Finset.sum_add_distrib, Finset.sum_ite_eq', Finset.mem_univ, if_true, ← Finset.sum_mul]
  ring

theorem xv_in (h : Fin 8) (r : Fin 4096) (x : Fin 128) (hx : x.val < 67) : XV m c (ix3 h r x) = if hx : x.val < 64 then aV m c (ix3 h r ⟨x.val, hx⟩) else 1 := by
  simp only [XV, V, hostOps0, hostOps0_1, hostOps0_2, hostOps0_3, hostOps0_4, hostOps0_5, hostOps0_6, List.flatten_cons, List.flatten_nil, List.append_nil, List.cons_append, List.nil_append,
    StableHlo.TRef.binary, StableHlo.TRef.unary, StableHlo.TRef.toBuf, StableHlo.TRef.ofBuf, cast_eq]
  after_results_simp
  refine (trunc_at _ _).trans ?_
  refine (pad_apply_of_inside _ _ _ _ _ _ _ _ (ix3 h r ⟨x.val, hx⟩) fun a => ?_).trans ?_
  · match a with
    | ⟨0, _⟩ => simp
    | ⟨1, _⟩ => simp
    | ⟨2, _⟩ => simp
  refine (cat_v _ _ _ _ h r _).trans ?_
  dsimp only [Matrix.cons_val]
  after_results_simp
  pointwise
  split_ifs <;> rfl

theorem xv_out (h : Fin 8) (r : Fin 4096) (x : Fin 128) (hx : 67 ≤ x.val) : XV m c (ix3 h r x) = 0 := by
  simp only [XV, V, hostOps0, hostOps0_1, hostOps0_2, hostOps0_3, hostOps0_4, hostOps0_5, hostOps0_6, List.flatten_cons, List.flatten_nil, List.append_nil, List.cons_append, List.nil_append,
    StableHlo.TRef.binary, StableHlo.TRef.unary, StableHlo.TRef.toBuf, StableHlo.TRef.ofBuf, cast_eq]
  after_results_simp
  refine (trunc_at _ _).trans ?_
  refine (pad_apply_of_not_inside _ _ _ _ _ _ _ _ 2 fun hh => ?_).trans ?_
  · have h2 : (x.val - 0) / (0 + 1) < 67 := hh.2.2
    simp at h2
    omega
  show (((((0#32 : BitVec 32).toInt : ℤ) : ℝ)) : EReal) = 0
  simp

theorem xq_in (h : Fin 8) (r : Fin 4096) (u : Fin 64 → ℝ) (f : ℝ) (hu : ∀ l, aQ m c (ix3 h r l) = (u l : EReal)) (hf : aF m c (ix2 h r) = (f : EReal))
    (x : Fin 128) (hx : x.val < 70) : XQ m c (ix3 h r x) = ((lq u f x : ℝ) : EReal) := by
  simp only [XQ, V, hostOps0, hostOps0_1, hostOps0_2, hostOps0_3, hostOps0_4, hostOps0_5, hostOps0_6, List.flatten_cons, List.flatten_nil, List.append_nil, List.cons_append, List.nil_append,
    StableHlo.TRef.binary, StableHlo.TRef.unary, StableHlo.TRef.toBuf, StableHlo.TRef.ofBuf, cast_eq]
  after_results_simp
  refine (trunc_at _ _).trans ?_
  refine (pad_apply_of_inside _ _ _ _ _ _ _ _ (ix3 h r ⟨x.val, hx⟩) fun a => ?_).trans ?_
  · match a with
    | ⟨0, _⟩ => simp
    | ⟨1, _⟩ => simp
    | ⟨2, _⟩ => simp
  refine (cat_q _ _ _ _ _ _ _ h r _).trans ?_
  dsimp only [Matrix.cons_val]
  after_results_simp
  pointwise
  have hu' : ∀ l, m (c, Proc.tc.devRef main_arg0) (ix3 h r l) = (u l : EReal) := hu
  have hf' : m (c, Proc.tc.devRef main_arg3) (ix2 h r) = (f : EReal) := hf
  simp only [hu', hf', eighth_bits, ← EReal.coe_sub, ← EReal.coe_mul, ← EReal.coe_one, sub_self]
  unfold lq
  split_ifs <;> first | rfl | omega

theorem xq_out (h : Fin 8) (r : Fin 4096) (x : Fin 128) (hx : 70 ≤ x.val) : XQ m c (ix3 h r x) = 0 := by
  simp only [XQ, V, hostOps0, hostOps0_1, hostOps0_2, hostOps0_3, hostOps0_4, hostOps0_5, hostOps0_6, List.flatten_cons, List.flatten_nil, List.append_nil, List.cons_append, List.nil_append,
    StableHlo.TRef.binary, StableHlo.TRef.unary, StableHlo.TRef.toBuf, StableHlo.TRef.ofBuf, cast_eq]
  after_results_simp
  refine (trunc_at _ _).trans ?_
  refine (pad_apply_of_not_inside _ _ _ _ _ _ _ _ 2 fun hh => ?_).trans ?_
  · have h2 : (x.val - 0) / (0 + 1) < 70 := hh.2.2
    simp at h2
    omega
  show (((((0#32 : BitVec 32).toInt : ℤ) : ℝ)) : EReal) = 0
  simp

theorem xk_in (h : Fin 8) (r : Fin 4096) (u : Fin 64 → ℝ) (f : ℝ) (hu : ∀ l, aK m c (ix3 h r l) = (u l : EReal)) (hf : aF m c (ix2 h r) = (f : EReal))
    (x : Fin 128) (hx : x.val < 73) : XK m c (ix3 h r x) = ((lk u f x : ℝ) : EReal) := by
  simp only [XK, V, hostOps0, hostOps0_1, hostOps0_2, hostOps0_3, hostOps0_4, hostOps0_5, hostOps0_6, List.flatten_cons, List.flatten_nil, List.append_nil, List.cons_append, List.nil_append,
    StableHlo.TRef.binary, StableHlo.TRef.unary, StableHlo.TRef.toBuf, StableHlo.TRef.ofBuf, cast_eq]
  after_results_simp
  refine (trunc_at _ _).trans ?_
  refine (pad_apply_of_inside _ _ _ _ _ _ _ _ (ix3 h r ⟨x.val, hx⟩) fun a => ?_).trans ?_
  · match a with
    | ⟨0, _⟩ => simp
    | ⟨1, _⟩ => simp
    | ⟨2, _⟩ => simp
  refine (cat_k _ _ _ _ _ _ _ _ _ _ h r _).trans ?_
  dsimp only [Matrix.cons_val]
  after_results_simp
  pointwise
  have hu' : ∀ l, m (c, Proc.tc.devRef main_arg1) (ix3 h r l) = (u l : EReal) := hu
  have hf' : m (c, Proc.tc.devRef main_arg3) (ix2 h r) = (f : EReal) := hf
  simp only [hu', hf', ← EReal.coe_sub, ← EReal.coe_neg, ← EReal.coe_one, sub_self, neg_zero]
  unfold lk
  split_ifs <;> first | rfl | omega

theorem xk_out (h : Fin 8) (r : Fin 4096) (x : Fin 128) (hx : 73 ≤ x.val) : XK m c (ix3 h r x) = 0 := by
  simp only [XK, V, hostOps0, hostOps0_1, hostOps0_2, hostOps0_3, hostOps0_4, hostOps0_5, hostOps0_6, List.flatten_cons, List.flatten_nil, List.append_nil, List.cons_append, List.nil_append,
    StableHlo.TRef.binary, StableHlo.TRef.unary, StableHlo.TRef.toBuf, StableHlo.TRef.ofBuf, cast_eq]
  after_results_simp
  refine (trunc_at _ _).trans ?_
  refine (pad_apply_of_not_inside _ _ _ _ _ _ _ _ 2 fun hh => ?_).trans ?_
  · have h2 : (x.val - 0) / (0 + 1) < 73 := hh.2.2
    simp at h2
    omega
  show (((((0#32 : BitVec 32).toInt : ℤ) : ℝ)) : EReal) = 0
  simp

theorem xq_at (h : Fin 8) (r : Fin 4096) (u : Fin 64 → ℝ) (f : ℝ) (hu : ∀ l, aQ m c (ix3 h r l) = (u l : EReal)) (hf : aF m c (ix2 h r) = (f : EReal))
    (x : Fin 128) : XQ m c (ix3 h r x) = ((lq u f x : ℝ) : EReal) := by
  by_cases hx : x.val < 70
  · exact xq_in m c h r u f hu hf x hx
  · rw [xq_out m c h r x (by omega), ← EReal.coe_zero, EReal.coe_eq_coe_iff]
    unfold lq
    split_ifs <;> first | rfl | omega

theorem xk_at (h : Fin 8) (r : Fin 4096) (u : Fin 64 → ℝ) (f : ℝ) (hu : ∀ l, aK m c (ix3 h r l) = (u l : EReal)) (hf : aF m c (ix2 h r) = (f : EReal))
    (x : Fin 128) : XK m c (ix3 h r x) = ((lk u f x : ℝ) : EReal) := by
  by_cases hx : x.val < 73
  · exact xk_in m c h r u f hu hf x hx
  · rw [xk_out m c h r x (by omega), ← EReal.coe_zero, EReal.coe_eq_coe_iff]
    unfold lk
    split_ifs <;> first | rfl | omega

theorem coe_fsum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- The lanes' products add up to the logit. -/
theorem logit_at (h : Fin 8) (r j : Fin 4096) (u v : Fin 64 → ℝ) (f g : ℝ) (hu : ∀ l, aQ m c (ix3 h r l) = (u l : EReal)) (hv : ∀ l, aK m c (ix3 h j l) = (v l : EReal))
    (hf : aF m c (ix2 h r) = (f : EReal)) (hg : aF m c (ix2 h j) = (g : EReal)) :
    ∑ x : Fin 128, XQ m c (ix3 h r x) * XK m c (ix3 h j x) = (((∑ l : Fin 64, u l * v l) * 8⁻¹ + f - g : ℝ) : EReal) := by
  rw [← lane_sum, coe_fsum]
  refine Finset.sum_congr rfl fun x _ => ?_
  rw [xq_at m c h r u f hu hf, xk_at m c h j v g hv hg, ← EReal.coe_mul]

end Cert.Mix.Fox

end
-- ==== Proof.Mix.FoxBlk.lean ====
module

public import proofs.«01_k».proof.Proof.Mix.FoxLoop
public import proofs.«01_k».proof.Proof.Mix.FoxIn

@[expose] public section

noncomputable section

namespace Cert.Mix.Fox

open Idealize.ShloMosaic Idealize.ShloMosaic.TcCoe Idealize.SL.Sem
open Cert.Kernel12Ideal Cert.Kernel12Ideal.Gen Cert.Mix.Soft

/-! ## The blocks of a grid point -/

variable (m : (ℓ : Loc nD τ sig) → Buf (Elt Ideal) ℓ) (c : Dev nD)

/-- The head of a grid point. -/
def hd (t : Fin cfg0.N) : Fin 8 := ⟨t.val / 4, by have h : t.val < 32 := t.isLt; omega⟩

/-- The row a grid point's local row is. -/
def rw (t : Fin cfg0.N) (p : Fin 1024) : Fin 4096 := ⟨1024 * (t.val % 4) + p.val, by have := p.isLt; omega⟩

theorem ix_0 : ∀ t : Fin cfg0.N, win0_0.index t = ![t.val / 4, t.val % 4, 0] := (by decide +kernel : ∀ t : Fin grid0.N, _)
theorem ix_1 : ∀ t : Fin cfg0.N, win0_1.index t = ![t.val / 4, 0, 0] := (by decide +kernel : ∀ t : Fin grid0.N, _)
theorem ix_2 : ∀ t : Fin cfg0.N, win0_2.index t = ![t.val / 4, 0, 0] := (by decide +kernel : ∀ t : Fin grid0.N, _)
theorem ix_3 : ∀ t : Fin cfg0.N, win0_3.index t = ![t.val / 4, t.val % 4, 0] := (by decide +kernel : ∀ t : Fin grid0.N, _)

abbrev B0 (t : Fin cfg0.N) : Vec Ideal S1x1024x128 .bf16 := iblk m c 0 t
abbrev B1 (t : Fin cfg0.N) : Vec Ideal S1x4096x128 .bf16 := iblk m c 1 t
abbrev B2 (t : Fin cfg0.N) : Vec Ideal S1x4096x128 .bf16 := iblk m c 2 t

theorem b_0 (t : Fin cfg0.N) (p : Fin 1024) (q : Fin 128) : B0 m c t (ix3 0 p q) = XQ m c (ix3 (hd t) (rw t p) q) := by
  blk_ext! [iblk, ix_0 t, hd, rw]

theorem b_1 (t : Fin cfg0.N) (p : Fin 4096) (q : Fin 128) : B1 m c t (ix3 0 p q) = XK m c (ix3 (hd t) p q) := by
  blk_ext! [iblk, ix_1 t, hd]

theorem b_2 (t : Fin cfg0.N) (p : Fin 4096) (q : Fin 128) : B2 m c t (ix3 0 p q) = XV m c (ix3 (hd t) p q) := by
  blk_ext! [iblk, ix_2 t, hd]

theorem emb_3 (t : Fin cfg0.N) (y : S1x1024x128.Idx) : (win0_3.blk t).view.emb y = ix3 (hd t) (rw t (y 1)) (y 2) := by
  blk_ext [ix_3 t, hd, rw]

theorem outs_3 (t : Fin cfg0.N) (p : Fin 1024) (q : Fin 128) (s : ℕ → ℝ) (w : ℕ → EReal)
    (hs : ∀ j : Fin 4096, ∑ l : Fin 128, XQ m c (ix3 (hd t) (rw t p) l) * XK m c (ix3 (hd t) j l) = (s j.val : EReal))
    (hw : ∀ j : Fin 4096, XV m c (ix3 (hd t) j q) = w j.val) :
    (outsAt0 m c t).1 (ix3 0 p q) = Ideal.div (acc (rw t p).val s w 4096) (acc (rw t p).val s (fun _ => 1) 4096) := by
  unfold outsAt0
  dsimp only
  have h1 : ∀ j : Fin 4096, B2 m c t (ix3 0 j one) = 1 := by
    intro j
    rw [b_2, xv_in m c _ _ one (by decide)]
    rfl
  have h2 : ∀ j : Fin 4096, B2 m c t (ix3 0 j q) = w j.val := by
    intro j
    rw [b_2]
    exact hw j
  have h0 : ∀ j : Fin 4096, ∑ l : Fin 128, B0 m c t (ix3 0 p l) * B1 m c t (ix3 0 j l) = (s j.val : EReal) := by
    intro j
    simp only [b_0, b_1]
    exact hs j
  have key := fun a b d e g => out_3 c t (ms0_0 t) a (ms0_1 t) b (ms0_2 t) d (ms0_3 t) e (ms0_4 t) g (B0 m c t) (B1 m c t) (B2 m c t) p s w q h0 h1 h2
  exact key _ _ _ _ _

end Cert.Mix.Fox

end
-- ==== Proof.Mix.FoxRef.lean ====
module

public import proofs.«01_k».proof.Proof.Mix.Soft
public import proofs.«01_k».proof.Proof.Mix.Idx
public import proofs.«01_k».proof.Proof.Gen.Reference12Ideal.Read
public import Idealize.ShloMosaic.Lib.KernelVsHost

@[expose] public section

noncomputable section

namespace Cert.Mix.FoxRef

open Idealize.ShloMosaic Idealize.ShloMosaic.TcCoe Idealize.SL.Sem
open Cert.Reference12Ideal Cert.Reference12Ideal.Gen Cert.Reference12Ideal.Read Cert.Mix.Soft

attribute [local instance] Cert.Reference12Ideal.Gen.facts

theorem low_bits : Ideal.ofBits .f32 0xFF800000#32 = ⊥ := by
  simp [Ideal.ofBits, Ideal.ieee]

theorem eighth : Ideal.ofBits .f32 0x3E000000#32 = ((8⁻¹ : ℝ) : EReal) := by
  simp [Ideal.ofBits, Ideal.ieee]
  rw [← EReal.coe_mul, EReal.coe_eq_coe_iff]
  norm_num

theorem sel_sle (a b : Fin 4096) (x y : EReal) :
    Scalar.select (IntOp.cmpi CmpIPredicate.sle (BitVec.ofNat 32 a.val) (BitVec.ofNat 32 b.val)) x y = if a.val ≤ b.val then x else y := by
  have ha := a.isLt
  have hb := b.isLt
  have e : (BitVec.ofNat 32 a.val).sle (BitVec.ofNat 32 b.val) = decide (a.val ≤ b.val) := by
    rw [BitVec.sle_eq_decide, BitVec.toInt_eq_toNat_of_lt (by simp; omega), BitVec.toInt_eq_toNat_of_lt (by simp; omega)]
    simp
    omega
  show Scalar.select (BitVec.ofBool ((BitVec.ofNat 32 a.val).sle (BitVec.ofNat 32 b.val))) x y = _
  rw [e]
  by_cases h : a.val ≤ b.val <;> simp [h, Scalar.select]

theorem real_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem fold_sup (f : ℕ → EReal) (n : ℕ) : Finset.fold max ⊥ (fun x : Fin n => f x.val) Finset.univ = (Finset.range n).sup f := by
  have e : Finset.fold max ⊥ (fun x : Fin n => f x.val) Finset.univ = Finset.univ.sup fun x : Fin n => f x.val := rfl
  rw [e]
  refine le_antisymm (Finset.sup_le fun x _ => Finset.le_sup (f := f) (Finset.mem_range.2 x.isLt)) (Finset.sup_le fun j hj => ?_)
  exact Finset.le_sup (f := fun x : Fin n => f x.val) (Finset.mem_univ (⟨j, Finset.mem_range.1 hj⟩ : Fin n))

/-- A row's logits, numbered by the column. -/
def sc (uq uk : Fin 8 → Fin 4096 → Fin 64 → ℝ) (f : Fin 8 → Fin 4096 → ℝ) (h : Fin 8) (r : Fin 4096) (j : ℕ) : ℝ :=
  if hj : j < 4096 then (∑ l : Fin 64, uq h r l * uk h ⟨j, hj⟩ l) * 8⁻¹ + f h r - f h ⟨j, hj⟩ else 0

/-- A lane of the values, numbered by the row. -/
def vw (W : Vec Ideal S8x4096x64 .f32) (h : Fin 8) (q : Fin 64) (j : ℕ) : EReal := if hj : j < 4096 then W (ix3 h ⟨j, hj⟩ q) else 0

variable (Q K W : Vec Ideal S8x4096x64 .f32) (G : Vec Ideal S8x4096 .f32)
  (uq uk : Fin 8 → Fin 4096 → Fin 64 → ℝ) (f : Fin 8 → Fin 4096 → ℝ)
  (hQ : ∀ h r l, Q (ix3 h r l) = (uq h r l : EReal)) (hK : ∀ h r l, K (ix3 h r l) = (uk h r l : EReal))
  (hG : ∀ h r, G (ix2 h r) = (f h r : EReal))

include hQ hK hG

theorem v8_at (h : Fin 8) (r j : Fin 4096) : val_main_v8 (F := Ideal) Q K G (ix3 h r j) = (sc uq uk f h r j.val : EReal) := by
  rw [val_main_v8_apply, val_main_v5_apply, val_main_v2_apply, val_main_v0_apply, val_main_v1_apply, val_main_cst_apply,
    val_main_v4_apply, val_main_v3_apply, val_main_v7_apply, val_main_v6_apply]
  show (∑ k : Fin 64, Q (lidx_main_v0 (ix3 h r j) k) * K (ridx_main_v0 (ix3 h r j) k)) * Ideal.ofBits .f32 0x3E000000#32
    + G (idx_main_v3 (idx_main_v4 (ix3 h r j))) - G (idx_main_v6 (idx_main_v7 (ix3 h r j))) = _
  have e0 : ∀ k : Fin 64, lidx_main_v0 (ix3 h r j) k = ix3 h r k := fun k => idx3 _ _ _ _ rfl rfl rfl
  have e1 : ∀ k : Fin 64, ridx_main_v0 (ix3 h r j) k = ix3 h j k := fun k => idx3 _ _ _ _ rfl rfl rfl
  have e2 : idx_main_v3 (idx_main_v4 (ix3 h r j)) = ix2 h r := idx2 _ _ _ rfl rfl
  have e3 : idx_main_v6 (idx_main_v7 (ix3 h r j)) = ix2 h j := idx2 _ _ _ rfl rfl
  simp only [e0, e1, e2, e3, hQ, hK, hG, eighth]
  rw [sc, dif_pos j.isLt, EReal.coe_sub, EReal.coe_add, EReal.coe_mul, real_sum]
  simp only [EReal.coe_mul]

theorem v15_at (h : Fin 8) (r j : Fin 4096) : val_main_v15 (F := Ideal) Q K G (ix3 h r j) = msk r.val (sc uq uk f h r) j.val := by
  rw [val_main_v15_apply, val_main_call0_v1_apply, val_main_v14_apply, val_main_v12_apply, val_main_v10_apply, val_main_v9_apply,
    val_main_v13_apply, val_main_v11_apply, val_main_v9_apply, val_main_call0_v2_apply, val_main_call0_v0_apply, val_main_cst_0_apply,
    v8_at Q K G uq uk f hQ hK hG]
  refine (sel_sle j r _ _).trans ?_
  show (if j.val ≤ r.val then (sc uq uk f h r j.val : EReal) else Ideal.ofBits .f32 0xFF800000#32) = _
  rw [low_bits]
  rfl

theorem v16_at (h : Fin 8) (r : Fin 4096) : val_main_v16 (F := Ideal) Q K G (ix2 h r) = mx r.val (sc uq uk f h r) 4096 := by
  unfold val_main_v16 val_main_cst_1
  have e := v15_at Q K G uq uk f hQ hK hG h r
  generalize val_main_v15 (F := Ideal) Q K G = y at e
  have hr : S8x4096x4096.Reduces [2] S8x4096 := by decide
  refine (congrFun (hostReduce_maximumf_eq_multiReduction (F := Ideal) (φ := .f32) y 0xFF800000#32 reducesTo_S8x4096x4096_S8x4096_d2 h_S_ hr
    (Or.inl rfl) rfl) (ix2 h r)).trans ?_
  refine (Ideal.multiReduction_maximumf_single _ _ _ _ _ _).trans ?_
  rw [mx, ← fold_sup]
  show Finset.fold max (Ideal.ofBits .f32 0xFF800000#32) _ _ = _
  rw [low_bits]
  refine congrArg (fun g : Fin 4096 → EReal => Finset.fold max ⊥ g Finset.univ) (funext fun j => ?_)
  exact (congrArg y (idx3 _ h r j rfl rfl rfl)).trans (e j)

theorem v20_at (h : Fin 8) (r j : Fin 4096) : val_main_v20 (F := Ideal) Q K G (ix3 h r j) = mx r.val (sc uq uk f h r) 4096 := by
  rw [val_main_v20_apply, val_main_v19_apply, val_main_v18_apply, val_main_v17_apply, val_main_cst_2_apply,
    idx2 (idx_main_v19 _) h r rfl rfl, v16_at Q K G uq uk f hQ hK hG]
  show max (Ideal.ofBits .f32 0xFF800000#32) _ = _
  rw [low_bits]
  exact max_eq_right bot_le

theorem v22_at (h : Fin 8) (r j : Fin 4096) : val_main_v22 (F := Ideal) Q K G (ix3 h r j)
    = Ideal.exp (msk r.val (sc uq uk f h r) j.val - mx r.val (sc uq uk f h r) 4096) := by
  rw [val_main_v22_apply, val_main_v21_apply, v15_at Q K G uq uk f hQ hK hG, v20_at Q K G uq uk f hQ hK hG]
  rfl

theorem v25_at (h : Fin 8) (r j : Fin 4096) : val_main_v25 (F := Ideal) Q K G (ix3 h r j) = den r.val (sc uq uk f h r) 4096 := by
  rw [val_main_v25_apply, val_main_v24_apply, val_main_v23_apply, val_main_cst_3_apply]
  show Ideal.ofBits .f32 0x00000000#32 + _ = _
  rw [zero_bits, zero_add, den, Finset.sum_range]
  refine Finset.sum_congr rfl fun k _ => ?_
  rw [← v22_at Q K G uq uk f hQ hK hG]
  exact congrArg _ (idx3 _ _ _ _ rfl rfl rfl)

theorem v27_at (h : Fin 8) (r : Fin 4096) (q : Fin 64) : val_main_v27 (F := Ideal) Q K W G (ix3 h r q)
    = Ideal.div (acc r.val (sc uq uk f h r) (vw W h q) 4096) (acc r.val (sc uq uk f h r) (fun _ => 1) 4096) := by
  rw [mean_eq _ _ _ (by omega), val_main_v27_apply, Finset.sum_range]
  refine Finset.sum_congr rfl fun k _ => ?_
  rw [val_main_v26_apply, idx3 (lidx_main_v27 _ k) h r k rfl rfl rfl, idx3 (ridx_main_v27 _ k) h k q rfl rfl rfl,
    v22_at Q K G uq uk f hQ hK hG, v25_at Q K G uq uk f hQ hK hG, vw, dif_pos k.isLt]
  rfl

omit hQ hK hG in
theorem v31_at (h : Fin 8) (r : Fin 4096) (x : Fin 128) : val_main_v31 (F := Ideal) Q K W G (ix3 h r x)
    = if hx : x.val < 64 then val_main_v27 (F := Ideal) Q K W G (ix3 h r ⟨x.val, hx⟩) else if x.val - 64 < 3 then 1 else 0 := by
  rw [val_main_v31_apply]
  show val_main_v30 (F := Ideal) Q K W G (ix3 h r x) = _
  unfold val_main_v30
  generalize val_main_v27 (F := Ideal) Q K W G = y
  pointwise [val_main_v28, val_main_v29, val_main_cst_4, val_main_cst_5]
  rfl

end Cert.Mix.FoxRef

end
-- ==== Proof.Mix.Fox.lean ====
module

public import proofs.«01_k».proof.Proof.Mix.FoxBlk
public import proofs.«01_k».proof.Proof.Mix.FoxRef
public import proofs.«01_k».proof.Proof.Norm.Alg
public import proofs.«01_k».proof.Proof.Gen.Pre_finite12
public import proofs.«01_k».proof.Defs

@[expose] public section

noncomputable section

namespace Cert.Mix.Fox

open Idealize.ShloMosaic Idealize.ShloMosaic.TcCoe Idealize.SL.Sem
open Cert.Kernel12Ideal Cert.Kernel12Ideal.Gen Cert.Mix.Soft
open Cert.Mix.FoxRef (sc vw)
open Cert.Norm (real_of_all)

attribute [local instance] Cert.Kernel12Ideal.Gen.facts Cert.Reference12Ideal.Gen.facts Cert.Pre_finite12.Gen.facts

variable (m : (ℓ : Loc nD τ sig) → Buf (Elt Ideal) ℓ) (c : Dev nD)

/-! ## The array the launch leaves -/

/-- The reference's value of the arguments. -/
def rO : Vec Ideal S8x4096x128 .bf16 :=
  Cert.Reference12Ideal.Read.val_main_v31 (F := Ideal) (aQ m c) (aK m c) (aV m c) (aF m c)

/-- A lane of the augmented values, numbered by the row. -/
def wl (W : Vec Ideal S8x4096x64 .f32) (h : Fin 8) (x : Fin 128) : ℕ → EReal :=
  if hx : x.val < 64 then vw W h ⟨x.val, hx⟩ else if x.val - 64 < 3 then fun _ => 1 else fun _ => 0

section Real

variable (uq uk : Fin 8 → Fin 4096 → Fin 64 → ℝ) (f : Fin 8 → Fin 4096 → ℝ)
  (hQ : ∀ h r l, aQ m c (ix3 h r l) = (uq h r l : EReal)) (hK : ∀ h r l, aK m c (ix3 h r l) = (uk h r l : EReal))
  (hF : ∀ h r, aF m c (ix2 h r) = (f h r : EReal))

theorem xv_at (h : Fin 8) (j : Fin 4096) (x : Fin 128) : XV m c (ix3 h j x) = wl (aV m c) h x j.val := by
  unfold wl
  by_cases hx : x.val < 64
  · rw [xv_in m c h j x (by omega), dif_pos hx, dif_pos hx, vw, dif_pos j.isLt]
  · rw [dif_neg hx]
    by_cases h3 : x.val - 64 < 3
    · rw [xv_in m c h j x (by omega), dif_neg hx, if_pos h3]
    · rw [xv_out m c h j x (by omega), if_neg h3]

include hQ hK hF in
theorem s_at (h : Fin 8) (r j : Fin 4096) :
    ∑ l : Fin 128, XQ m c (ix3 h r l) * XK m c (ix3 h j l) = (sc uq uk f h r j.val : EReal) := by
  rw [logit_at m c h r j (uq h r) (uk h j) (f h r) (f h j) (hQ h r) (hK h j) (hF h r) (hF h j), sc, dif_pos j.isLt]

include hQ hK hF in
theorem rO_at (h : Fin 8) (r : Fin 4096) (x : Fin 128) : rO m c (ix3 h r x)
    = Ideal.div (acc r.val (sc uq uk f h r) (wl (aV m c) h x) 4096) (acc r.val (sc uq uk f h r) (fun _ => 1) 4096) := by
  refine (Cert.Mix.FoxRef.v31_at (aQ m c) (aK m c) (aV m c) (aF m c) h r x).trans ?_
  unfold wl
  by_cases hx : x.val < 64
  · rw [dif_pos hx, dif_pos hx]
    exact Cert.Mix.FoxRef.v27_at (aQ m c) (aK m c) (aV m c) (aF m c) uq uk f hQ hK hF h r ⟨x.val, hx⟩
  · rw [dif_neg hx, dif_neg hx]
    by_cases h3 : x.val - 64 < 3
    · rw [if_pos h3, if_pos h3, mean_one _ _ (by omega)]
    · rw [if_neg h3, if_neg h3, mean_zero _ _ (by omega)]

include hQ hK hF in
theorem final_3 : (dats m 0 c).arrAt 3 cfg0.N = rO m c := by
  refine (dats m 0 c).arrAt_eq_of_covers 3 _ (by decide +kernel) fun t hf y => ?_
  blk_simp
  rw [after0_3, emb_3]
  refine Eq.trans ?_ (rO_at m c uq uk f hQ hK hF (hd t) (rw t (y 1)) (y 2)).symm
  have e : y = ix3 (0 : Fin 1) (y 1) (y 2) := idx3 _ _ _ _ (Nat.lt_one_iff.mp (y 0).isLt) rfl rfl
  refine (congrArg (outsAt0 m c t).1 e).trans ?_
  exact outs_3 m c t (y 1) (y 2) _ _ (s_at m c uq uk f hQ hK hF (hd t) (rw t (y 1))) (xv_at m c (hd t) · (y 2))

end Real

/-! ## The precondition read back -/

theorem finite_real (x0 x1 x2 : Vec Ideal S8x4096x64 .f32) (x3 : Vec Ideal S8x4096 .f32)
    (e : Cert.Pre_finite12.fn (F := Ideal) x0 x1 x2 x3 = fun _ => 1#1) :
    (∀ i, ∃ a : ℝ, x0 i = a) ∧ (∀ i, ∃ a : ℝ, x1 i = a) ∧ ∀ i, ∃ a : ℝ, x3 i = a := by
  have e0 := congrFun e (fun a => a.elim0)
  obtain ⟨e1, h3⟩ := IntOp.andi_eq_one.1 e0
  obtain ⟨h0, h1⟩ := IntOp.andi_eq_one.1 e1
  exact ⟨real_of_all x0 _ _ _ h0, real_of_all x1 _ _ _ h1, real_of_all x3 _ _ _ h3⟩

theorem final_pre (h : Cert.Pre_finite12.fn (F := Ideal) (aQ m c) (aK m c) (aV m c) (aF m c) = fun _ => 1#1) :
    (dats m 0 c).arrAt 3 cfg0.N = rO m c := by
  obtain ⟨kQ, kK, kF⟩ := finite_real _ _ _ _ h
  choose gQ hQ using kQ
  choose gK hK using kK
  choose gF hF using kF
  exact final_3 m c (fun h r l => gQ (ix3 h r l)) (fun h r l => gK (ix3 h r l)) (fun h r => gF (ix2 h r))
    (fun h r l => hQ _) (fun h r l => hK _) (fun h r => hF _)

/-! ## The claim -/

open Cert.Reference12Ideal.Read in
theorem algebraic : Cert.algebraic_Kernel12Ideal_Reference12Ideal_pre_finite12 := by
  intro m g m' g' hpre hagree
  refine ⟨rO m, (θ_run defs _ _).mono (fun r h c => ⟨(h c).1.trans (final_pre m c (hpre c)), (h c).2.2⟩)
    (Cert.Kernel12Ideal.Value.run_blocks m g), ?_⟩
  refine (θ_run Cert.Reference12Ideal.defs _ _).mono (fun r h c => ?_) (Cert.Reference12Ideal.Value.run m' g')
  obtain ⟨e0, e1, e2, e3⟩ := hagree c
  obtain ⟨h0, hk⟩ := h c
  refine ⟨h0.trans ((val_main_v31_eq m' c).trans ?_), hk⟩
  rw [e0, e1, e2, e3]
  rfl

end Cert.Mix.Fox

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Quiescent
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Ffn.Alg
public import proofs.«01_k».proof.Proof.Norm.Alg
public import proofs.«01_k».proof.Proof.Fwd.Ref
public import proofs.«01_k».proof.Proof.Mix.NormIn
public import proofs.«01_k».proof.Proof.Mix.Tn
public import proofs.«01_k».proof.Proof.Mix.Proj
public import proofs.«01_k».proof.Proof.Mix.Out
public import proofs.«01_k».proof.Proof.Mix.Conv
public import proofs.«01_k».proof.Proof.Mix.Scan
public import proofs.«01_k».proof.Proof.Mix.Nt
public import proofs.«01_k».proof.Proof.Mix.TnOut
public import proofs.«01_k».proof.Proof.Mix.Fox

@[expose] public section

noncomputable section

namespace Cert.Proof

open Idealize.ShloMosaic Idealize.SL.Sem

attribute [local instance] Cert.ReferenceIdeal.Gen.facts Cert.Reference2Ideal.Gen.facts Cert.Reference3Ideal.Gen.facts Cert.Reference4Ideal.Gen.facts Cert.Reference5Ideal.Gen.facts Cert.Reference6Ideal.Gen.facts Cert.Reference7Ideal.Gen.facts Cert.Reference8Ideal.Gen.facts Cert.Reference9Ideal.Gen.facts Cert.Reference10Ideal.Gen.facts Cert.Reference11Ideal.Gen.facts Cert.Reference12Ideal.Gen.facts

theorem reference_frame : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run m ρ)

theorem reference2_frame : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

theorem reference4_frame : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run m ρ)

theorem reference3_frame : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

theorem reference5_frame : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

theorem reference6_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem reference7_frame : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

theorem reference8_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem reference9_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem reference10_frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem reference11_frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem reference12_frame : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Pre_finite.Gen.facts, Cert.Pre_finite2.Gen.facts, Cert.Pre_finite5.Gen.facts, Cert.Pre_finite12.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, fun m ρ _ => Cert.Kernel2Ideal.Gen.frame m ρ,
    reference2_frame, fun m ρ _ => reference2_frame m ρ trivial,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, fun m ρ _ => Cert.Kernel5Ideal.Gen.frame m ρ,
    reference5_frame, fun m ρ _ => reference5_frame m ρ trivial,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    fun m ρ _ => Cert.Kernel10.Gen.frame m ρ, fun m ρ _ => Cert.Kernel10Ideal.Gen.frame m ρ, reference10_frame,
    fun m ρ _ => Cert.Kernel11.Gen.frame m ρ, fun m ρ _ => Cert.Kernel11Ideal.Gen.frame m ρ, reference11_frame,
    fun m ρ _ => Cert.Kernel12.Gen.frame m ρ, fun m ρ _ => Cert.Kernel12Ideal.Gen.frame m ρ, fun m ρ _ => Cert.Kernel12Ideal.Gen.frame m ρ,
    reference12_frame, fun m ρ _ => reference12_frame m ρ trivial,
    trivial, Cert.Ffn.algebraic, trivial, Cert.Norm.algebraic, trivial, Cert.Mix.Scan.algebraic, trivial, Cert.Fwd.algebraic, trivial, Cert.Mix.NormIn.algebraic, trivial, Cert.Mix.Tn.algebraic, trivial, Cert.Mix.Proj.algebraic, trivial, Cert.Mix.Conv.algebraic, trivial, Cert.Mix.Out.algebraic, trivial, Cert.Mix.Nt.algebraic, trivial, Cert.Mix.TnOut.algebraic,
    IdealRules.named_const.statement Cert.Kernel12Ideal.κ "mask" .f32 0xF149F2CA#32 ⊥ rfl, Cert.Mix.Fox.algebraic⟩

end Cert.Proof

end
